-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "scale2" .f32 0x3E16C740#32 (((Real.log 2)⁻¹ * (Real.sqrt 96)⁻¹ : ℝ) : EReal)

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v80) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14))

def preserves_Kernel4_Kernel4Ideal : Prop :=
  IdealRules.named_const.Statement Cert.Kernel4Ideal.κ "inv384" .f32 0x3B2AAAAB#32 ((384⁻¹ : ℝ) : EReal)
  ∧ IdealRules.named_const.Statement Cert.Kernel4Ideal.κ "inv96" .f32 0x3C2AAAAB#32 ((96⁻¹ : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)) (v4 : (c : Dev Cert.Kernel4Ideal.nD) → Buf (Elt Ideal) ((c.tc : Thread Cert.Kernel4Ideal.nD Cert.Kernel4Ideal.τ).loc Cert.Kernel4Ideal.main_v0_4)) (v5 : (c : Dev Cert.Kernel4Ideal.nD) → Buf (Elt Ideal) ((c.tc : Thread Cert.Kernel4Ideal.nD Cert.Kernel4Ideal.τ).loc Cert.Kernel4Ideal.main_v0_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_v0_4) = v4 c
          ∧ r.2.mem ((c.tc : Thread Cert.Kernel4Ideal.nD Cert.Kernel4Ideal.τ).loc Cert.Kernel4Ideal.main_v0_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v93) = v0 c
          ∧ r.2.mem ((c.tc : Thread Cert.Reference4Ideal.nD Cert.Reference4Ideal.τ).loc Cert.Reference4Ideal.main_v124) = v1 c
          ∧ r.2.mem ((c.tc : Thread Cert.Reference4Ideal.nD Cert.Reference4Ideal.τ).loc Cert.Reference4Ideal.main_v127) = v2 c
          ∧ r.2.mem ((c.tc : Thread Cert.Reference4Ideal.nD Cert.Reference4Ideal.τ).loc Cert.Reference4Ideal.main_v132) = v3 c
          ∧ r.2.mem ((c.tc : Thread Cert.Reference4Ideal.nD Cert.Reference4Ideal.τ).loc Cert.Reference4Ideal.main_v133) = v4 c
          ∧ r.2.mem ((c.tc : Thread Cert.Reference4Ideal.nD Cert.Reference4Ideal.τ).loc Cert.Reference4Ideal.main_v136) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_qk.lean ====
abbrev S8x8x1024x512 : Shape := ⟨4, ![8, 8, 1024, 512]⟩
abbrev S8x4096x1024 : Shape := ⟨3, ![8, 4096, 1024]⟩
abbrev S8x8x512x512 : Shape := ⟨4, ![8, 8, 512, 512]⟩
abbrev S_ : Shape := ⟨0, ![]⟩

class Facts : Prop where
  bcast_S_S8x8x1024x512 : S_.BroadcastsInDim S8x8x1024x512 (![] : Fin 0 → Fin S8x8x1024x512.rank)
  bcast_S_S8x4096x1024 : S_.BroadcastsInDim S8x4096x1024 (![] : Fin 0 → Fin S8x4096x1024.rank)

variable [Facts]

def fn {F : FTy → Type} [FloatOps F] (main_arg0 : FVec F S8x8x1024x512 .bf16) (main_arg1 : FVec F S8x4096x1024 .bf16) (main_arg2 : FVec F S8x8x512x512 .bf16) : IVec S8x8x1024x512 1 × IVec S8x4096x1024 1 :=
  let main_v0 : FVec F S8x8x1024x512 .bf16 := Host.absf main_arg0
  let main_cst : FVec F S_ .bf16 := constant S_ .bf16 0x7F80#16
  let main_v1 : FVec F S8x8x1024x512 .bf16 := broadcastInDim S8x8x1024x512 ![] bcast_S_S8x8x1024x512 main_cst
  let main_v2 : IVec S8x8x1024x512 1 := cmpf .olt main_v0 main_v1
  let main_v3 : FVec F S8x4096x1024 .bf16 := Host.absf main_arg1
  let main_cst_0 : FVec F S_ .bf16 := constant S_ .bf16 0x7F80#16
  let main_v4 : FVec F S8x4096x1024 .bf16 := broadcastInDim S8x4096x1024 ![] bcast_S_S8x4096x1024 main_cst_0
  let main_v5 : IVec S8x4096x1024 1 := cmpf .olt main_v3 main_v4
  (main_v2, main_v5)
-- ==== Kernel.lean ====
abbrev S8x8x1024x512 : Shape := ⟨4, ![8, 8, 1024, 512]⟩
abbrev S8x4096x1024 : Shape := ⟨3, ![8, 4096, 1024]⟩
abbrev S8x8x512x512 : Shape := ⟨4, ![8, 8, 512, 512]⟩
abbrev S8x4096x512 : Shape := ⟨3, ![8, 4096, 512]⟩
abbrev S1x8x256x512 : Shape := ⟨4, ![1, 8, 256, 512]⟩
abbrev S1x4096x256 : Shape := ⟨3, ![1, 4096, 256]⟩
abbrev S1x8x128x512 : Shape := ⟨4, ![1, 8, 128, 512]⟩
abbrev S1x4096x128 : Shape := ⟨3, ![1, 4096, 128]⟩
abbrev S2x2x512x512 : Shape := ⟨4, ![2, 2, 512, 512]⟩
abbrev S2x512x512 : Shape := ⟨3, ![2, 512, 512]⟩
abbrev S512x512 : Shape := ⟨2, ![512, 512]⟩
abbrev S1x512x512 : Shape := ⟨3, ![1, 512, 512]⟩
abbrev S1x2x512x512 : Shape := ⟨4, ![1, 2, 512, 512]⟩
abbrev S1x512x128 : Shape := ⟨3, ![1, 512, 128]⟩
abbrev S512x128 : Shape := ⟨2, ![512, 128]⟩
abbrev S1x1x128x512 : Shape := ⟨4, ![1, 1, 128, 512]⟩
abbrev S128x512 : Shape := ⟨2, ![128, 512]⟩
abbrev S1x1x512x512 : Shape := ⟨4, ![1, 1, 512, 512]⟩
abbrev S512 : Shape := ⟨1, ![512]⟩
abbrev S1x512 : Shape := ⟨2, ![1, 512]⟩
abbrev S64x512 : Shape := ⟨2, ![64, 512]⟩
abbrev S1x1x64x512 : Shape := ⟨4, ![1, 1, 64, 512]⟩

abbrev nBuf : Space → Nat
  | .hbm => 4
  | .vmem => 11
  | .smem => 0
  | _ => 0

abbrev bufTy : (tb : Table) → Fin (tcTables nBuf tb) → BufTy
  | .hbm, ⟨0, _⟩ => ⟨S8x8x1024x512, .bf16⟩
  | .hbm, ⟨1, _⟩ => ⟨S8x4096x1024, .bf16⟩
  | .hbm, ⟨2, _⟩ => ⟨S8x8x512x512, .bf16⟩
  | .hbm, ⟨3, _⟩ => ⟨S8x4096x512, .bf16⟩
  | .local _ .vmem, ⟨0, _⟩ => ⟨S1x8x256x512, .bf16⟩
  | .local _ .vmem, ⟨1, _⟩ => ⟨S1x8x256x512, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x8x128x512, .bf16⟩
  | .local _ .vmem, ⟨5, _⟩ => ⟨S1x8x128x512, .bf16⟩
  | .local _ .vmem, ⟨6, _⟩ => ⟨S1x4096x128, .bf16⟩
  | .local _ .vmem, ⟨7, _⟩ => ⟨S1x4096x128, .bf16⟩
  | .local _ .vmem, ⟨8, _⟩ => ⟨S2x2x512x512, .f32⟩
  | .local _ .vmem, ⟨9, _⟩ => ⟨S2x2x512x512, .bf16⟩
  | .local _ .vmem, ⟨10, _⟩ => ⟨S2x512x512, .f32⟩
  | _, _ => ⟨S8x8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_mult1 : BitVec 32 :=
  let c0_i32 : BitVec 32 := 0#32
  let c512_i32 : BitVec 32 := 512#32
  let v17 : BitVec 32 := Scalar.muli c0_i32 c512_i32
  v17
def k0_off1 : Fin 3 → Nat :=
  let c0_11 : Index := 0#32
  let c0_i32 : BitVec 32 := 0#32
  let c512_i32 : BitVec 32 := 512#32
  let v17 : BitVec 32 := Scalar.muli c0_i32 c512_i32
  let v18 : BitVec 32 := v17
  let v19 : Index := Scalar.indexCast v18
  let c0_12 : Index := 0#32
  ![0, v19.toNat, 0]
def k0_off2 : Fin 3 → Nat :=
  let c0_i32_18 : BitVec 32 := 0#32
  let c0_i32_19 : BitVec 32 := 0#32
  let v25 : BitVec 1 := Scalar.cmpi .eq c0_i32_18 c0_i32_19
  let v26 : BitVec 32 := Scalar.extui v25
  let v27 : Index := Scalar.indexCast v26
  let c0_20 : Index := 0#32
  let c0_21 : Index := 0#32
  ![v27.toNat, 0, 0]
def k0_off3 : Fin 3 → Nat :=
  let c0_27 : Index := 0#32
  let c0_i32 : BitVec 32 := 0#32
  let c512_i32 : BitVec 32 := 512#32
  let v17 : BitVec 32 := Scalar.muli c0_i32 c512_i32
  let v18 : BitVec 32 := v17
  let v36 : Index := Scalar.indexCast v18
  let c128 : Index := 128#32
  ![0, v36.toNat, 128]
@[reducible] def k0_t1_loop : Scf.Loop 32 :=
  let c0_i32_48 : BitVec 32 := 0#32
  let c18_i32 : BitVec 32 := 18#32
  let v57 : BitVec 32 := Scalar.addi c0_i32_48 c18_i32
  let c1_i32 : BitVec 32 := 1#32
  ⟨c0_i32_48, v57, c1_i32⟩
def k0_mult2 (arg10 : BitVec 32) (arg11 : BitVec 32) : BitVec 32 :=
  let v96 : BitVec 1 := Scalar.cmpi .eq arg11 arg10
  let c0_i32_72 : BitVec 32 := 0#32
  let c1_i32_71 : BitVec 32 := 1#32
  let v99 : BitVec 32 := Scalar.addi arg11 c1_i32_71
  let v100 : BitVec 32 := Scalar.select v96 c0_i32_72 v99
  let c512_i32_73 : BitVec 32 := 512#32
  let v102 : BitVec 32 := Scalar.muli v100 c512_i32_73
  v102
def k0_cond1 (arg10 : BitVec 32) (arg11 : BitVec 32) : BitVec 1 :=
  let v87 : BitVec 32 := Scalar.subi arg10 arg11
  let c1_i32_67 : BitVec 32 := 1#32
  let v88 : BitVec 1 := Scalar.cmpi .eq v87 c1_i32_67
  let c2_i32 : BitVec 32 := 2#32
  let v89 : BitVec 1 := Scalar.cmpi .eq v87 c2_i32
  let v90 : BitVec 1 := Scalar.ori v88 v89
  let c0_i32_68 : BitVec 32 := 0#32
  let v91 : BitVec 1 := Scalar.cmpi .eq arg10 c0_i32_68
  let v92 : BitVec 1 := Scalar.ori v90 v91
  let v93 : BitVec 32 := Scalar.extui v92
  let c0_i32_69 : BitVec 32 := 0#32
  let v94 : BitVec 1 := Scalar.cmpi .ne v93 c0_i32_69
  v94

def k0_off4 (arg10 : BitVec 32) (arg11 : BitVec 32) : Fin 3 → Nat :=
  let c0_74 : Index := 0#32
  let v96 : BitVec 1 := Scalar.cmpi .eq arg11 arg10
  let c0_i32_72 : BitVec 32 := 0#32
  let c1_i32_71 : BitVec 32 := 1#32
  let v99 : BitVec 32 := Scalar.addi arg11 c1_i32_71
  let v100 : BitVec 32 := Scalar.select v96 c0_i32_72 v99
  let c512_i32_73 : BitVec 32 := 512#32
  let v102 : BitVec 32 := Scalar.muli v100 c512_i32_73
  let v103 : BitVec 32 := v102
  let v104 : Index := Scalar.indexCast v103
  let c0_75 : Index := 0#32
  ![0, v104.toNat, 0]
def k0_off5 (arg10 : BitVec 32) (arg11 : BitVec 32) : Fin 4 → Nat :=
  let c0_76 : Index := 0#32
  let v96 : BitVec 1 := Scalar.cmpi .eq arg11 arg10
  let c1_i32_70 : BitVec 32 := 1#32
  let v97 : BitVec 32 := Scalar.addi arg10 c1_i32_70
  let v98 : BitVec 32 := Scalar.select v96 v97 arg10
  let c7_i32 : BitVec 32 := 7#32
  let v101 : BitVec 32 := Scalar.minsi v98 c7_i32
  let v107 : Index := Scalar.indexCast v101
  let c0_77 : Index := 0#32
  let c0_78 : Index := 0#32
  ![0, v107.toNat, 0, 0]
def k0_off6 (arg10 : BitVec 32) (arg11 : BitVec 32) : Fin 3 → Nat :=
  let v96 : BitVec 1 := Scalar.cmpi .eq arg11 arg10
  let c1_i32_70 : BitVec 32 := 1#32
  let v97 : BitVec 32 := Scalar.addi arg10 c1_i32_70
  let v98 : BitVec 32 := Scalar.select v96 v97 arg10
  let c7_i32 : BitVec 32 := 7#32
  let v101 : BitVec 32 := Scalar.minsi v98 c7_i32
  let c0_i32_72 : BitVec 32 := 0#32
  let c1_i32_71 : BitVec 32 := 1#32
  let v99 : BitVec 32 := Scalar.addi arg11 c1_i32_71
  let v100 : BitVec 32 := Scalar.select v96 c0_i32_72 v99
  let v111 : BitVec 1 := Scalar.cmpi .eq v101 v100
  let v112 : BitVec 32 := Scalar.extui v111
  let v113 : Index := Scalar.indexCast v112
  let c0_80 : Index := 0#32
  let c0_81 : Index := 0#32
  ![v113.toNat, 0, 0]
def k0_off7 (arg10 : BitVec 32) (arg11 : BitVec 32) : Fin 3 → Nat :=
  let c0_87 : Index := 0#32
  let v96 : BitVec 1 := Scalar.cmpi .eq arg11 arg10
  let c0_i32_72 : BitVec 32 := 0#32
  let c1_i32_71 : BitVec 32 := 1#32
  let v99 : BitVec 32 := Scalar.addi arg11 c1_i32_71
  let v100 : BitVec 32 := Scalar.select v96 c0_i32_72 v99
  let c512_i32_73 : BitVec 32 := 512#32
  let v102 : BitVec 32 := Scalar.muli v100 c512_i32_73
  let v103 : BitVec 32 := v102
  let v122 : Index := Scalar.indexCast v103
  let c128_88 : Index := 128#32
  ![0, v122.toNat, 128]
def k0_off8 (arg10 : BitVec 32) (arg11 : BitVec 32) : Fin 4 → Nat :=
  let c0_89 : Index := 0#32
  let v96 : BitVec 1 := Scalar.cmpi .eq arg11 arg10
  let c1_i32_70 : BitVec 32 := 1#32
  let v97 : BitVec 32 := Scalar.addi arg10 c1_i32_70
  let v98 : BitVec 32 := Scalar.select v96 v97 arg10
  let c7_i32 : BitVec 32 := 7#32
  let v101 : BitVec 32 := Scalar.minsi v98 c7_i32
  let v125 : Index := Scalar.indexCast v101
  let c128_90 : Index := 128#32
  let c0_91 : Index := 0#32
  ![0, v125.toNat, 128, 0]
def k0_off9 (arg10 : BitVec 32) (arg11 : BitVec 32) : Fin 4 → Nat :=
  let c0_104 : Index := 0#32
  let c0_i32_100 : BitVec 32 := 0#32
  let v140 : BitVec 1 := Scalar.cmpi .sgt arg11 c0_i32_100
  let c1_i32_101 : BitVec 32 := 1#32
  let v141 : BitVec 32 := Scalar.subi arg11 c1_i32_101
  let c1_i32_102 : BitVec 32 := 1#32
  let v142 : BitVec 32 := Scalar.subi arg10 c1_i32_102
  let v143 : BitVec 32 := Scalar.select v140 v141 v142
  let c0_i32_103 : BitVec 32 := 0#32
  let v144 : BitVec 32 := Scalar.maxsi v143 c0_i32_103
  let v147 : Index := Scalar.indexCast v144
  let c0_105 : Index := 0#32
  let c0_106 : Index := 0#32
  ![0, v147.toNat, 0, 0]
def k0_off10 (arg10 : BitVec 32) (arg11 : BitVec 32) : Fin 4 → Nat :=
  let c0_112 : Index := 0#32
  let c0_i32_100 : BitVec 32 := 0#32
  let v140 : BitVec 1 := Scalar.cmpi .sgt arg11 c0_i32_100
  let c1_i32_101 : BitVec 32 := 1#32
  let v141 : BitVec 32 := Scalar.subi arg11 c1_i32_101
  let c1_i32_102 : BitVec 32 := 1#32
  let v142 : BitVec 32 := Scalar.subi arg10 c1_i32_102
  let v143 : BitVec 32 := Scalar.select v140 v141 v142
  let c0_i32_103 : BitVec 32 := 0#32
  let v144 : BitVec 32 := Scalar.maxsi v143 c0_i32_103
  let v156 : Index := Scalar.indexCast v144
  let c64_113 : Index := 64#32
  let c0_114 : Index := 0#32
  ![0, v156.toNat, 64, 0]
def k0_mult3 (arg10 : BitVec 32) (arg11 : BitVec 32) : BitVec 32 :=
  let v96 : BitVec 1 := Scalar.cmpi .eq arg11 arg10
  let c0_i32_72 : BitVec 32 := 0#32
  let c1_i32_71 : BitVec 32 := 1#32
  let v99 : BitVec 32 := Scalar.addi arg11 c1_i32_71
  let v100 : BitVec 32 := Scalar.select v96 c0_i32_72 v99
  let c1_i32_70 : BitVec 32 := 1#32
  let v97 : BitVec 32 := Scalar.addi arg10 c1_i32_70
  let v98 : BitVec 32 := Scalar.select v96 v97 arg10
  let v221 : BitVec 1 := Scalar.cmpi .eq v100 v98
  let c0_i32_154 : BitVec 32 := 0#32
  let c1_i32_153 : BitVec 32 := 1#32
  let v224 : BitVec 32 := Scalar.addi v100 c1_i32_153
  let v225 : BitVec 32 := Scalar.select v221 c0_i32_154 v224
  let c512_i32_156 : BitVec 32 := 512#32
  let v227 : BitVec 32 := Scalar.muli v225 c512_i32_156
  v227
def k0_off11 (arg10 : BitVec 32) (arg11 : BitVec 32) : Fin 3 → Nat :=
  let c0_157 : Index := 0#32
  let v96 : BitVec 1 := Scalar.cmpi .eq arg11 arg10
  let c0_i32_72 : BitVec 32 := 0#32
  let c1_i32_71 : BitVec 32 := 1#32
  let v99 : BitVec 32 := Scalar.addi arg11 c1_i32_71
  let v100 : BitVec 32 := Scalar.select v96 c0_i32_72 v99
  let c1_i32_70 : BitVec 32 := 1#32
  let v97 : BitVec 32 := Scalar.addi arg10 c1_i32_70
  let v98 : BitVec 32 := Scalar.select v96 v97 arg10
  let v221 : BitVec 1 := Scalar.cmpi .eq v100 v98
  let c0_i32_154 : BitVec 32 := 0#32
  let c1_i32_153 : BitVec 32 := 1#32
  let v224 : BitVec 32 := Scalar.addi v100 c1_i32_153
  let v225 : BitVec 32 := Scalar.select v221 c0_i32_154 v224
  let c512_i32_156 : BitVec 32 := 512#32
  let v227 : BitVec 32 := Scalar.muli v225 c512_i32_156
  let v228 : BitVec 32 := v227
  let v229 : Index := Scalar.indexCast v228
  let c0_158 : Index := 0#32
  ![0, v229.toNat, 0]
def k0_off12 (arg10 : BitVec 32) (arg11 : BitVec 32) : Fin 4 → Nat :=
  let c0_159 : Index := 0#32
  let v96 : BitVec 1 := Scalar.cmpi .eq arg11 arg10
  let c0_i32_72 : BitVec 32 := 0#32
  let c1_i32_71 : BitVec 32 := 1#32
  let v99 : BitVec 32 := Scalar.addi arg11 c1_i32_71
  let v100 : BitVec 32 := Scalar.select v96 c0_i32_72 v99
  let c1_i32_70 : BitVec 32 := 1#32
  let v97 : BitVec 32 := Scalar.addi arg10 c1_i32_70
  let v98 : BitVec 32 := Scalar.select v96 v97 arg10
  let v221 : BitVec 1 := Scalar.cmpi .eq v100 v98
  let c1_i32_152 : BitVec 32 := 1#32
  let v222 : BitVec 32 := Scalar.addi v98 c1_i32_152
  let v223 : BitVec 32 := Scalar.select v221 v222 v98
  let c7_i32_155 : BitVec 32 := 7#32
  let v226 : BitVec 32 := Scalar.minsi v223 c7_i32_155
  let v232 : Index := Scalar.indexCast v226
  let c0_160 : Index := 0#32
  let c0_161 : Index := 0#32
  ![0, v232.toNat, 0, 0]
def k0_off13 (arg10 : BitVec 32) (arg11 : BitVec 32) : Fin 3 → Nat :=
  let v96 : BitVec 1 := Scalar.cmpi .eq arg11 arg10
  let c0_i32_72 : BitVec 32 := 0#32
  let c1_i32_71 : BitVec 32 := 1#32
  let v99 : BitVec 32 := Scalar.addi arg11 c1_i32_71
  let v100 : BitVec 32 := Scalar.select v96 c0_i32_72 v99
  let c1_i32_70 : BitVec 32 := 1#32
  let v97 : BitVec 32 := Scalar.addi arg10 c1_i32_70
  let v98 : BitVec 32 := Scalar.select v96 v97 arg10
  let v221 : BitVec 1 := Scalar.cmpi .eq v100 v98
  let c1_i32_152 : BitVec 32 := 1#32
  let v222 : BitVec 32 := Scalar.addi v98 c1_i32_152
  let v223 : BitVec 32 := Scalar.select v221 v222 v98
  let c7_i32_155 : BitVec 32 := 7#32
  let v226 : BitVec 32 := Scalar.minsi v223 c7_i32_155
  let c0_i32_154 : BitVec 32 := 0#32
  let c1_i32_153 : BitVec 32 := 1#32
  let v224 : BitVec 32 := Scalar.addi v100 c1_i32_153
  let v225 : BitVec 32 := Scalar.select v221 c0_i32_154 v224
  let v236 : BitVec 1 := Scalar.cmpi .eq v226 v225
  let v237 : BitVec 32 := Scalar.extui v236
  let v238 : Index := Scalar.indexCast v237
  let c0_163 : Index := 0#32
  let c0_164 : Index := 0#32
  ![v238.toNat, 0, 0]
def k0_off14 (arg10 : BitVec 32) (arg11 : BitVec 32) : Fin 3 → Nat :=
  let c0_170 : Index := 0#32
  let v96 : BitVec 1 := Scalar.cmpi .eq arg11 arg10
  let c0_i32_72 : BitVec 32 := 0#32
  let c1_i32_71 : BitVec 32 := 1#32
  let v99 : BitVec 32 := Scalar.addi arg11 c1_i32_71
  let v100 : BitVec 32 := Scalar.select v96 c0_i32_72 v99
  let c1_i32_70 : BitVec 32 := 1#32
  let v97 : BitVec 32 := Scalar.addi arg10 c1_i32_70
  let v98 : BitVec 32 := Scalar.select v96 v97 arg10
  let v221 : BitVec 1 := Scalar.cmpi .eq v100 v98
  let c0_i32_154 : BitVec 32 := 0#32
  let c1_i32_153 : BitVec 32 := 1#32
  let v224 : BitVec 32 := Scalar.addi v100 c1_i32_153
  let v225 : BitVec 32 := Scalar.select v221 c0_i32_154 v224
  let c512_i32_156 : BitVec 32 := 512#32
  let v227 : BitVec 32 := Scalar.muli v225 c512_i32_156
  let v228 : BitVec 32 := v227
  let v247 : Index := Scalar.indexCast v228
  let c128_171 : Index := 128#32
  ![0, v247.toNat, 128]
def k0_off15 (arg10 : BitVec 32) (arg11 : BitVec 32) : Fin 4 → Nat :=
  let c0_172 : Index := 0#32
  let v96 : BitVec 1 := Scalar.cmpi .eq arg11 arg10
  let c0_i32_72 : BitVec 32 := 0#32
  let c1_i32_71 : BitVec 32 := 1#32
  let v99 : BitVec 32 := Scalar.addi arg11 c1_i32_71
  let v100 : BitVec 32 := Scalar.select v96 c0_i32_72 v99
  let c1_i32_70 : BitVec 32 := 1#32
  let v97 : BitVec 32 := Scalar.addi arg10 c1_i32_70
  let v98 : BitVec 32 := Scalar.select v96 v97 arg10
  let v221 : BitVec 1 := Scalar.cmpi .eq v100 v98
  let c1_i32_152 : BitVec 32 := 1#32
  let v222 : BitVec 32 := Scalar.addi v98 c1_i32_152
  let v223 : BitVec 32 := Scalar.select v221 v222 v98
  let c7_i32_155 : BitVec 32 := 7#32
  let v226 : BitVec 32 := Scalar.minsi v223 c7_i32_155
  let v250 : Index := Scalar.indexCast v226
  let c128_173 : Index := 128#32
  let c0_174 : Index := 0#32
  ![0, v250.toNat, 128, 0]
def k0_off16 (arg10 : BitVec 32) (arg11 : BitVec 32) : Fin 4 → Nat :=
  let c0_187 : Index := 0#32
  let v96 : BitVec 1 := Scalar.cmpi .eq arg11 arg10
  let c0_i32_72 : BitVec 32 := 0#32
  let c1_i32_71 : BitVec 32 := 1#32
  let v99 : BitVec 32 := Scalar.addi arg11 c1_i32_71
  let v100 : BitVec 32 := Scalar.select v96 c0_i32_72 v99
  let c0_i32_183 : BitVec 32 := 0#32
  let v265 : BitVec 1 := Scalar.cmpi .sgt v100 c0_i32_183
  let c1_i32_184 : BitVec 32 := 1#32
  let v266 : BitVec 32 := Scalar.subi v100 c1_i32_184
  let c1_i32_70 : BitVec 32 := 1#32
  let v97 : BitVec 32 := Scalar.addi arg10 c1_i32_70
  let v98 : BitVec 32 := Scalar.select v96 v97 arg10
  let c1_i32_185 : BitVec 32 := 1#32
  let v267 : BitVec 32 := Scalar.subi v98 c1_i32_185
  let v268 : BitVec 32 := Scalar.select v265 v266 v267
  let c0_i32_186 : BitVec 32 := 0#32
  let v269 : BitVec 32 := Scalar.maxsi v268 c0_i32_186
  let v272 : Index := Scalar.indexCast v269
  let c0_188 : Index := 0#32
  let c0_189 : Index := 0#32
  ![0, v272.toNat, 0, 0]
def k0_off17 (arg10 : BitVec 32) (arg11 : BitVec 32) : Fin 4 → Nat :=
  let c0_195 : Index := 0#32
  let v96 : BitVec 1 := Scalar.cmpi .eq arg11 arg10
  let c0_i32_72 : BitVec 32 := 0#32
  let c1_i32_71 : BitVec 32 := 1#32
  let v99 : BitVec 32 := Scalar.addi arg11 c1_i32_71
  let v100 : BitVec 32 := Scalar.select v96 c0_i32_72 v99
  let c0_i32_183 : BitVec 32 := 0#32
  let v265 : BitVec 1 := Scalar.cmpi .sgt v100 c0_i32_183
  let c1_i32_184 : BitVec 32 := 1#32
  let v266 : BitVec 32 := Scalar.subi v100 c1_i32_184
  let c1_i32_70 : BitVec 32 := 1#32
  let v97 : BitVec 32 := Scalar.addi arg10 c1_i32_70
  let v98 : BitVec 32 := Scalar.select v96 v97 arg10
  let c1_i32_185 : BitVec 32 := 1#32
  let v267 : BitVec 32 := Scalar.subi v98 c1_i32_185
  let v268 : BitVec 32 := Scalar.select v265 v266 v267
  let c0_i32_186 : BitVec 32 := 0#32
  let v269 : BitVec 32 := Scalar.maxsi v268 c0_i32_186
  let v281 : Index := Scalar.indexCast v269
  let c64_196 : Index := 64#32
  let c0_197 : Index := 0#32
  ![0, v281.toNat, 64, 0]
def k0_mult4 (arg10 : BitVec 32) : BitVec 32 :=
  let c1_i32_122 : BitVec 32 := 1#32
  let v166 : BitVec 32 := Scalar.subi arg10 c1_i32_122
  let c0_i32_123 : BitVec 32 := 0#32
  let v167 : BitVec 32 := Scalar.maxsi v166 c0_i32_123
  let c512_i32_237 : BitVec 32 := 512#32
  let v357 : BitVec 32 := Scalar.muli v167 c512_i32_237
  v357
def k0_cond2 (arg10 : BitVec 32) (arg11 : BitVec 32) : BitVec 1 :=
  let c0_i32_120 : BitVec 32 := 0#32
  let v163 : BitVec 1 := Scalar.cmpi .eq arg11 c0_i32_120
  let c0_i32_121 : BitVec 32 := 0#32
  let v164 : BitVec 1 := Scalar.cmpi .sgt arg10 c0_i32_121
  let v165 : BitVec 1 := Scalar.andi v163 v164
  let v346 : BitVec 32 := Scalar.extui v165
  let c0_i32_235 : BitVec 32 := 0#32
  let v347 : BitVec 1 := Scalar.cmpi .ne v346 c0_i32_235
  v347

def k0_off18 (arg10 : BitVec 32) : Fin 3 → Nat :=
  let c0_238 : Index := 0#32
  let c1_i32_122 : BitVec 32 := 1#32
  let v166 : BitVec 32 := Scalar.subi arg10 c1_i32_122
  let c0_i32_123 : BitVec 32 := 0#32
  let v167 : BitVec 32 := Scalar.maxsi v166 c0_i32_123
  let c512_i32_237 : BitVec 32 := 512#32
  let v357 : BitVec 32 := Scalar.muli v167 c512_i32_237
  let v358 : BitVec 32 := v357
  let v359 : Index := Scalar.indexCast v358
  let c0_239 : Index := 0#32
  ![0, v359.toNat, 0]
def k0_mult5 (arg10 : BitVec 32) (arg11 : BitVec 32) : BitVec 32 :=
  let v96 : BitVec 1 := Scalar.cmpi .eq arg11 arg10
  let c1_i32_70 : BitVec 32 := 1#32
  let v97 : BitVec 32 := Scalar.addi arg10 c1_i32_70
  let v98 : BitVec 32 := Scalar.select v96 v97 arg10
  let c1_i32_205 : BitVec 32 := 1#32
  let v291 : BitVec 32 := Scalar.subi v98 c1_i32_205
  let c0_i32_206 : BitVec 32 := 0#32
  let v292 : BitVec 32 := Scalar.maxsi v291 c0_i32_206
  let c512_i32_237 : BitVec 32 := 512#32
  let v357 : BitVec 32 := Scalar.muli v292 c512_i32_237
  v357
def k0_cond3 (arg10 : BitVec 32) (arg11 : BitVec 32) : BitVec 1 :=
  let v96 : BitVec 1 := Scalar.cmpi .eq arg11 arg10
  let c0_i32_72 : BitVec 32 := 0#32
  let c1_i32_71 : BitVec 32 := 1#32
  let v99 : BitVec 32 := Scalar.addi arg11 c1_i32_71
  let v100 : BitVec 32 := Scalar.select v96 c0_i32_72 v99
  let c0_i32_203 : BitVec 32 := 0#32
  let v288 : BitVec 1 := Scalar.cmpi .eq v100 c0_i32_203
  let c1_i32_70 : BitVec 32 := 1#32
  let v97 : BitVec 32 := Scalar.addi arg10 c1_i32_70
  let v98 : BitVec 32 := Scalar.select v96 v97 arg10
  let c0_i32_204 : BitVec 32 := 0#32
  let v289 : BitVec 1 := Scalar.cmpi .sgt v98 c0_i32_204
  let v290 : BitVec 1 := Scalar.andi v288 v289
  let v348 : BitVec 32 := Scalar.extui v290
  let c0_i32_236 : BitVec 32 := 0#32
  let v349 : BitVec 1 := Scalar.cmpi .ne v348 c0_i32_236
  v349

def k0_off19 (arg10 : BitVec 32) (arg11 : BitVec 32) : Fin 3 → Nat :=
  let c0_238 : Index := 0#32
  let v96 : BitVec 1 := Scalar.cmpi .eq arg11 arg10
  let c1_i32_70 : BitVec 32 := 1#32
  let v97 : BitVec 32 := Scalar.addi arg10 c1_i32_70
  let v98 : BitVec 32 := Scalar.select v96 v97 arg10
  let c1_i32_205 : BitVec 32 := 1#32
  let v291 : BitVec 32 := Scalar.subi v98 c1_i32_205
  let c0_i32_206 : BitVec 32 := 0#32
  let v292 : BitVec 32 := Scalar.maxsi v291 c0_i32_206
  let c512_i32_237 : BitVec 32 := 512#32
  let v357 : BitVec 32 := Scalar.muli v292 c512_i32_237
  let v358 : BitVec 32 := v357
  let v359 : Index := Scalar.indexCast v358
  let c0_239 : Index := 0#32
  ![0, v359.toNat, 0]
def k0_mult6 (arg10 : BitVec 32) (arg11 : BitVec 32) : BitVec 32 :=
  let v96 : BitVec 1 := Scalar.cmpi .eq arg11 arg10
  let c0_i32_72 : BitVec 32 := 0#32
  let c1_i32_71 : BitVec 32 := 1#32
  let v99 : BitVec 32 := Scalar.addi arg11 c1_i32_71
  let v100 : BitVec 32 := Scalar.select v96 c0_i32_72 v99
  let c512_i32_73 : BitVec 32 := 512#32
  let v102 : BitVec 32 := Scalar.muli v100 c512_i32_73
  v102
def k0_off20 (arg10 : BitVec 32) (arg11 : BitVec 32) : Fin 3 → Nat :=
  let c0_74 : Index := 0#32
  let v96 : BitVec 1 := Scalar.cmpi .eq arg11 arg10
  let c0_i32_72 : BitVec 32 := 0#32
  let c1_i32_71 : BitVec 32 := 1#32
  let v99 : BitVec 32 := Scalar.addi arg11 c1_i32_71
  let v100 : BitVec 32 := Scalar.select v96 c0_i32_72 v99
  let c512_i32_73 : BitVec 32 := 512#32
  let v102 : BitVec 32 := Scalar.muli v100 c512_i32_73
  let v103 : BitVec 32 := v102
  let v104 : Index := Scalar.indexCast v103
  let c0_75 : Index := 0#32
  ![0, v104.toNat, 0]
def k0_off21 (arg10 : BitVec 32) (arg11 : BitVec 32) : Fin 4 → Nat :=
  let c0_76 : Index := 0#32
  let v96 : BitVec 1 := Scalar.cmpi .eq arg11 arg10
  let c1_i32_70 : BitVec 32 := 1#32
  let v97 : BitVec 32 := Scalar.addi arg10 c1_i32_70
  let v98 : BitVec 32 := Scalar.select v96 v97 arg10
  let c7_i32 : BitVec 32 := 7#32
  let v101 : BitVec 32 := Scalar.minsi v98 c7_i32
  let v107 : Index := Scalar.indexCast v101
  let c0_77 : Index := 0#32
  let c0_78 : Index := 0#32
  ![0, v107.toNat, 0, 0]
def k0_off22 (arg10 : BitVec 32) (arg11 : BitVec 32) : Fin 3 → Nat :=
  let c0_85 : Index := 0#32
  let v96 : BitVec 1 := Scalar.cmpi .eq arg11 arg10
  let c0_i32_72 : BitVec 32 := 0#32
  let c1_i32_71 : BitVec 32 := 1#32
  let v99 : BitVec 32 := Scalar.addi arg11 c1_i32_71
  let v100 : BitVec 32 := Scalar.select v96 c0_i32_72 v99
  let c512_i32_73 : BitVec 32 := 512#32
  let v102 : BitVec 32 := Scalar.muli v100 c512_i32_73
  let v103 : BitVec 32 := v102
  let v116 : Index := Scalar.indexCast v103
  let c128_86 : Index := 128#32
  ![0, v116.toNat, 128]
def k0_off23 (arg10 : BitVec 32) (arg11 : BitVec 32) : Fin 4 → Nat :=
  let c0_87 : Index := 0#32
  let v96 : BitVec 1 := Scalar.cmpi .eq arg11 arg10
  let c1_i32_70 : BitVec 32 := 1#32
  let v97 : BitVec 32 := Scalar.addi arg10 c1_i32_70
  let v98 : BitVec 32 := Scalar.select v96 v97 arg10
  let c7_i32 : BitVec 32 := 7#32
  let v101 : BitVec 32 := Scalar.minsi v98 c7_i32
  let v119 : Index := Scalar.indexCast v101
  let c128_88 : Index := 128#32
  let c0_89 : Index := 0#32
  ![0, v119.toNat, 128, 0]
def k0_off24 (arg10 : BitVec 32) (arg11 : BitVec 32) : Fin 4 → Nat :=
  let c0_100 : Index := 0#32
  let c0_i32_96 : BitVec 32 := 0#32
  let v128 : BitVec 1 := Scalar.cmpi .sgt arg11 c0_i32_96
  let c1_i32_97 : BitVec 32 := 1#32
  let v129 : BitVec 32 := Scalar.subi arg11 c1_i32_97
  let c1_i32_98 : BitVec 32 := 1#32
  let v130 : BitVec 32 := Scalar.subi arg10 c1_i32_98
  let v131 : BitVec 32 := Scalar.select v128 v129 v130
  let c0_i32_99 : BitVec 32 := 0#32
  let v132 : BitVec 32 := Scalar.maxsi v131 c0_i32_99
  let v135 : Index := Scalar.indexCast v132
  let c0_101 : Index := 0#32
  let c0_102 : Index := 0#32
  ![0, v135.toNat, 0, 0]
def k0_off25 (arg10 : BitVec 32) (arg11 : BitVec 32) : Fin 4 → Nat :=
  let c0_108 : Index := 0#32
  let c0_i32_96 : BitVec 32 := 0#32
  let v128 : BitVec 1 := Scalar.cmpi .sgt arg11 c0_i32_96
  let c1_i32_97 : BitVec 32 := 1#32
  let v129 : BitVec 32 := Scalar.subi arg11 c1_i32_97
  let c1_i32_98 : BitVec 32 := 1#32
  let v130 : BitVec 32 := Scalar.subi arg10 c1_i32_98
  let v131 : BitVec 32 := Scalar.select v128 v129 v130
  let c0_i32_99 : BitVec 32 := 0#32
  let v132 : BitVec 32 := Scalar.maxsi v131 c0_i32_99
  let v144 : Index := Scalar.indexCast v132
  let c64_109 : Index := 64#32
  let c0_110 : Index := 0#32
  ![0, v144.toNat, 64, 0]
def k0_mult7 (arg10 : BitVec 32) (arg11 : BitVec 32) : BitVec 32 :=
  let v96 : BitVec 1 := Scalar.cmpi .eq arg11 arg10
  let c0_i32_72 : BitVec 32 := 0#32
  let c1_i32_71 : BitVec 32 := 1#32
  let v99 : BitVec 32 := Scalar.addi arg11 c1_i32_71
  let v100 : BitVec 32 := Scalar.select v96 c0_i32_72 v99
  let c1_i32_70 : BitVec 32 := 1#32
  let v97 : BitVec 32 := Scalar.addi arg10 c1_i32_70
  let v98 : BitVec 32 := Scalar.select v96 v97 arg10
  let v209 : BitVec 1 := Scalar.cmpi .eq v100 v98
  let c0_i32_150 : BitVec 32 := 0#32
  let c1_i32_149 : BitVec 32 := 1#32
  let v212 : BitVec 32 := Scalar.addi v100 c1_i32_149
  let v213 : BitVec 32 := Scalar.select v209 c0_i32_150 v212
  let c512_i32_152 : BitVec 32 := 512#32
  let v215 : BitVec 32 := Scalar.muli v213 c512_i32_152
  v215
def k0_off26 (arg10 : BitVec 32) (arg11 : BitVec 32) : Fin 3 → Nat :=
  let c0_153 : Index := 0#32
  let v96 : BitVec 1 := Scalar.cmpi .eq arg11 arg10
  let c0_i32_72 : BitVec 32 := 0#32
  let c1_i32_71 : BitVec 32 := 1#32
  let v99 : BitVec 32 := Scalar.addi arg11 c1_i32_71
  let v100 : BitVec 32 := Scalar.select v96 c0_i32_72 v99
  let c1_i32_70 : BitVec 32 := 1#32
  let v97 : BitVec 32 := Scalar.addi arg10 c1_i32_70
  let v98 : BitVec 32 := Scalar.select v96 v97 arg10
  let v209 : BitVec 1 := Scalar.cmpi .eq v100 v98
  let c0_i32_150 : BitVec 32 := 0#32
  let c1_i32_149 : BitVec 32 := 1#32
  let v212 : BitVec 32 := Scalar.addi v100 c1_i32_149
  let v213 : BitVec 32 := Scalar.select v209 c0_i32_150 v212
  let c512_i32_152 : BitVec 32 := 512#32
  let v215 : BitVec 32 := Scalar.muli v213 c512_i32_152
  let v216 : BitVec 32 := v215
  let v217 : Index := Scalar.indexCast v216
  let c0_154 : Index := 0#32
  ![0, v217.toNat, 0]
def k0_off27 (arg10 : BitVec 32) (arg11 : BitVec 32) : Fin 4 → Nat :=
  let c0_155 : Index := 0#32
  let v96 : BitVec 1 := Scalar.cmpi .eq arg11 arg10
  let c0_i32_72 : BitVec 32 := 0#32
  let c1_i32_71 : BitVec 32 := 1#32
  let v99 : BitVec 32 := Scalar.addi arg11 c1_i32_71
  let v100 : BitVec 32 := Scalar.select v96 c0_i32_72 v99
  let c1_i32_70 : BitVec 32 := 1#32
  let v97 : BitVec 32 := Scalar.addi arg10 c1_i32_70
  let v98 : BitVec 32 := Scalar.select v96 v97 arg10
  let v209 : BitVec 1 := Scalar.cmpi .eq v100 v98
  let c1_i32_148 : BitVec 32 := 1#32
  let v210 : BitVec 32 := Scalar.addi v98 c1_i32_148
  let v211 : BitVec 32 := Scalar.select v209 v210 v98
  let c7_i32_151 : BitVec 32 := 7#32
  let v214 : BitVec 32 := Scalar.minsi v211 c7_i32_151
  let v220 : Index := Scalar.indexCast v214
  let c0_156 : Index := 0#32
  let c0_157 : Index := 0#32
  ![0, v220.toNat, 0, 0]
def k0_off28 (arg10 : BitVec 32) (arg11 : BitVec 32) : Fin 3 → Nat :=
  let c0_164 : Index := 0#32
  let v96 : BitVec 1 := Scalar.cmpi .eq arg11 arg10
  let c0_i32_72 : BitVec 32 := 0#32
  let c1_i32_71 : BitVec 32 := 1#32
  let v99 : BitVec 32 := Scalar.addi arg11 c1_i32_71
  let v100 : BitVec 32 := Scalar.select v96 c0_i32_72 v99
  let c1_i32_70 : BitVec 32 := 1#32
  let v97 : BitVec 32 := Scalar.addi arg10 c1_i32_70
  let v98 : BitVec 32 := Scalar.select v96 v97 arg10
  let v209 : BitVec 1 := Scalar.cmpi .eq v100 v98
  let c0_i32_150 : BitVec 32 := 0#32
  let c1_i32_149 : BitVec 32 := 1#32
  let v212 : BitVec 32 := Scalar.addi v100 c1_i32_149
  let v213 : BitVec 32 := Scalar.select v209 c0_i32_150 v212
  let c512_i32_152 : BitVec 32 := 512#32
  let v215 : BitVec 32 := Scalar.muli v213 c512_i32_152
  let v216 : BitVec 32 := v215
  let v229 : Index := Scalar.indexCast v216
  let c128_165 : Index := 128#32
  ![0, v229.toNat, 128]
def k0_off29 (arg10 : BitVec 32) (arg11 : BitVec 32) : Fin 4 → Nat :=
  let c0_166 : Index := 0#32
  let v96 : BitVec 1 := Scalar.cmpi .eq arg11 arg10
  let c0_i32_72 : BitVec 32 := 0#32
  let c1_i32_71 : BitVec 32 := 1#32
  let v99 : BitVec 32 := Scalar.addi arg11 c1_i32_71
  let v100 : BitVec 32 := Scalar.select v96 c0_i32_72 v99
  let c1_i32_70 : BitVec 32 := 1#32
  let v97 : BitVec 32 := Scalar.addi arg10 c1_i32_70
  let v98 : BitVec 32 := Scalar.select v96 v97 arg10
  let v209 : BitVec 1 := Scalar.cmpi .eq v100 v98
  let c1_i32_148 : BitVec 32 := 1#32
  let v210 : BitVec 32 := Scalar.addi v98 c1_i32_148
  let v211 : BitVec 32 := Scalar.select v209 v210 v98
  let c7_i32_151 : BitVec 32 := 7#32
  let v214 : BitVec 32 := Scalar.minsi v211 c7_i32_151
  let v232 : Index := Scalar.indexCast v214
  let c128_167 : Index := 128#32
  let c0_168 : Index := 0#32
  ![0, v232.toNat, 128, 0]
def k0_off30 (arg10 : BitVec 32) (arg11 : BitVec 32) : Fin 4 → Nat :=
  let c0_179 : Index := 0#32
  let v96 : BitVec 1 := Scalar.cmpi .eq arg11 arg10
  let c0_i32_72 : BitVec 32 := 0#32
  let c1_i32_71 : BitVec 32 := 1#32
  let v99 : BitVec 32 := Scalar.addi arg11 c1_i32_71
  let v100 : BitVec 32 := Scalar.select v96 c0_i32_72 v99
  let c0_i32_175 : BitVec 32 := 0#32
  let v241 : BitVec 1 := Scalar.cmpi .sgt v100 c0_i32_175
  let c1_i32_176 : BitVec 32 := 1#32
  let v242 : BitVec 32 := Scalar.subi v100 c1_i32_176
  let c1_i32_70 : BitVec 32 := 1#32
  let v97 : BitVec 32 := Scalar.addi arg10 c1_i32_70
  let v98 : BitVec 32 := Scalar.select v96 v97 arg10
  let c1_i32_177 : BitVec 32 := 1#32
  let v243 : BitVec 32 := Scalar.subi v98 c1_i32_177
  let v244 : BitVec 32 := Scalar.select v241 v242 v243
  let c0_i32_178 : BitVec 32 := 0#32
  let v245 : BitVec 32 := Scalar.maxsi v244 c0_i32_178
  let v248 : Index := Scalar.indexCast v245
  let c0_180 : Index := 0#32
  let c0_181 : Index := 0#32
  ![0, v248.toNat, 0, 0]
def k0_off31 (arg10 : BitVec 32) (arg11 : BitVec 32) : Fin 4 → Nat :=
  let c0_187 : Index := 0#32
  let v96 : BitVec 1 := Scalar.cmpi .eq arg11 arg10
  let c0_i32_72 : BitVec 32 := 0#32
  let c1_i32_71 : BitVec 32 := 1#32
  let v99 : BitVec 32 := Scalar.addi arg11 c1_i32_71
  let v100 : BitVec 32 := Scalar.select v96 c0_i32_72 v99
  let c0_i32_175 : BitVec 32 := 0#32
  let v241 : BitVec 1 := Scalar.cmpi .sgt v100 c0_i32_175
  let c1_i32_176 : BitVec 32 := 1#32
  let v242 : BitVec 32 := Scalar.subi v100 c1_i32_176
  let c1_i32_70 : BitVec 32 := 1#32
  let v97 : BitVec 32 := Scalar.addi arg10 c1_i32_70
  let v98 : BitVec 32 := Scalar.select v96 v97 arg10
  let c1_i32_177 : BitVec 32 := 1#32
  let v243 : BitVec 32 := Scalar.subi v98 c1_i32_177
  let v244 : BitVec 32 := Scalar.select v241 v242 v243
  let c0_i32_178 : BitVec 32 := 0#32
  let v245 : BitVec 32 := Scalar.maxsi v244 c0_i32_178
  let v257 : Index := Scalar.indexCast v245
  let c64_188 : Index := 64#32
  let c0_189 : Index := 0#32
  ![0, v257.toNat, 64, 0]
def k0_mult8 (arg10 : BitVec 32) : BitVec 32 :=
  let c1_i32_118 : BitVec 32 := 1#32
  let v154 : BitVec 32 := Scalar.subi arg10 c1_i32_118
  let c0_i32_119 : BitVec 32 := 0#32
  let v155 : BitVec 32 := Scalar.maxsi v154 c0_i32_119
  let c512_i32_229 : BitVec 32 := 512#32
  let v333 : BitVec 32 := Scalar.muli v155 c512_i32_229
  v333
def k0_cond4 (arg10 : BitVec 32) (arg11 : BitVec 32) : BitVec 1 :=
  let c0_i32_116 : BitVec 32 := 0#32
  let v151 : BitVec 1 := Scalar.cmpi .eq arg11 c0_i32_116
  let c0_i32_117 : BitVec 32 := 0#32
  let v152 : BitVec 1 := Scalar.cmpi .sgt arg10 c0_i32_117
  let v153 : BitVec 1 := Scalar.andi v151 v152
  let v322 : BitVec 32 := Scalar.extui v153
  let c0_i32_227 : BitVec 32 := 0#32
  let v323 : BitVec 1 := Scalar.cmpi .ne v322 c0_i32_227
  v323

def k0_off32 (arg10 : BitVec 32) : Fin 3 → Nat :=
  let c0_230 : Index := 0#32
  let c1_i32_118 : BitVec 32 := 1#32
  let v154 : BitVec 32 := Scalar.subi arg10 c1_i32_118
  let c0_i32_119 : BitVec 32 := 0#32
  let v155 : BitVec 32 := Scalar.maxsi v154 c0_i32_119
  let c512_i32_229 : BitVec 32 := 512#32
  let v333 : BitVec 32 := Scalar.muli v155 c512_i32_229
  let v334 : BitVec 32 := v333
  let v335 : Index := Scalar.indexCast v334
  let c0_231 : Index := 0#32
  ![0, v335.toNat, 0]
def k0_mult9 (arg10 : BitVec 32) (arg11 : BitVec 32) : BitVec 32 :=
  let v96 : BitVec 1 := Scalar.cmpi .eq arg11 arg10
  let c1_i32_70 : BitVec 32 := 1#32
  let v97 : BitVec 32 := Scalar.addi arg10 c1_i32_70
  let v98 : BitVec 32 := Scalar.select v96 v97 arg10
  let c1_i32_197 : BitVec 32 := 1#32
  let v267 : BitVec 32 := Scalar.subi v98 c1_i32_197
  let c0_i32_198 : BitVec 32 := 0#32
  let v268 : BitVec 32 := Scalar.maxsi v267 c0_i32_198
  let c512_i32_229 : BitVec 32 := 512#32
  let v333 : BitVec 32 := Scalar.muli v268 c512_i32_229
  v333
def k0_cond5 (arg10 : BitVec 32) (arg11 : BitVec 32) : BitVec 1 :=
  let v96 : BitVec 1 := Scalar.cmpi .eq arg11 arg10
  let c0_i32_72 : BitVec 32 := 0#32
  let c1_i32_71 : BitVec 32 := 1#32
  let v99 : BitVec 32 := Scalar.addi arg11 c1_i32_71
  let v100 : BitVec 32 := Scalar.select v96 c0_i32_72 v99
  let c0_i32_195 : BitVec 32 := 0#32
  let v264 : BitVec 1 := Scalar.cmpi .eq v100 c0_i32_195
  let c1_i32_70 : BitVec 32 := 1#32
  let v97 : BitVec 32 := Scalar.addi arg10 c1_i32_70
  let v98 : BitVec 32 := Scalar.select v96 v97 arg10
  let c0_i32_196 : BitVec 32 := 0#32
  let v265 : BitVec 1 := Scalar.cmpi .sgt v98 c0_i32_196
  let v266 : BitVec 1 := Scalar.andi v264 v265
  let v324 : BitVec 32 := Scalar.extui v266
  let c0_i32_228 : BitVec 32 := 0#32
  let v325 : BitVec 1 := Scalar.cmpi .ne v324 c0_i32_228
  v325

def k0_off33 (arg10 : BitVec 32) (arg11 : BitVec 32) : Fin 3 → Nat :=
  let c0_230 : Index := 0#32
  let v96 : BitVec 1 := Scalar.cmpi .eq arg11 arg10
  let c1_i32_70 : BitVec 32 := 1#32
  let v97 : BitVec 32 := Scalar.addi arg10 c1_i32_70
  let v98 : BitVec 32 := Scalar.select v96 v97 arg10
  let c1_i32_197 : BitVec 32 := 1#32
  let v267 : BitVec 32 := Scalar.subi v98 c1_i32_197
  let c0_i32_198 : BitVec 32 := 0#32
  let v268 : BitVec 32 := Scalar.maxsi v267 c0_i32_198
  let c512_i32_229 : BitVec 32 := 512#32
  let v333 : BitVec 32 := Scalar.muli v268 c512_i32_229
  let v334 : BitVec 32 := v333
  let v335 : Index := Scalar.indexCast v334
  let c0_231 : Index := 0#32
  ![0, v335.toNat, 0]

def k0_chk1_0 (arg10 : BitVec 32) (arg11 : BitVec 32) : Prop :=
  (∀ (k0_h1 : k0_cond1 arg10 arg11 = 1#1), 512 ∣ (k0_mult2 arg10 arg11).toNat) ∧
  (∀ (k0_h1 : k0_cond1 arg10 arg11 = 1#1), ∀ a, (k0_off4 arg10 arg11) a + S1x512x128.size a ≤ S1x4096x256.size a) ∧
  (∀ (k0_h1 : k0_cond1 arg10 arg11 = 1#1), ∀ a, (k0_off5 arg10 arg11) a + S1x1x128x512.size a ≤ S1x8x256x512.size a) ∧
  (∀ (k0_h1 : k0_cond1 arg10 arg11 = 1#1), ∀ a, (k0_off6 arg10 arg11) a + S1x512x512.size a ≤ S2x512x512.size a) ∧
  (∀ (k0_h1 : k0_cond1 arg10 arg11 = 1#1), ∀ a, (k0_off7 arg10 arg11) a + S1x512x128.size a ≤ S1x4096x256.size a) ∧
  (∀ (k0_h1 : k0_cond1 arg10 arg11 = 1#1), ∀ a, (k0_off8 arg10 arg11) a + S1x1x128x512.size a ≤ S1x8x256x512.size a) ∧
  (∀ (k0_h1 : k0_cond1 arg10 arg11 = 1#1), ∀ a, (k0_off9 arg10 arg11) a + S1x1x64x512.size a ≤ S1x8x128x512.size a) ∧
  (∀ (k0_h1 : k0_cond1 arg10 arg11 = 1#1), ∀ a, (k0_off10 arg10 arg11) a + S1x1x64x512.size a ≤ S1x8x128x512.size a) ∧
  (∀ (k0_h1 : k0_cond1 arg10 arg11 = 1#1), 512 ∣ (k0_mult3 arg10 arg11).toNat) ∧
  (∀ (k0_h1 : k0_cond1 arg10 arg11 = 1#1), ∀ a, (k0_off11 arg10 arg11) a + S1x512x128.size a ≤ S1x4096x256.size a) ∧
  (∀ (k0_h1 : k0_cond1 arg10 arg11 = 1#1), ∀ a, (k0_off12 arg10 arg11) a + S1x1x128x512.size a ≤ S1x8x256x512.size a) ∧
  (∀ (k0_h1 : k0_cond1 arg10 arg11 = 1#1), ∀ a, (k0_off13 arg10 arg11) a + S1x512x512.size a ≤ S2x512x512.size a) ∧
  (∀ (k0_h1 : k0_cond1 arg10 arg11 = 1#1), ∀ a, (k0_off14 arg10 arg11) a + S1x512x128.size a ≤ S1x4096x256.size a) ∧
  (∀ (k0_h1 : k0_cond1 arg10 arg11 = 1#1), ∀ a, (k0_off15 arg10 arg11) a + S1x1x128x512.size a ≤ S1x8x256x512.size a) ∧
  (∀ (k0_h1 : k0_cond1 arg10 arg11 = 1#1), ∀ a, (k0_off16 arg10 arg11) a + S1x1x64x512.size a ≤ S1x8x128x512.size a) ∧
  (∀ (k0_h1 : k0_cond1 arg10 arg11 = 1#1), ∀ a, (k0_off17 arg10 arg11) a + S1x1x64x512.size a ≤ S1x8x128x512.size a) ∧
  (∀ (k0_h1 : k0_cond1 arg10 arg11 = 1#1), ∀ (k0_h2 : k0_cond2 arg10 arg11 = 1#1), 512 ∣ (k0_mult4 arg10).toNat) ∧
  (∀ (k0_h1 : k0_cond1 arg10 arg11 = 1#1), ∀ (k0_h2 : k0_cond2 arg10 arg11 = 1#1), ∀ a, (k0_off18 arg10) a + S1x512x128.size a ≤ S1x4096x128.size a) ∧
  (∀ (k0_h1 : k0_cond1 arg10 arg11 = 1#1), ∀ (k0_h2 : k0_cond2 arg10 arg11 = 1#1), ∀ (hinb : ∀ a, (k0_off18 arg10) a + S1x512x128.size a ≤ S1x4096x128.size a), (Rect.unit (s := S1x4096x128) (k0_off18 arg10) S1x512x128.size hinb).PackedRows (EltTy.packing .bf16)) ∧
  (∀ (k0_h1 : k0_cond1 arg10 arg11 = 1#1), ∀ (k0_h3 : k0_cond3 arg10 arg11 = 1#1), 512 ∣ (k0_mult5 arg10 arg11).toNat) ∧
  (∀ (k0_h1 : k0_cond1 arg10 arg11 = 1#1), ∀ (k0_h3 : k0_cond3 arg10 arg11 = 1#1), ∀ a, (k0_off19 arg10 arg11) a + S1x512x128.size a ≤ S1x4096x128.size a) ∧
  (∀ (k0_h1 : k0_cond1 arg10 arg11 = 1#1), ∀ (k0_h3 : k0_cond3 arg10 arg11 = 1#1), ∀ (hinb : ∀ a, (k0_off19 arg10 arg11) a + S1x512x128.size a ≤ S1x4096x128.size a), (Rect.unit (s := S1x4096x128) (k0_off19 arg10 arg11) S1x512x128.size hinb).PackedRows (EltTy.packing .bf16)) ∧
  (∀ (k0_h1 : ¬(k0_cond1 arg10 arg11 = 1#1)), 512 ∣ (k0_mult6 arg10 arg11).toNat) ∧
  (∀ (k0_h1 : ¬(k0_cond1 arg10 arg11 = 1#1)), ∀ a, (k0_off20 arg10 arg11) a + S1x512x128.size a ≤ S1x4096x256.size a) ∧
  (∀ (k0_h1 : ¬(k0_cond1 arg10 arg11 = 1#1)), ∀ a, (k0_off21 arg10 arg11) a + S1x1x128x512.size a ≤ S1x8x256x512.size a) ∧
  (∀ (k0_h1 : ¬(k0_cond1 arg10 arg11 = 1#1)), ∀ a, (k0_off22 arg10 arg11) a + S1x512x128.size a ≤ S1x4096x256.size a) ∧
  (∀ (k0_h1 : ¬(k0_cond1 arg10 arg11 = 1#1)), ∀ a, (k0_off23 arg10 arg11) a + S1x1x128x512.size a ≤ S1x8x256x512.size a) ∧
  (∀ (k0_h1 : ¬(k0_cond1 arg10 arg11 = 1#1)), ∀ a, (k0_off24 arg10 arg11) a + S1x1x64x512.size a ≤ S1x8x128x512.size a) ∧
  (∀ (k0_h1 : ¬(k0_cond1 arg10 arg11 = 1#1)), ∀ a, (k0_off25 arg10 arg11) a + S1x1x64x512.size a ≤ S1x8x128x512.size a) ∧
  (∀ (k0_h1 : ¬(k0_cond1 arg10 arg11 = 1#1)), 512 ∣ (k0_mult7 arg10 arg11).toNat) ∧
  (∀ (k0_h1 : ¬(k0_cond1 arg10 arg11 = 1#1)), ∀ a, (k0_off26 arg10 arg11) a + S1x512x128.size a ≤ S1x4096x256.size a) ∧
  (∀ (k0_h1 : ¬(k0_cond1 arg10 arg11 = 1#1)), ∀ a, (k0_off27 arg10 arg11) a + S1x1x128x512.size a ≤ S1x8x256x512.size a)
def k0_chk1_1 (arg10 : BitVec 32) (arg11 : BitVec 32) : Prop :=
  (∀ (k0_h1 : ¬(k0_cond1 arg10 arg11 = 1#1)), ∀ a, (k0_off28 arg10 arg11) a + S1x512x128.size a ≤ S1x4096x256.size a) ∧
  (∀ (k0_h1 : ¬(k0_cond1 arg10 arg11 = 1#1)), ∀ a, (k0_off29 arg10 arg11) a + S1x1x128x512.size a ≤ S1x8x256x512.size a) ∧
  (∀ (k0_h1 : ¬(k0_cond1 arg10 arg11 = 1#1)), ∀ a, (k0_off30 arg10 arg11) a + S1x1x64x512.size a ≤ S1x8x128x512.size a) ∧
  (∀ (k0_h1 : ¬(k0_cond1 arg10 arg11 = 1#1)), ∀ a, (k0_off31 arg10 arg11) a + S1x1x64x512.size a ≤ S1x8x128x512.size a) ∧
  (∀ (k0_h1 : ¬(k0_cond1 arg10 arg11 = 1#1)), ∀ (k0_h4 : k0_cond4 arg10 arg11 = 1#1), 512 ∣ (k0_mult8 arg10).toNat) ∧
  (∀ (k0_h1 : ¬(k0_cond1 arg10 arg11 = 1#1)), ∀ (k0_h4 : k0_cond4 arg10 arg11 = 1#1), ∀ a, (k0_off32 arg10) a + S1x512x128.size a ≤ S1x4096x128.size a) ∧
  (∀ (k0_h1 : ¬(k0_cond1 arg10 arg11 = 1#1)), ∀ (k0_h4 : k0_cond4 arg10 arg11 = 1#1), ∀ (hinb : ∀ a, (k0_off32 arg10) a + S1x512x128.size a ≤ S1x4096x128.size a), (Rect.unit (s := S1x4096x128) (k0_off32 arg10) S1x512x128.size hinb).PackedRows (EltTy.packing .bf16)) ∧
  (∀ (k0_h1 : ¬(k0_cond1 arg10 arg11 = 1#1)), ∀ (k0_h5 : k0_cond5 arg10 arg11 = 1#1), 512 ∣ (k0_mult9 arg10 arg11).toNat) ∧
  (∀ (k0_h1 : ¬(k0_cond1 arg10 arg11 = 1#1)), ∀ (k0_h5 : k0_cond5 arg10 arg11 = 1#1), ∀ a, (k0_off33 arg10 arg11) a + S1x512x128.size a ≤ S1x4096x128.size a) ∧
  (∀ (k0_h1 : ¬(k0_cond1 arg10 arg11 = 1#1)), ∀ (k0_h5 : k0_cond5 arg10 arg11 = 1#1), ∀ (hinb : ∀ a, (k0_off33 arg10 arg11) a + S1x512x128.size a ≤ S1x4096x128.size a), (Rect.unit (s := S1x4096x128) (k0_off33 arg10 arg11) S1x512x128.size hinb).PackedRows (EltTy.packing .bf16))
def k0_chk1 (arg10 : BitVec 32) (arg11 : BitVec 32) : Prop :=
  k0_chk1_0 arg10 arg11 ∧
  k0_chk1_1 arg10 arg11
theorem k0_mult2_dvd : ∀ (arg10 : BitVec 32) (arg11 : BitVec 32) (k0_hw1 : k0_chk1 arg10 arg11), ∀ (k0_h1 : k0_cond1 arg10 arg11 = 1#1), 512 ∣ (k0_mult2 arg10 arg11).toNat := fun arg10 arg11 k0_hw1 k0_h1 => k0_hw1.1.1 k0_h1
theorem k0_off4_inb : ∀ (arg10 : BitVec 32) (arg11 : BitVec 32) (k0_hw1 : k0_chk1 arg10 arg11), ∀ (k0_h1 : k0_cond1 arg10 arg11 = 1#1), ∀ a, (k0_off4 arg10 arg11) a + S1x512x128.size a ≤ S1x4096x256.size a := fun arg10 arg11 k0_hw1 k0_h1 => k0_hw1.1.2.1 k0_h1
theorem k0_off5_inb : ∀ (arg10 : BitVec 32) (arg11 : BitVec 32) (k0_hw1 : k0_chk1 arg10 arg11), ∀ (k0_h1 : k0_cond1 arg10 arg11 = 1#1), ∀ a, (k0_off5 arg10 arg11) a + S1x1x128x512.size a ≤ S1x8x256x512.size a := fun arg10 arg11 k0_hw1 k0_h1 => k0_hw1.1.2.2.1 k0_h1
theorem k0_off6_inb : ∀ (arg10 : BitVec 32) (arg11 : BitVec 32) (k0_hw1 : k0_chk1 arg10 arg11), ∀ (k0_h1 : k0_cond1 arg10 arg11 = 1#1), ∀ a, (k0_off6 arg10 arg11) a + S1x512x512.size a ≤ S2x512x512.size a := fun arg10 arg11 k0_hw1 k0_h1 => k0_hw1.1.2.2.2.1 k0_h1
theorem k0_off7_inb : ∀ (arg10 : BitVec 32) (arg11 : BitVec 32) (k0_hw1 : k0_chk1 arg10 arg11), ∀ (k0_h1 : k0_cond1 arg10 arg11 = 1#1), ∀ a, (k0_off7 arg10 arg11) a + S1x512x128.size a ≤ S1x4096x256.size a := fun arg10 arg11 k0_hw1 k0_h1 => k0_hw1.1.2.2.2.2.1 k0_h1
theorem k0_off8_inb : ∀ (arg10 : BitVec 32) (arg11 : BitVec 32) (k0_hw1 : k0_chk1 arg10 arg11), ∀ (k0_h1 : k0_cond1 arg10 arg11 = 1#1), ∀ a, (k0_off8 arg10 arg11) a + S1x1x128x512.size a ≤ S1x8x256x512.size a := fun arg10 arg11 k0_hw1 k0_h1 => k0_hw1.1.2.2.2.2.2.1 k0_h1
theorem k0_off9_inb : ∀ (arg10 : BitVec 32) (arg11 : BitVec 32) (k0_hw1 : k0_chk1 arg10 arg11), ∀ (k0_h1 : k0_cond1 arg10 arg11 = 1#1), ∀ a, (k0_off9 arg10 arg11) a + S1x1x64x512.size a ≤ S1x8x128x512.size a := fun arg10 arg11 k0_hw1 k0_h1 => k0_hw1.1.2.2.2.2.2.2.1 k0_h1
theorem k0_off10_inb : ∀ (arg10 : BitVec 32) (arg11 : BitVec 32) (k0_hw1 : k0_chk1 arg10 arg11), ∀ (k0_h1 : k0_cond1 arg10 arg11 = 1#1), ∀ a, (k0_off10 arg10 arg11) a + S1x1x64x512.size a ≤ S1x8x128x512.size a := fun arg10 arg11 k0_hw1 k0_h1 => k0_hw1.1.2.2.2.2.2.2.2.1 k0_h1
theorem k0_mult3_dvd : ∀ (arg10 : BitVec 32) (arg11 : BitVec 32) (k0_hw1 : k0_chk1 arg10 arg11), ∀ (k0_h1 : k0_cond1 arg10 arg11 = 1#1), 512 ∣ (k0_mult3 arg10 arg11).toNat := fun arg10 arg11 k0_hw1 k0_h1 => k0_hw1.1.2.2.2.2.2.2.2.2.1 k0_h1
theorem k0_off11_inb : ∀ (arg10 : BitVec 32) (arg11 : BitVec 32) (k0_hw1 : k0_chk1 arg10 arg11), ∀ (k0_h1 : k0_cond1 arg10 arg11 = 1#1), ∀ a, (k0_off11 arg10 arg11) a + S1x512x128.size a ≤ S1x4096x256.size a := fun arg10 arg11 k0_hw1 k0_h1 => k0_hw1.1.2.2.2.2.2.2.2.2.2.1 k0_h1
theorem k0_off12_inb : ∀ (arg10 : BitVec 32) (arg11 : BitVec 32) (k0_hw1 : k0_chk1 arg10 arg11), ∀ (k0_h1 : k0_cond1 arg10 arg11 = 1#1), ∀ a, (k0_off12 arg10 arg11) a + S1x1x128x512.size a ≤ S1x8x256x512.size a := fun arg10 arg11 k0_hw1 k0_h1 => k0_hw1.1.2.2.2.2.2.2.2.2.2.2.1 k0_h1
theorem k0_off13_inb : ∀ (arg10 : BitVec 32) (arg11 : BitVec 32) (k0_hw1 : k0_chk1 arg10 arg11), ∀ (k0_h1 : k0_cond1 arg10 arg11 = 1#1), ∀ a, (k0_off13 arg10 arg11) a + S1x512x512.size a ≤ S2x512x512.size a := fun arg10 arg11 k0_hw1 k0_h1 => k0_hw1.1.2.2.2.2.2.2.2.2.2.2.2.1 k0_h1
theorem k0_off14_inb : ∀ (arg10 : BitVec 32) (arg11 : BitVec 32) (k0_hw1 : k0_chk1 arg10 arg11), ∀ (k0_h1 : k0_cond1 arg10 arg11 = 1#1), ∀ a, (k0_off14 arg10 arg11) a + S1x512x128.size a ≤ S1x4096x256.size a := fun arg10 arg11 k0_hw1 k0_h1 => k0_hw1.1.2.2.2.2.2.2.2.2.2.2.2.2.1 k0_h1
theorem k0_off15_inb : ∀ (arg10 : BitVec 32) (arg11 : BitVec 32) (k0_hw1 : k0_chk1 arg10 arg11), ∀ (k0_h1 : k0_cond1 arg10 arg11 = 1#1), ∀ a, (k0_off15 arg10 arg11) a + S1x1x128x512.size a ≤ S1x8x256x512.size a := fun arg10 arg11 k0_hw1 k0_h1 => k0_hw1.1.2.2.2.2.2.2.2.2.2.2.2.2.2.1 k0_h1
theorem k0_off16_inb : ∀ (arg10 : BitVec 32) (arg11 : BitVec 32) (k0_hw1 : k0_chk1 arg10 arg11), ∀ (k0_h1 : k0_cond1 arg10 arg11 = 1#1), ∀ a, (k0_off16 arg10 arg11) a + S1x1x64x512.size a ≤ S1x8x128x512.size a := fun arg10 arg11 k0_hw1 k0_h1 => k0_hw1.1.2.2.2.2.2.2.2.2.2.2.2.2.2.2.1 k0_h1
theorem k0_off17_inb : ∀ (arg10 : BitVec 32) (arg11 : BitVec 32) (k0_hw1 : k0_chk1 arg10 arg11), ∀ (k0_h1 : k0_cond1 arg10 arg11 = 1#1), ∀ a, (k0_off17 arg10 arg11) a + S1x1x64x512.size a ≤ S1x8x128x512.size a := fun arg10 arg11 k0_hw1 k0_h1 => k0_hw1.1.2.2.2.2.2.2.2.2.2.2.2.2.2.2.2.1 k0_h1
theorem k0_mult4_dvd : ∀ (arg10 : BitVec 32) (arg11 : BitVec 32) (k0_hw1 : k0_chk1 arg10 arg11), ∀ (k0_h1 : k0_cond1 arg10 arg11 = 1#1), ∀ (k0_h2 : k0_cond2 arg10 arg11 = 1#1), 512 ∣ (k0_mult4 arg10).toNat := fun arg10 arg11 k0_hw1 k0_h1 k0_h2 => k0_hw1.1.2.2.2.2.2.2.2.2.2.2.2.2.2.2.2.2.1 k0_h1 k0_h2
theorem k0_off18_inb : ∀ (arg10 : BitVec 32) (arg11 : BitVec 32) (k0_hw1 : k0_chk1 arg10 arg11), ∀ (k0_h1 : k0_cond1 arg10 arg11 = 1#1), ∀ (k0_h2 : k0_cond2 arg10 arg11 = 1#1), ∀ a, (k0_off18 arg10) a + S1x512x128.size a ≤ S1x4096x128.size a := fun arg10 arg11 k0_hw1 k0_h1 k0_h2 => k0_hw1.1.2.2.2.2.2.2.2.2.2.2.2.2.2.2.2.2.2.1 k0_h1 k0_h2
theorem k0_off18_packedbf16 : ∀ (arg10 : BitVec 32) (arg11 : BitVec 32) (k0_hw1 : k0_chk1 arg10 arg11), ∀ (k0_h1 : k0_cond1 arg10 arg11 = 1#1), ∀ (k0_h2 : k0_cond2 arg10 arg11 = 1#1), (Rect.unit (s := S1x4096x128) (k0_off18 arg10) S1x512x128.size (k0_off18_inb arg10 arg11 k0_hw1 k0_h1 k0_h2)).PackedRows (EltTy.packing .bf16) := fun arg10 arg11 k0_hw1 k0_h1 k0_h2 => k0_hw1.1.2.2.2.2.2.2.2.2.2.2.2.2.2.2.2.2.2.2.1 k0_h1 k0_h2 (k0_off18_inb arg10 arg11 k0_hw1 k0_h1 k0_h2)
theorem k0_mult5_dvd : ∀ (arg10 : BitVec 32) (arg11 : BitVec 32) (k0_hw1 : k0_chk1 arg10 arg11), ∀ (k0_h1 : k0_cond1 arg10 arg11 = 1#1), ∀ (k0_h3 : k0_cond3 arg10 arg11 = 1#1), 512 ∣ (k0_mult5 arg10 arg11).toNat := fun arg10 arg11 k0_hw1 k0_h1 k0_h3 => k0_hw1.1.2.2.2.2.2.2.2.2.2.2.2.2.2.2.2.2.2.2.2.1 k0_h1 k0_h3
theorem k0_off19_inb : ∀ (arg10 : BitVec 32) (arg11 : BitVec 32) (k0_hw1 : k0_chk1 arg10 arg11), ∀ (k0_h1 : k0_cond1 arg10 arg11 = 1#1), ∀ (k0_h3 : k0_cond3 arg10 arg11 = 1#1), ∀ a, (k0_off19 arg10 arg11) a + S1x512x128.size a ≤ S1x4096x128.size a := fun arg10 arg11 k0_hw1 k0_h1 k0_h3 => k0_hw1.1.2.2.2.2.2.2.2.2.2.2.2.2.2.2.2.2.2.2.2.2.1 k0_h1 k0_h3
theorem k0_off19_packedbf16 : ∀ (arg10 : BitVec 32) (arg11 : BitVec 32) (k0_hw1 : k0_chk1 arg10 arg11), ∀ (k0_h1 : k0_cond1 arg10 arg11 = 1#1), ∀ (k0_h3 : k0_cond3 arg10 arg11 = 1#1), (Rect.unit (s := S1x4096x128) (k0_off19 arg10 arg11) S1x512x128.size (k0_off19_inb arg10 arg11 k0_hw1 k0_h1 k0_h3)).PackedRows (EltTy.packing .bf16) := fun arg10 arg11 k0_hw1 k0_h1 k0_h3 => k0_hw1.1.2.2.2.2.2.2.2.2.2.2.2.2.2.2.2.2.2.2.2.2.2.1 k0_h1 k0_h3 (k0_off19_inb arg10 arg11 k0_hw1 k0_h1 k0_h3)
theorem k0_mult6_dvd : ∀ (arg10 : BitVec 32) (arg11 : BitVec 32) (k0_hw1 : k0_chk1 arg10 arg11), ∀ (k0_h1 : ¬(k0_cond1 arg10 arg11 = 1#1)), 512 ∣ (k0_mult6 arg10 arg11).toNat := fun arg10 arg11 k0_hw1 k0_h1 => k0_hw1.1.2.2.2.2.2.2.2.2.2.2.2.2.2.2.2.2.2.2.2.2.2.2.1 k0_h1
theorem k0_off20_inb : ∀ (arg10 : BitVec 32) (arg11 : BitVec 32) (k0_hw1 : k0_chk1 arg10 arg11), ∀ (k0_h1 : ¬(k0_cond1 arg10 arg11 = 1#1)), ∀ a, (k0_off20 arg10 arg11) a + S1x512x128.size a ≤ S1x4096x256.size a := fun arg10 arg11 k0_hw1 k0_h1 => k0_hw1.1.2.2.2.2.2.2.2.2.2.2.2.2.2.2.2.2.2.2.2.2.2.2.2.1 k0_h1
theorem k0_off21_inb : ∀ (arg10 : BitVec 32) (arg11 : BitVec 32) (k0_hw1 : k0_chk1 arg10 arg11), ∀ (k0_h1 : ¬(k0_cond1 arg10 arg11 = 1#1)), ∀ a, (k0_off21 arg10 arg11) a + S1x1x128x512.size a ≤ S1x8x256x512.size a := fun arg10 arg11 k0_hw1 k0_h1 => k0_hw1.1.2.2.2.2.2.2.2.2.2.2.2.2.2.2.2.2.2.2.2.2.2.2.2.2.1 k0_h1
theorem k0_off22_inb : ∀ (arg10 : BitVec 32) (arg11 : BitVec 32) (k0_hw1 : k0_chk1 arg10 arg11), ∀ (k0_h1 : ¬(k0_cond1 arg10 arg11 = 1#1)), ∀ a, (k0_off22 arg10 arg11) a + S1x512x128.size a ≤ S1x4096x256.size a := fun arg10 arg11 k0_hw1 k0_h1 => k0_hw1.1.2.2.2.2.2.2.2.2.2.2.2.2.2.2.2.2.2.2.2.2.2.2.2.2.2.1 k0_h1
theorem k0_off23_inb : ∀ (arg10 : BitVec 32) (arg11 : BitVec 32) (k0_hw1 : k0_chk1 arg10 arg11), ∀ (k0_h1 : ¬(k0_cond1 arg10 arg11 = 1#1)), ∀ a, (k0_off23 arg10 arg11) a + S1x1x128x512.size a ≤ S1x8x256x512.size a := fun arg10 arg11 k0_hw1 k0_h1 => k0_hw1.1.2.2.2.2.2.2.2.2.2.2.2.2.2.2.2.2.2.2.2.2.2.2.2.2.2.2.1 k0_h1
theorem k0_off24_inb : ∀ (arg10 : BitVec 32) (arg11 : BitVec 32) (k0_hw1 : k0_chk1 arg10 arg11), ∀ (k0_h1 : ¬(k0_cond1 arg10 arg11 = 1#1)), ∀ a, (k0_off24 arg10 arg11) a + S1x1x64x512.size a ≤ S1x8x128x512.size a := fun arg10 arg11 k0_hw1 k0_h1 => k0_hw1.1.2.2.2.2.2.2.2.2.2.2.2.2.2.2.2.2.2.2.2.2.2.2.2.2.2.2.2.1 k0_h1
theorem k0_off25_inb : ∀ (arg10 : BitVec 32) (arg11 : BitVec 32) (k0_hw1 : k0_chk1 arg10 arg11), ∀ (k0_h1 : ¬(k0_cond1 arg10 arg11 = 1#1)), ∀ a, (k0_off25 arg10 arg11) a + S1x1x64x512.size a ≤ S1x8x128x512.size a := fun arg10 arg11 k0_hw1 k0_h1 => k0_hw1.1.2.2.2.2.2.2.2.2.2.2.2.2.2.2.2.2.2.2.2.2.2.2.2.2.2.2.2.2.1 k0_h1
theorem k0_mult7_dvd : ∀ (arg10 : BitVec 32) (arg11 : BitVec 32) (k0_hw1 : k0_chk1 arg10 arg11), ∀ (k0_h1 : ¬(k0_cond1 arg10 arg11 = 1#1)), 512 ∣ (k0_mult7 arg10 arg11).toNat := fun arg10 arg11 k0_hw1 k0_h1 => k0_hw1.1.2.2.2.2.2.2.2.2.2.2.2.2.2.2.2.2.2.2.2.2.2.2.2.2.2.2.2.2.2.1 k0_h1
theorem k0_off26_inb : ∀ (arg10 : BitVec 32) (arg11 : BitVec 32) (k0_hw1 : k0_chk1 arg10 arg11), ∀ (k0_h1 : ¬(k0_cond1 arg10 arg11 = 1#1)), ∀ a, (k0_off26 arg10 arg11) a + S1x512x128.size a ≤ S1x4096x256.size a := fun arg10 arg11 k0_hw1 k0_h1 => k0_hw1.1.2.2.2.2.2.2.2.2.2.2.2.2.2.2.2.2.2.2.2.2.2.2.2.2.2.2.2.2.2.2.1 k0_h1
theorem k0_off27_inb : ∀ (arg10 : BitVec 32) (arg11 : BitVec 32) (k0_hw1 : k0_chk1 arg10 arg11), ∀ (k0_h1 : ¬(k0_cond1 arg10 arg11 = 1#1)), ∀ a, (k0_off27 arg10 arg11) a + S1x1x128x512.size a ≤ S1x8x256x512.size a := fun arg10 arg11 k0_hw1 k0_h1 => k0_hw1.1.2.2.2.2.2.2.2.2.2.2.2.2.2.2.2.2.2.2.2.2.2.2.2.2.2.2.2.2.2.2.2 k0_h1
theorem k0_off28_inb : ∀ (arg10 : BitVec 32) (arg11 : BitVec 32) (k0_hw1 : k0_chk1 arg10 arg11), ∀ (k0_h1 : ¬(k0_cond1 arg10 arg11 = 1#1)), ∀ a, (k0_off28 arg10 arg11) a + S1x512x128.size a ≤ S1x4096x256.size a := fun arg10 arg11 k0_hw1 k0_h1 => k0_hw1.2.1 k0_h1
theorem k0_off29_inb : ∀ (arg10 : BitVec 32) (arg11 : BitVec 32) (k0_hw1 : k0_chk1 arg10 arg11), ∀ (k0_h1 : ¬(k0_cond1 arg10 arg11 = 1#1)), ∀ a, (k0_off29 arg10 arg11) a + S1x1x128x512.size a ≤ S1x8x256x512.size a := fun arg10 arg11 k0_hw1 k0_h1 => k0_hw1.2.2.1 k0_h1
theorem k0_off30_inb : ∀ (arg10 : BitVec 32) (arg11 : BitVec 32) (k0_hw1 : k0_chk1 arg10 arg11), ∀ (k0_h1 : ¬(k0_cond1 arg10 arg11 = 1#1)), ∀ a, (k0_off30 arg10 arg11) a + S1x1x64x512.size a ≤ S1x8x128x512.size a := fun arg10 arg11 k0_hw1 k0_h1 => k0_hw1.2.2.2.1 k0_h1
theorem k0_off31_inb : ∀ (arg10 : BitVec 32) (arg11 : BitVec 32) (k0_hw1 : k0_chk1 arg10 arg11), ∀ (k0_h1 : ¬(k0_cond1 arg10 arg11 = 1#1)), ∀ a, (k0_off31 arg10 arg11) a + S1x1x64x512.size a ≤ S1x8x128x512.size a := fun arg10 arg11 k0_hw1 k0_h1 => k0_hw1.2.2.2.2.1 k0_h1
theorem k0_mult8_dvd : ∀ (arg10 : BitVec 32) (arg11 : BitVec 32) (k0_hw1 : k0_chk1 arg10 arg11), ∀ (k0_h1 : ¬(k0_cond1 arg10 arg11 = 1#1)), ∀ (k0_h4 : k0_cond4 arg10 arg11 = 1#1), 512 ∣ (k0_mult8 arg10).toNat := fun arg10 arg11 k0_hw1 k0_h1 k0_h4 => k0_hw1.2.2.2.2.2.1 k0_h1 k0_h4
theorem k0_off32_inb : ∀ (arg10 : BitVec 32) (arg11 : BitVec 32) (k0_hw1 : k0_chk1 arg10 arg11), ∀ (k0_h1 : ¬(k0_cond1 arg10 arg11 = 1#1)), ∀ (k0_h4 : k0_cond4 arg10 arg11 = 1#1), ∀ a, (k0_off32 arg10) a + S1x512x128.size a ≤ S1x4096x128.size a := fun arg10 arg11 k0_hw1 k0_h1 k0_h4 => k0_hw1.2.2.2.2.2.2.1 k0_h1 k0_h4
theorem k0_off32_packedbf16 : ∀ (arg10 : BitVec 32) (arg11 : BitVec 32) (k0_hw1 : k0_chk1 arg10 arg11), ∀ (k0_h1 : ¬(k0_cond1 arg10 arg11 = 1#1)), ∀ (k0_h4 : k0_cond4 arg10 arg11 = 1#1), (Rect.unit (s := S1x4096x128) (k0_off32 arg10) S1x512x128.size (k0_off32_inb arg10 arg11 k0_hw1 k0_h1 k0_h4)).PackedRows (EltTy.packing .bf16) := fun arg10 arg11 k0_hw1 k0_h1 k0_h4 => k0_hw1.2.2.2.2.2.2.2.1 k0_h1 k0_h4 (k0_off32_inb arg10 arg11 k0_hw1 k0_h1 k0_h4)
theorem k0_mult9_dvd : ∀ (arg10 : BitVec 32) (arg11 : BitVec 32) (k0_hw1 : k0_chk1 arg10 arg11), ∀ (k0_h1 : ¬(k0_cond1 arg10 arg11 = 1#1)), ∀ (k0_h5 : k0_cond5 arg10 arg11 = 1#1), 512 ∣ (k0_mult9 arg10 arg11).toNat := fun arg10 arg11 k0_hw1 k0_h1 k0_h5 => k0_hw1.2.2.2.2.2.2.2.2.1 k0_h1 k0_h5
theorem k0_off33_inb : ∀ (arg10 : BitVec 32) (arg11 : BitVec 32) (k0_hw1 : k0_chk1 arg10 arg11), ∀ (k0_h1 : ¬(k0_cond1 arg10 arg11 = 1#1)), ∀ (k0_h5 : k0_cond5 arg10 arg11 = 1#1), ∀ a, (k0_off33 arg10 arg11) a + S1x512x128.size a ≤ S1x4096x128.size a := fun arg10 arg11 k0_hw1 k0_h1 k0_h5 => k0_hw1.2.2.2.2.2.2.2.2.2.1 k0_h1 k0_h5
theorem k0_off33_packedbf16 : ∀ (arg10 : BitVec 32) (arg11 : BitVec 32) (k0_hw1 : k0_chk1 arg10 arg11), ∀ (k0_h1 : ¬(k0_cond1 arg10 arg11 = 1#1)), ∀ (k0_h5 : k0_cond5 arg10 arg11 = 1#1), (Rect.unit (s := S1x4096x128) (k0_off33 arg10 arg11) S1x512x128.size (k0_off33_inb arg10 arg11 k0_hw1 k0_h1 k0_h5)).PackedRows (EltTy.packing .bf16) := fun arg10 arg11 k0_hw1 k0_h1 k0_h5 => k0_hw1.2.2.2.2.2.2.2.2.2.2 k0_h1 k0_h5 (k0_off33_inb arg10 arg11 k0_hw1 k0_h1 k0_h5)

def k0_mult10 : BitVec 32 :=
  let c3584_i32 : BitVec 32 := 3584#32
  c3584_i32
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | "scale2" => some (((Real.log 2)⁻¹ * (Real.sqrt 96)⁻¹ : ℝ) : EReal)
  | _ => none
-- ==== ReferenceIdeal.lean ====
abbrev S8x8x1024x512 : Shape := ⟨4, ![8, 8, 1024, 512]⟩
abbrev S8x4096x1024 : Shape := ⟨3, ![8, 4096, 1024]⟩
abbrev S8x8x512x512 : Shape := ⟨4, ![8, 8, 512, 512]⟩
abbrev S8x8x512x1024 : Shape := ⟨4, ![8, 8, 512, 1024]⟩
abbrev S8x4096x8x128 : Shape := ⟨4, ![8, 4096, 8, 128]⟩
abbrev S8x8x4096x128 : Shape := ⟨4, ![8, 8, 4096, 128]⟩
abbrev S8x4096x512 : Shape := ⟨3, ![8, 4096, 512]⟩
abbrev S8x4096x8x64 : Shape := ⟨4, ![8, 4096, 8, 64]⟩
abbrev S8x8x4096x64 : Shape := ⟨4, ![8, 8, 4096, 64]⟩
abbrev S_ : Shape := ⟨0, ![]⟩
abbrev S8x8x4096x4096 : Shape := ⟨4, ![8, 8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x8x4096 : Shape := ⟨3, ![8, 8, 4096]⟩
abbrev S8x8x4096x1 : Shape := ⟨4, ![8, 8, 4096, 1]⟩

abbrev nBuf : Space → Nat
  | .hbm => 53
  | .vmem => 0
  | .smem => 0
  | _ => 0

abbrev bufTy : (tb : Table) → Fin (tcTables nBuf tb) → BufTy
  | .hbm, ⟨0, _⟩ => ⟨S8x8x1024x512, .bf16⟩
  | .hbm, ⟨1, _⟩ => ⟨S8x4096x1024, .bf16⟩
  | .hbm, ⟨2, _⟩ => ⟨S8x8x512x512, .bf16⟩
  | .hbm, ⟨3, _⟩ => ⟨S8x8x512x1024, .bf16⟩
  | .hbm, ⟨4, _⟩ => ⟨S8x4096x1024, .bf16⟩
  | .hbm, ⟨5, _⟩ => ⟨S8x4096x1024, .f32⟩
  | .hbm, ⟨6, _⟩ => ⟨S8x4096x8x128, .f32⟩
  | .hbm, ⟨7, _⟩ => ⟨S8x8x4096x128, .f32⟩
  | .hbm, ⟨8, _⟩ => ⟨S8x8x512x512, .bf16⟩
  | .hbm, ⟨9, _⟩ => ⟨S8x4096x512, .bf16⟩
  | .hbm, ⟨10, _⟩ => ⟨S8x4096x512, .f32⟩
  | .hbm, ⟨11, _⟩ => ⟨S8x4096x8x64, .f32⟩
  | .hbm, ⟨12, _⟩ => ⟨S8x8x4096x64, .f32⟩
  | .hbm, ⟨13, _⟩ => ⟨S8x4096x1024, .f32⟩
  | .hbm, ⟨14, _⟩ => ⟨S8x4096x8x128, .f32⟩
  | .hbm, ⟨15, _⟩ => ⟨S8x8x4096x128, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S8x8x4096x4096, .f32⟩
  | .hbm, ⟨21, _⟩ => ⟨S8x8x4096x4096, .f32⟩
  | .hbm, ⟨22, _⟩ => ⟨S8x8x4096x4096, .f32⟩
  | .hbm, ⟨23, _⟩ => ⟨S4096, .i32⟩
  | .hbm, ⟨24, _⟩ => ⟨S1x4096, .i32⟩
  | .hbm, ⟨25, _⟩ => ⟨S4096, .i32⟩
  | .hbm, ⟨26, _⟩ => ⟨S4096x1, .i32⟩
  | .hbm, ⟨27, _⟩ => ⟨S4096x4096, .i32⟩
  | .hbm, ⟨28, _⟩ => ⟨S4096x4096, .i32⟩
  | .hbm, ⟨29, _⟩ => ⟨S4096x4096, .i1⟩
  | .hbm, ⟨30, _⟩ => ⟨S_, .f32⟩
  | .hbm, ⟨31, _⟩ => ⟨S_, .f32⟩
  | .hbm, ⟨32, _⟩ => ⟨S8x8x4096x4096, .i1⟩
  | .hbm, ⟨33, _⟩ => ⟨S8x8x4096x4096, .f32⟩
  | .hbm, ⟨34, _⟩ => ⟨S8x8x4096x4096, .f32⟩
  | .hbm, ⟨35, _⟩ => ⟨S_, .f32⟩
  | .hbm, ⟨36, _⟩ => ⟨S8x8x4096, .f32⟩
  | .hbm, ⟨37, _⟩ => ⟨S_, .f32⟩
  | .hbm, ⟨38, _⟩ => ⟨S8x8x4096, .f32⟩
  | .hbm, ⟨39, _⟩ => ⟨S8x8x4096, .f32⟩
  | .hbm, ⟨40, _⟩ => ⟨S8x8x4096x1, .f32⟩
  | .hbm, ⟨41, _⟩ => ⟨S8x8x4096x4096, .f32⟩
  | .hbm, ⟨42, _⟩ => ⟨S8x8x4096x4096, .f32⟩
  | .hbm, ⟨43, _⟩ => ⟨S8x8x4096x4096, .f32⟩
  | .hbm, ⟨44, _⟩ => ⟨S_, .f32⟩
  | .hbm, ⟨45, _⟩ => ⟨S8x8x4096, .f32⟩
  | .hbm, ⟨46, _⟩ => ⟨S8x8x4096x1, .f32⟩
  | .hbm, ⟨47, _⟩ => ⟨S8x8x4096x4096, .f32⟩
  | .hbm, ⟨48, _⟩ => ⟨S8x8x4096x4096, .f32⟩
  | .hbm, ⟨49, _⟩ => ⟨S8x8x4096x64, .f32⟩
  | .hbm, ⟨50, _⟩ => ⟨S8x4096x8x64, .f32⟩
  | .hbm, ⟨51, _⟩ => ⟨S8x4096x512, .f32⟩
  | .hbm, ⟨52, _⟩ => ⟨S8x4096x512, .bf16⟩
  | _, _ => ⟨S8x8x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_1 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]
-- ==== Kernel2.lean ====
abbrev S32768x1024 : Shape := ⟨2, ![32768, 1024]⟩
abbrev S1x1024 : Shape := ⟨2, ![1, 1024]⟩
abbrev S1024x5632 : Shape := ⟨2, ![1024, 5632]⟩
abbrev S2816x1024 : Shape := ⟨2, ![2816, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩
abbrev S1024x768 : Shape := ⟨2, ![1024, 768]⟩
abbrev S512x768 : Shape := ⟨2, ![512, 768]⟩
abbrev S768x1024 : Shape := ⟨2, ![768, 1024]⟩

abbrev nBuf : Space → Nat
  | .hbm => 5
  | .vmem => 7
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x5632, .bf16⟩
  | .hbm, ⟨3, _⟩ => ⟨S2816x1024, .bf16⟩
  | .hbm, ⟨4, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S512x1024, .f32⟩
  | .local _ .vmem, ⟨6, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S32768x1024 : Shape := ⟨2, ![32768, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S32768x5632 : Shape := ⟨2, ![32768, 5632]⟩
abbrev S32768x2816 : Shape := ⟨2, ![32768, 2816]⟩

abbrev nBuf : Space → Nat
  | .hbm => 39
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x5632, .bf16⟩
  | .hbm, ⟨3, _⟩ => ⟨S2816x1024, .bf16⟩
  | .hbm, ⟨4, _⟩ => ⟨S32768x1024, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S1024x5632, .f32⟩
  | .hbm, ⟨20, _⟩ => ⟨S32768x5632, .f32⟩
  | .hbm, ⟨21, _⟩ => ⟨S32768x2816, .f32⟩
  | .hbm, ⟨22, _⟩ => ⟨S32768x2816, .f32⟩
  | .hbm, ⟨23, _⟩ => ⟨S32768x2816, .f32⟩
  | .hbm, ⟨24, _⟩ => ⟨S32768x2816, .f32⟩
  | .hbm, ⟨25, _⟩ => ⟨S_, .f32⟩
  | .hbm, ⟨26, _⟩ => ⟨S32768x2816, .f32⟩
  | .hbm, ⟨27, _⟩ => ⟨S32768x2816, .f32⟩
  | .hbm, ⟨28, _⟩ => ⟨S_, .f32⟩
  | .hbm, ⟨29, _⟩ => ⟨S32768x2816, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S2816x1024, .f32⟩
  | .hbm, ⟨34, _⟩ => ⟨S32768x1024, .f32⟩
  | .hbm, ⟨35, _⟩ => ⟨S_, .f32⟩
  | .hbm, ⟨36, _⟩ => ⟨S32768x1024, .f32⟩
  | .hbm, ⟨37, _⟩ => ⟨S32768x1024, .f32⟩
  | .hbm, ⟨38, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩

abbrev nD : Nat := 1
abbrev τ : Topo := Topo.v7x

variable {F : FTy → Type} [FloatOps F]
-- ==== Kernel3.lean ====
abbrev S32768x1024 : Shape := ⟨2, ![32768, 1024]⟩
abbrev S1x1024 : Shape := ⟨2, ![1, 1024]⟩
abbrev S1024x2048 : Shape := ⟨2, ![1024, 2048]⟩
abbrev S32768x512 : Shape := ⟨2, ![32768, 512]⟩
abbrev S512x1024 : Shape := ⟨2, ![512, 1024]⟩
abbrev S1024x1024 : Shape := ⟨2, ![1024, 1024]⟩
abbrev S1024x5632 : Shape := ⟨2, ![1024, 5632]⟩
abbrev S2816x1024 : Shape := ⟨2, ![2816, 1024]⟩
abbrev S32768x256 : Shape := ⟨2, ![32768, 256]⟩
abbrev S256x1024 : Shape := ⟨2, ![256, 1024]⟩
abbrev S512x512 : Shape := ⟨2, ![512, 512]⟩
abbrev S512x256 : Shape := ⟨2, ![512, 256]⟩
abbrev S512 : Shape := ⟨1, ![512]⟩
abbrev S512x1 : Shape := ⟨2, ![512, 1]⟩
abbrev S512x2048 : Shape := ⟨2, ![512, 2048]⟩
abbrev S1024x768 : Shape := ⟨2, ![1024, 768]⟩
abbrev S512x768 : Shape := ⟨2, ![512, 768]⟩
abbrev S768x1024 : Shape := ⟨2, ![768, 1024]⟩

abbrev nBuf : Space → Nat
  | .hbm => 16
  | .vmem => 21
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x2048, .bf16⟩
  | .hbm, ⟨3, _⟩ => ⟨S32768x512, .bf16⟩
  | .hbm, ⟨4, _⟩ => ⟨S32768x512, .bf16⟩
  | .hbm, ⟨5, _⟩ => ⟨S512x1024, .bf16⟩
  | .hbm, ⟨6, _⟩ => ⟨S512x1024, .bf16⟩
  | .hbm, ⟨7, _⟩ => ⟨S1024x1024, .bf16⟩
  | .hbm, ⟨8, _⟩ => ⟨S1x1024, .f32⟩
  | .hbm, ⟨9, _⟩ => ⟨S1024x5632, .bf16⟩
  | .hbm, ⟨10, _⟩ => ⟨S2816x1024, .bf16⟩
  | .hbm, ⟨11, _⟩ => ⟨S32768x256, .f32⟩
  | .hbm, ⟨12, _⟩ => ⟨S1x1024, .f32⟩
  | .hbm, ⟨13, _⟩ => ⟨S1024x1024, .bf16⟩
  | .hbm, ⟨14, _⟩ => ⟨S256x1024, .bf16⟩
  | .hbm, ⟨15, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x5632, .bf16⟩
  | .local _ .vmem, ⟨13, _⟩ => ⟨S2816x1024, .bf16⟩
  | .local _ .vmem, ⟨14, _⟩ => ⟨S512x256, .f32⟩
  | .local _ .vmem, ⟨15, _⟩ => ⟨S512x256, .f32⟩
  | .local _ .vmem, ⟨16, _⟩ => ⟨S1x1024, .f32⟩
  | .local _ .vmem, ⟨17, _⟩ => ⟨S1024x1024, .bf16⟩
  | .local _ .vmem, ⟨18, _⟩ => ⟨S256x1024, .bf16⟩
  | .local _ .vmem, ⟨19, _⟩ => ⟨S512x1024, .f32⟩
  | .local _ .vmem, ⟨20, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x5632 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference3Ideal.lean ====
abbrev S32768x1024 : Shape := ⟨2, ![32768, 1024]⟩
abbrev S1x1024 : Shape := ⟨2, ![1, 1024]⟩
abbrev S1024x2048 : Shape := ⟨2, ![1024, 2048]⟩
abbrev S32768x512 : Shape := ⟨2, ![32768, 512]⟩
abbrev S512x1024 : Shape := ⟨2, ![512, 1024]⟩
abbrev S1024x1024 : Shape := ⟨2, ![1024, 1024]⟩
abbrev S1024x5632 : Shape := ⟨2, ![1024, 5632]⟩
abbrev S2816x1024 : Shape := ⟨2, ![2816, 1024]⟩
abbrev S32768x256 : Shape := ⟨2, ![32768, 256]⟩
abbrev S256x1024 : Shape := ⟨2, ![256, 1024]⟩
abbrev S_ : Shape := ⟨0, ![]⟩
abbrev S32768 : Shape := ⟨1, ![32768]⟩
abbrev S32768x1 : Shape := ⟨2, ![32768, 1]⟩
abbrev S32768x2048 : Shape := ⟨2, ![32768, 2048]⟩
abbrev S32768x5632 : Shape := ⟨2, ![32768, 5632]⟩
abbrev S32768x2816 : Shape := ⟨2, ![32768, 2816]⟩

abbrev nBuf : Space → Nat
  | .hbm => 118
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x2048, .bf16⟩
  | .hbm, ⟨3, _⟩ => ⟨S32768x512, .bf16⟩
  | .hbm, ⟨4, _⟩ => ⟨S32768x512, .bf16⟩
  | .hbm, ⟨5, _⟩ => ⟨S512x1024, .bf16⟩
  | .hbm, ⟨6, _⟩ => ⟨S512x1024, .bf16⟩
  | .hbm, ⟨7, _⟩ => ⟨S1024x1024, .bf16⟩
  | .hbm, ⟨8, _⟩ => ⟨S1x1024, .f32⟩
  | .hbm, ⟨9, _⟩ => ⟨S1024x5632, .bf16⟩
  | .hbm, ⟨10, _⟩ => ⟨S2816x1024, .bf16⟩
  | .hbm, ⟨11, _⟩ => ⟨S32768x256, .f32⟩
  | .hbm, ⟨12, _⟩ => ⟨S1x1024, .f32⟩
  | .hbm, ⟨13, _⟩ => ⟨S1024x1024, .bf16⟩
  | .hbm, ⟨14, _⟩ => ⟨S256x1024, .bf16⟩
  | .hbm, ⟨15, _⟩ => ⟨S32768x1024, .f32⟩
  | .hbm, ⟨16, _⟩ => ⟨S_, .f32⟩
  | .hbm, ⟨17, _⟩ => ⟨S32768, .f32⟩
  | .hbm, ⟨18, _⟩ => ⟨S32768x1, .f32⟩
  | .hbm, ⟨19, _⟩ => ⟨S_, .f32⟩
  | .hbm, ⟨20, _⟩ => ⟨S32768x1, .f32⟩
  | .hbm, ⟨21, _⟩ => ⟨S32768x1, .f32⟩
  | .hbm, ⟨22, _⟩ => ⟨S_, .f32⟩
  | .hbm, ⟨23, _⟩ => ⟨S32768x1, .f32⟩
  | .hbm, ⟨24, _⟩ => ⟨S32768x1, .f32⟩
  | .hbm, ⟨25, _⟩ => ⟨S32768x1, .f32⟩
  | .hbm, ⟨26, _⟩ => ⟨S32768x1024, .f32⟩
  | .hbm, ⟨27, _⟩ => ⟨S32768x1024, .f32⟩
  | .hbm, ⟨28, _⟩ => ⟨S32768x1024, .f32⟩
  | .hbm, ⟨29, _⟩ => ⟨S32768x1024, .f32⟩
  | .hbm, ⟨30, _⟩ => ⟨S1024x2048, .f32⟩
  | .hbm, ⟨31, _⟩ => ⟨S32768x2048, .f32⟩
  | .hbm, ⟨32, _⟩ => ⟨S32768x2048, .f32⟩
  | .hbm, ⟨33, _⟩ => ⟨S32768x2048, .f32⟩
  | .hbm, ⟨34, _⟩ => ⟨S_, .f32⟩
  | .hbm, ⟨35, _⟩ => ⟨S32768x2048, .f32⟩
  | .hbm, ⟨36, _⟩ => ⟨S32768x2048, .f32⟩
  | .hbm, ⟨37, _⟩ => ⟨S_, .f32⟩
  | .hbm, ⟨38, _⟩ => ⟨S32768x2048, .f32⟩
  | .hbm, ⟨39, _⟩ => ⟨S32768x2048, .f32⟩
  | .hbm, ⟨40, _⟩ => ⟨S32768x1024, .f32⟩
  | .hbm, ⟨41, _⟩ => ⟨S32768x1024, .f32⟩
  | .hbm, ⟨42, _⟩ => ⟨S32768x512, .f32⟩
  | .hbm, ⟨43, _⟩ => ⟨S512x1024, .f32⟩
  | .hbm, ⟨44, _⟩ => ⟨S32768x1024, .f32⟩
  | .hbm, ⟨45, _⟩ => ⟨S32768x1024, .f32⟩
  | .hbm, ⟨46, _⟩ => ⟨S32768x512, .f32⟩
  | .hbm, ⟨47, _⟩ => ⟨S512x1024, .f32⟩
  | .hbm, ⟨48, _⟩ => ⟨S32768x1024, .f32⟩
  | .hbm, ⟨49, _⟩ => ⟨S32768x1024, .f32⟩
  | .hbm, ⟨50, _⟩ => ⟨S32768x1024, .f32⟩
  | .hbm, ⟨51, _⟩ => ⟨S1024x1024, .f32⟩
  | .hbm, ⟨52, _⟩ => ⟨S32768x1024, .f32⟩
  | .hbm, ⟨53, _⟩ => ⟨S32768x1024, .f32⟩
  | .hbm, ⟨54, _⟩ => ⟨S32768x1024, .f32⟩
  | .hbm, ⟨55, _⟩ => ⟨S_, .f32⟩
  | .hbm, ⟨56, _⟩ => ⟨S32768, .f32⟩
  | .hbm, ⟨57, _⟩ => ⟨S32768x1, .f32⟩
  | .hbm, ⟨58, _⟩ => ⟨S_, .f32⟩
  | .hbm, ⟨59, _⟩ => ⟨S32768x1, .f32⟩
  | .hbm, ⟨60, _⟩ => ⟨S32768x1, .f32⟩
  | .hbm, ⟨61, _⟩ => ⟨S_, .f32⟩
  | .hbm, ⟨62, _⟩ => ⟨S32768x1, .f32⟩
  | .hbm, ⟨63, _⟩ => ⟨S32768x1, .f32⟩
  | .hbm, ⟨64, _⟩ => ⟨S32768x1, .f32⟩
  | .hbm, ⟨65, _⟩ => ⟨S32768x1024, .f32⟩
  | .hbm, ⟨66, _⟩ => ⟨S32768x1024, .f32⟩
  | .hbm, ⟨67, _⟩ => ⟨S32768x1024, .f32⟩
  | .hbm, ⟨68, _⟩ => ⟨S32768x1024, .f32⟩
  | .hbm, ⟨69, _⟩ => ⟨S1024x5632, .f32⟩
  | .hbm, ⟨70, _⟩ => ⟨S32768x5632, .f32⟩
  | .hbm, ⟨71, _⟩ => ⟨S32768x2816, .f32⟩
  | .hbm, ⟨72, _⟩ => ⟨S32768x2816, .f32⟩
  | .hbm, ⟨73, _⟩ => ⟨S32768x2816, .f32⟩
  | .hbm, ⟨74, _⟩ => ⟨S32768x2816, .f32⟩
  | .hbm, ⟨75, _⟩ => ⟨S_, .f32⟩
  | .hbm, ⟨76, _⟩ => ⟨S32768x2816, .f32⟩
  | .hbm, ⟨77, _⟩ => ⟨S32768x2816, .f32⟩
  | .hbm, ⟨78, _⟩ => ⟨S_, .f32⟩
  | .hbm, ⟨79, _⟩ => ⟨S32768x2816, .f32⟩
  | .hbm, ⟨80, _⟩ => ⟨S32768x2816, .f32⟩
  | .hbm, ⟨81, _⟩ => ⟨S32768x2816, .f32⟩
  | .hbm, ⟨82, _⟩ => ⟨S32768x2816, .f32⟩
  | .hbm, ⟨83, _⟩ => ⟨S2816x1024, .f32⟩
  | .hbm, ⟨84, _⟩ => ⟨S32768x1024, .f32⟩
  | .hbm, ⟨85, _⟩ => ⟨S_, .f32⟩
  | .hbm, ⟨86, _⟩ => ⟨S32768x1024, .f32⟩
  | .hbm, ⟨87, _⟩ => ⟨S32768x1024, .f32⟩
  | .hbm, ⟨88, _⟩ => ⟨S32768x1024, .f32⟩
  | .hbm, ⟨89, _⟩ => ⟨S32768x1024, .f32⟩
  | .hbm, ⟨90, _⟩ => ⟨S_, .f32⟩
  | .hbm, ⟨91, _⟩ => ⟨S32768, .f32⟩
  | .hbm, ⟨92, _⟩ => ⟨S32768x1, .f32⟩
  | .hbm, ⟨93, _⟩ => ⟨S_, .f32⟩
  | .hbm, ⟨94, _⟩ => ⟨S32768x1, .f32⟩
  | .hbm, ⟨95, _⟩ => ⟨S32768x1, .f32⟩
  | .hbm, ⟨96, _⟩ => ⟨S_, .f32⟩
  | .hbm, ⟨97, _⟩ => ⟨S32768x1, .f32⟩
  | .hbm, ⟨98, _⟩ => ⟨S32768x1, .f32⟩
  | .hbm, ⟨99, _⟩ => ⟨S32768x1, .f32⟩
  | .hbm, ⟨100, _⟩ => ⟨S32768x1024, .f32⟩
  | .hbm, ⟨101, _⟩ => ⟨S32768x1024, .f32⟩
  | .hbm, ⟨102, _⟩ => ⟨S32768x1024, .f32⟩
  | .hbm, ⟨103, _⟩ => ⟨S32768x1024, .f32⟩
  | .hbm, ⟨104, _⟩ => ⟨S1024x1024, .f32⟩
  | .hbm, ⟨105, _⟩ => ⟨S32768x1024, .f32⟩
  | .hbm, ⟨106, _⟩ => ⟨S32768x1024, .f32⟩
  | .hbm, ⟨107, _⟩ => ⟨S32768x1024, .f32⟩
  | .hbm, ⟨108, _⟩ => ⟨S_, .f32⟩
  | .hbm, ⟨109, _⟩ => ⟨S32768x1024, .f32⟩
  | .hbm, ⟨110, _⟩ => ⟨S32768x1024, .f32⟩
  | .hbm, ⟨111, _⟩ => ⟨S_, .f32⟩
  | .hbm, ⟨112, _⟩ => ⟨S32768x1024, .f32⟩
  | .hbm, ⟨113, _⟩ => ⟨S32768x1024, .f32⟩
  | .hbm, ⟨114, _⟩ => ⟨S256x1024, .f32⟩
  | .hbm, ⟨115, _⟩ => ⟨S32768x1024, .f32⟩
  | .hbm, ⟨116, _⟩ => ⟨S32768x1024, .f32⟩
  | .hbm, ⟨117, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_cst_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_2 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_4 : Ref sig .tc := ⟨.hbm, 55, rfl⟩
abbrev main_v35 : Ref sig .tc := ⟨.hbm, 56, rfl⟩
abbrev main_v36 : Ref sig .tc := ⟨.hbm, 57, rfl⟩
abbrev main_cst_5 : Ref sig .tc := ⟨.hbm, 58, rfl⟩
abbrev main_v37 : Ref sig .tc := ⟨.hbm, 59, rfl⟩
abbrev main_v38 : Ref sig .tc := ⟨.hbm, 60, rfl⟩
abbrev main_cst_6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_call0_v0 : Ref sig .tc := ⟨.hbm, 73, rfl⟩
abbrev main_call0_v1 : Ref sig .tc := ⟨.hbm, 74, rfl⟩
abbrev main_call0_cst : Ref sig .tc := ⟨.hbm, 75, rfl⟩
abbrev main_call0_v2 : Ref sig .tc := ⟨.hbm, 76, rfl⟩
abbrev main_call0_v3 : Ref sig .tc := ⟨.hbm, 77, rfl⟩
abbrev main_call0_cst_0 : Ref sig .tc := ⟨.hbm, 78, rfl⟩
abbrev main_call0_v4 : Ref sig .tc := ⟨.hbm, 79, rfl⟩
abbrev main_call0_v5 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_7 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_8 : Ref sig .tc := ⟨.hbm, 90, rfl⟩
abbrev main_v58 : Ref sig .tc := ⟨.hbm, 91, rfl⟩
abbrev main_v59 : Ref sig .tc := ⟨.hbm, 92, rfl⟩
abbrev main_cst_9 : Ref sig .tc := ⟨.hbm, 93, rfl⟩
abbrev main_v60 : Ref sig .tc := ⟨.hbm, 94, rfl⟩
abbrev main_v61 : Ref sig .tc := ⟨.hbm, 95, rfl⟩
abbrev main_cst_10 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_11 : Ref sig .tc := ⟨.hbm, 108, rfl⟩
abbrev main_v73 : Ref sig .tc := ⟨.hbm, 109, rfl⟩
abbrev main_v74 : Ref sig .tc := ⟨.hbm, 110, rfl⟩
abbrev main_cst_12 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩

abbrev nD : Nat := 1
abbrev τ : Topo := Topo.v7x

variable {F : FTy → Type} [FloatOps F]
-- ==== Kernel4.lean ====
abbrev S32768x1024 : Shape := ⟨2, ![32768, 1024]⟩
abbrev S1x1024 : Shape := ⟨2, ![1, 1024]⟩
abbrev S1024x768 : Shape := ⟨2, ![1024, 768]⟩
abbrev S1024x1536 : Shape := ⟨2, ![1024, 1536]⟩
abbrev S1x384 : Shape := ⟨2, ![1, 384]⟩
abbrev S384x1024 : Shape := ⟨2, ![384, 1024]⟩
abbrev S1x256 : Shape := ⟨2, ![1, 256]⟩
abbrev S256x1536 : Shape := ⟨2, ![256, 1536]⟩
abbrev S128x1 : Shape := ⟨2, ![128, 1]⟩
abbrev S64x16x512 : Shape := ⟨3, ![64, 16, 512]⟩
abbrev S64x1024x512 : Shape := ⟨3, ![64, 1024, 512]⟩
abbrev S64x512x512 : Shape := ⟨3, ![64, 512, 512]⟩
abbrev S128x512x256 : Shape := ⟨3, ![128, 512, 256]⟩
abbrev S32768x512 : Shape := ⟨2, ![32768, 512]⟩
abbrev S1024x1024 : Shape := ⟨2, ![1024, 1024]⟩
abbrev S2x16x512 : Shape := ⟨3, ![2, 16, 512]⟩
abbrev S2x1024x512 : Shape := ⟨3, ![2, 1024, 512]⟩
abbrev S2x512x512 : Shape := ⟨3, ![2, 512, 512]⟩
abbrev S4x512x256 : Shape := ⟨3, ![4, 512, 256]⟩
abbrev S1024x512 : Shape := ⟨2, ![1024, 512]⟩
abbrev S1024 : Shape := ⟨1, ![1024]⟩
abbrev S1024x1 : Shape := ⟨2, ![1024, 1]⟩
abbrev S256x512 : Shape := ⟨2, ![256, 512]⟩
abbrev S512x256 : Shape := ⟨2, ![512, 256]⟩
abbrev S1x512x256 : Shape := ⟨3, ![1, 512, 256]⟩
abbrev S1024x384 : Shape := ⟨2, ![1024, 384]⟩
abbrev S1024x256 : Shape := ⟨2, ![1024, 256]⟩
abbrev S1024x128 : Shape := ⟨2, ![1024, 128]⟩
abbrev S512x512 : Shape := ⟨2, ![512, 512]⟩
abbrev S1x512x512 : Shape := ⟨3, ![1, 512, 512]⟩
abbrev S512x128 : Shape := ⟨2, ![512, 128]⟩
abbrev S128x512 : Shape := ⟨2, ![128, 512]⟩
abbrev S1x16x512 : Shape := ⟨3, ![1, 16, 512]⟩
abbrev S16x512 : Shape := ⟨2, ![16, 512]⟩
abbrev S512 : Shape := ⟨1, ![512]⟩
abbrev S1x512 : Shape := ⟨2, ![1, 512]⟩
abbrev S64x512 : Shape := ⟨2, ![64, 512]⟩
abbrev S32x512 : Shape := ⟨2, ![32, 512]⟩
abbrev S1x128x512 : Shape := ⟨3, ![1, 128, 512]⟩

abbrev nBuf : Space → Nat
  | .hbm => 18
  | .vmem => 27
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x768, .bf16⟩
  | .hbm, ⟨3, _⟩ => ⟨S1024x1536, .bf16⟩
  | .hbm, ⟨4, _⟩ => ⟨S1x384, .f32⟩
  | .hbm, ⟨5, _⟩ => ⟨S384x1024, .bf16⟩
  | .hbm, ⟨6, _⟩ => ⟨S1x256, .f32⟩
  | .hbm, ⟨7, _⟩ => ⟨S256x1536, .bf16⟩
  | .hbm, ⟨8, _⟩ => ⟨S128x1, .f32⟩
  | .hbm, ⟨9, _⟩ => ⟨S128x1, .f32⟩
  | .hbm, ⟨10, _⟩ => ⟨S64x16x512, .f32⟩
  | .hbm, ⟨11, _⟩ => ⟨S64x16x512, .f32⟩
  | .hbm, ⟨12, _⟩ => ⟨S64x1024x512, .bf16⟩
  | .hbm, ⟨13, _⟩ => ⟨S32768x1024, .bf16⟩
  | .hbm, ⟨14, _⟩ => ⟨S64x512x512, .bf16⟩
  | .hbm, ⟨15, _⟩ => ⟨S128x512x256, .bf16⟩
  | .hbm, ⟨16, _⟩ => ⟨S32768x512, .bf16⟩
  | .hbm, ⟨17, _⟩ => ⟨S128x512x256, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x768, .bf16⟩
  | .local _ .vmem, ⟨4, _⟩ => ⟨S1024x1536, .bf16⟩
  | .local _ .vmem, ⟨5, _⟩ => ⟨S1x384, .f32⟩
  | .local _ .vmem, ⟨6, _⟩ => ⟨S384x1024, .bf16⟩
  | .local _ .vmem, ⟨7, _⟩ => ⟨S1x256, .f32⟩
  | .local _ .vmem, ⟨8, _⟩ => ⟨S256x1536, .bf16⟩
  | .local _ .vmem, ⟨9, _⟩ => ⟨S128x1, .f32⟩
  | .local _ .vmem, ⟨10, _⟩ => ⟨S128x1, .f32⟩
  | .local _ .vmem, ⟨11, _⟩ => ⟨S2x16x512, .f32⟩
  | .local _ .vmem, ⟨12, _⟩ => ⟨S2x16x512, .f32⟩
  | .local _ .vmem, ⟨13, _⟩ => ⟨S2x16x512, .f32⟩
  | .local _ .vmem, ⟨14, _⟩ => ⟨S2x16x512, .f32⟩
  | .local _ .vmem, ⟨15, _⟩ => ⟨S2x1024x512, .bf16⟩
  | .local _ .vmem, ⟨16, _⟩ => ⟨S2x1024x512, .bf16⟩
  | .local _ .vmem, ⟨17, _⟩ => ⟨S1024x1024, .bf16⟩
  | .local _ .vmem, ⟨18, _⟩ => ⟨S1024x1024, .bf16⟩
  | .local _ .vmem, ⟨19, _⟩ => ⟨S2x512x512, .bf16⟩
  | .local _ .vmem, ⟨20, _⟩ => ⟨S2x512x512, .bf16⟩
  | .local _ .vmem, ⟨21, _⟩ => ⟨S4x512x256, .bf16⟩
  | .local _ .vmem, ⟨22, _⟩ => ⟨S4x512x256, .bf16⟩
  | .local _ .vmem, ⟨23, _⟩ => ⟨S1024x512, .bf16⟩
  | .local _ .vmem, ⟨24, _⟩ => ⟨S1024x512, .bf16⟩
  | .local _ .vmem, ⟨25, _⟩ => ⟨S4x512x256, .bf16⟩
  | .local _ .vmem, ⟨26, _⟩ => ⟨S4x512x256, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1536 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2x16x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x16x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4x512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S4x512x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Kernel4Ideal.lean ====
variable {F : FTy → Type} [FloatOps F] [Named F]
def κ : String → Option EReal := fun
  | "inv384" => some ((384⁻¹ : ℝ) : EReal)
  | "inv96" => some ((96⁻¹ : ℝ) : EReal)
  | _ => none
-- ==== Reference4Ideal.lean ====
abbrev S32768x1024 : Shape := ⟨2, ![32768, 1024]⟩
abbrev S1x1024 : Shape := ⟨2, ![1, 1024]⟩
abbrev S1024x768 : Shape := ⟨2, ![1024, 768]⟩
abbrev S1024x1536 : Shape := ⟨2, ![1024, 1536]⟩
abbrev S1x384 : Shape := ⟨2, ![1, 384]⟩
abbrev S384x1024 : Shape := ⟨2, ![384, 1024]⟩
abbrev S1x256 : Shape := ⟨2, ![1, 256]⟩
abbrev S256x1536 : Shape := ⟨2, ![256, 1536]⟩
abbrev S128x1 : Shape := ⟨2, ![128, 1]⟩
abbrev S64x16x512 : Shape := ⟨3, ![64, 16, 512]⟩
abbrev S_ : Shape := ⟨0, ![]⟩
abbrev S32768 : Shape := ⟨1, ![32768]⟩
abbrev S32768x1 : Shape := ⟨2, ![32768, 1]⟩
abbrev S32768x768 : Shape := ⟨2, ![32768, 768]⟩
abbrev S32768x384 : Shape := ⟨2, ![32768, 384]⟩
abbrev S32768x256 : Shape := ⟨2, ![32768, 256]⟩
abbrev S32768x128 : Shape := ⟨2, ![32768, 128]⟩
abbrev S32768x1536 : Shape := ⟨2, ![32768, 1536]⟩
abbrev S32768x512 : Shape := ⟨2, ![32768, 512]⟩
abbrev S32768x8x128 : Shape := ⟨3, ![32768, 8, 128]⟩
abbrev S32768x1x128 : Shape := ⟨3, ![32768, 1, 128]⟩
abbrev S64x512x16 : Shape := ⟨3, ![64, 512, 16]⟩
abbrev S32768x1x16 : Shape := ⟨3, ![32768, 1, 16]⟩
abbrev S32768x8 : Shape := ⟨2, ![32768, 8]⟩
abbrev S32768x8x1 : Shape := ⟨3, ![32768, 8, 1]⟩
abbrev S128 : Shape := ⟨1, ![128]⟩
abbrev S1x1x128 : Shape := ⟨3, ![1, 1, 128]⟩
abbrev S32768x8x64 : Shape := ⟨3, ![32768, 8, 64]⟩
abbrev S32768x8x16 : Shape := ⟨3, ![32768, 8, 16]⟩
abbrev S32768x8x32 : Shape := ⟨3, ![32768, 8, 32]⟩
abbrev S64x512x1024 : Shape := ⟨3, ![64, 512, 1024]⟩
abbrev S64x1024x512 : Shape := ⟨3, ![64, 1024, 512]⟩
abbrev S64x512x512 : Shape := ⟨3, ![64, 512, 512]⟩
abbrev S128x256x512 : Shape := ⟨3, ![128, 256, 512]⟩
abbrev S128x512x256 : Shape := ⟨3, ![128, 512, 256]⟩

abbrev nBuf : Space → Nat
  | .hbm => 165
  | .vmem => 0
  | .smem => 0
  | _ => 0

abbrev hbmTy0_0 (i : Nat) : BufTy := match i % 128 with
  | 0 => ⟨S32768x1024, .f32⟩
  | 1 => ⟨S1x1024, .f32⟩
  | 2 => ⟨S1024x768, .bf16⟩
  | 3 => ⟨S1024x1536, .bf16⟩
  | 4 => ⟨S1x384, .f32⟩
  | 5 => ⟨S384x1024, .bf16⟩
  | 6 => ⟨S1x256, .f32⟩
  | 7 => ⟨S256x1536, .bf16⟩
  | 8 => ⟨S128x1, .f32⟩
  | 9 => ⟨S128x1, .f32⟩
  | 10 => ⟨S64x16x512, .f32⟩
  | 11 => ⟨S64x16x512, .f32⟩
  | 12 => ⟨S32768x1024, .f32⟩
  | 13 => ⟨S_, .f32⟩
  | 14 => ⟨S32768, .f32⟩
  | 15 => ⟨S32768x1, .f32⟩
  | 16 => ⟨S_, .f32⟩
  | 17 => ⟨S32768x1, .f32⟩
  | 18 => ⟨S32768x1, .f32⟩
  | 19 => ⟨S_, .f32⟩
  | 20 => ⟨S32768x1, .f32⟩
  | 21 => ⟨S32768x1, .f32⟩
  | 22 => ⟨S32768x1, .f32⟩
  | 23 => ⟨S32768x1024, .f32⟩
  | 24 => ⟨S32768x1024, .f32⟩
  | 25 => ⟨S32768x1024, .f32⟩
  | 26 => ⟨S32768x1024, .f32⟩
  | 27 => ⟨S1024x768, .f32⟩
  | 28 => ⟨S32768x768, .f32⟩
  | 29 => ⟨S32768x384, .f32⟩
  | 30 => ⟨S32768x256, .f32⟩
  | 31 => ⟨S32768x128, .f32⟩
  | 32 => ⟨S1024x1536, .f32⟩
  | 33 => ⟨S32768x1536, .f32⟩
  | 34 => ⟨S32768x512, .f32⟩
  | 35 => ⟨S32768x512, .f32⟩
  | 36 => ⟨S32768x512, .f32⟩
  | 37 => ⟨S32768x384, .f32⟩
  | 38 => ⟨S_, .f32⟩
  | 39 => ⟨S32768, .f32⟩
  | 40 => ⟨S32768x1, .f32⟩
  | 41 => ⟨S_, .f32⟩
  | 42 => ⟨S32768x1, .f32⟩
  | 43 => ⟨S32768x1, .f32⟩
  | 44 => ⟨S_, .f32⟩
  | 45 => ⟨S32768x1, .f32⟩
  | 46 => ⟨S32768x1, .f32⟩
  | 47 => ⟨S32768x1, .f32⟩
  | 48 => ⟨S32768x384, .f32⟩
  | 49 => ⟨S32768x384, .f32⟩
  | 50 => ⟨S32768x384, .f32⟩
  | 51 => ⟨S32768x384, .f32⟩
  | 52 => ⟨S384x1024, .f32⟩
  | 53 => ⟨S32768x1024, .f32⟩
  | 54 => ⟨S32768x8x128, .f32⟩
  | 55 => ⟨S32768x256, .f32⟩
  | 56 => ⟨S_, .f32⟩
  | 57 => ⟨S32768, .f32⟩
  | 58 => ⟨S32768x1, .f32⟩
  | 59 => ⟨S_, .f32⟩
  | 60 => ⟨S32768x1, .f32⟩
  | 61 => ⟨S32768x1, .f32⟩
  | 62 => ⟨S_, .f32⟩
  | 63 => ⟨S32768x1, .f32⟩
  | 64 => ⟨S32768x1, .f32⟩
  | 65 => ⟨S32768x1, .f32⟩
  | 66 => ⟨S32768x256, .f32⟩
  | 67 => ⟨S32768x256, .f32⟩
  | 68 => ⟨S32768x256, .f32⟩
  | 69 => ⟨S32768x256, .f32⟩
  | 70 => ⟨S256x1536, .f32⟩
  | 71 => ⟨S32768x1536, .f32⟩
  | 72 => ⟨S32768x1024, .f32⟩
  | 73 => ⟨S32768x512, .f32⟩
  | 74 => ⟨S32768x8x128, .f32⟩
  | 75 => ⟨S32768x1x128, .f32⟩
  | 76 => ⟨S32768x8x128, .f32⟩
  | 77 => ⟨S32768x8x128, .f32⟩
  | 78 => ⟨S64x512x16, .f32⟩
  | 79 => ⟨S32768x1x16, .f32⟩
  | 80 => ⟨S64x512x16, .f32⟩
  | 81 => ⟨S32768x1x16, .f32⟩
  | 82 => ⟨S32768x8x128, .f32⟩
  | 83 => ⟨S_, .f32⟩
  | 84 => ⟨S32768x8, .f32⟩
  | 85 => ⟨S32768x8x1, .f32⟩
  | 86 => ⟨S_, .f32⟩
  | 87 => ⟨S32768x8x1, .f32⟩
  | 88 => ⟨S32768x8x1, .f32⟩
  | 89 => ⟨S_, .f32⟩
  | 90 => ⟨S32768x8x1, .f32⟩
  | 91 => ⟨S32768x8x1, .f32⟩
  | 92 => ⟨S32768x8x1, .f32⟩
  | 93 => ⟨S32768x8x128, .f32⟩
  | 94 => ⟨S32768x8x128, .f32⟩
  | 95 => ⟨S128, .f32⟩
  | 96 => ⟨S1x1x128, .f32⟩
  | 97 => ⟨S32768x8x128, .f32⟩
  | 98 => ⟨S32768x8x128, .f32⟩
  | 99 => ⟨S32768x8x64, .f32⟩
  | 100 => ⟨S32768x8x16, .f32⟩
  | 101 => ⟨S32768x8x16, .f32⟩
  | 102 => ⟨S32768x8x32, .f32⟩
  | 103 => ⟨S32768x8x16, .f32⟩
  | 104 => ⟨S32768x8x16, .f32⟩
  | 105 => ⟨S32768x8x16, .f32⟩
  | 106 => ⟨S32768x8x16, .f32⟩
  | 107 => ⟨S32768x8x16, .f32⟩
  | 108 => ⟨S32768x8x16, .f32⟩
  | 109 => ⟨S32768x8x16, .f32⟩
  | 110 => ⟨S32768x8x16, .f32⟩
  | 111 => ⟨S32768x8x16, .f32⟩
  | 112 => ⟨S32768x8x16, .f32⟩
  | 113 => ⟨S32768x8x128, .f32⟩
  | 114 => ⟨S32768x1024, .f32⟩
  | 115 => ⟨S64x512x1024, .f32⟩
  | 116 => ⟨S64x1024x512, .f32⟩
  | 117 => ⟨S64x1024x512, .bf16⟩
  | 118 => ⟨S32768x8x128, .f32⟩
  | 119 => ⟨S_, .f32⟩
  | 120 => ⟨S32768x8, .f32⟩
  | 121 => ⟨S32768x8x1, .f32⟩
  | 122 => ⟨S_, .f32⟩
  | 123 => ⟨S32768x8x1, .f32⟩
  | 124 => ⟨S32768x8x1, .f32⟩
  | 125 => ⟨S_, .f32⟩
  | 126 => ⟨S32768x8x1, .f32⟩
  | 127 => ⟨S32768x8x1, .f32⟩
  | _ => ⟨S32768x1024, .f32⟩

abbrev hbmTy0_1 (i : Nat) : BufTy := match i % 128 with
  | 0 => ⟨S32768x8x1, .f32⟩
  | 1 => ⟨S32768x8x128, .f32⟩
  | 2 => ⟨S32768x8x128, .f32⟩
  | 3 => ⟨S128, .f32⟩
  | 4 => ⟨S1x1x128, .f32⟩
  | 5 => ⟨S32768x8x128, .f32⟩
  | 6 => ⟨S32768x8x128, .f32⟩
  | 7 => ⟨S32768x8x64, .f32⟩
  | 8 => ⟨S32768x8x16, .f32⟩
  | 9 => ⟨S32768x8x16, .f32⟩
  | 10 => ⟨S32768x8x32, .f32⟩
  | 11 => ⟨S32768x8x16, .f32⟩
  | 12 => ⟨S32768x8x16, .f32⟩
  | 13 => ⟨S32768x8x16, .f32⟩
  | 14 => ⟨S32768x8x16, .f32⟩
  | 15 => ⟨S32768x8x16, .f32⟩
  | 16 => ⟨S32768x8x16, .f32⟩
  | 17 => ⟨S32768x8x16, .f32⟩
  | 18 => ⟨S32768x8x16, .f32⟩
  | 19 => ⟨S32768x8x16, .f32⟩
  | 20 => ⟨S32768x8x16, .f32⟩
  | 21 => ⟨S32768x8x128, .f32⟩
  | 22 => ⟨S32768x1024, .f32⟩
  | 23 => ⟨S32768x1024, .bf16⟩
  | 24 => ⟨S64x512x512, .f32⟩
  | 25 => ⟨S64x512x512, .f32⟩
  | 26 => ⟨S64x512x512, .bf16⟩
  | 27 => ⟨S_, .f32⟩
  | 28 => ⟨S32768x512, .f32⟩
  | 29 => ⟨S32768x512, .f32⟩
  | 30 => ⟨S128x256x512, .f32⟩
  | 31 => ⟨S128x512x256, .f32⟩
  | 32 => ⟨S128x512x256, .bf16⟩
  | 33 => ⟨S32768x512, .bf16⟩
  | 34 => ⟨S128x256x512, .f32⟩
  | 35 => ⟨S128x512x256, .f32⟩
  | 36 => ⟨S128x512x256, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_5 : Ref sig .tc := ⟨.hbm, 56, rfl⟩
abbrev main_v38 : Ref sig .tc := ⟨.hbm, 57, rfl⟩
abbrev main_v39 : Ref sig .tc := ⟨.hbm, 58, rfl⟩
abbrev main_cst_6 : Ref sig .tc := ⟨.hbm, 59, rfl⟩
abbrev main_v40 : Ref sig .tc := ⟨.hbm, 60, rfl⟩
abbrev main_v41 : Ref sig .tc := ⟨.hbm, 61, rfl⟩
abbrev main_cst_7 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_8 : Ref sig .tc := ⟨.hbm, 83, rfl⟩
abbrev main_v62 : Ref sig .tc := ⟨.hbm, 84, rfl⟩
abbrev main_v63 : Ref sig .tc := ⟨.hbm, 85, rfl⟩
abbrev main_cst_9 : Ref sig .tc := ⟨.hbm, 86, rfl⟩
abbrev main_v64 : Ref sig .tc := ⟨.hbm, 87, rfl⟩
abbrev main_v65 : Ref sig .tc := ⟨.hbm, 88, rfl⟩
abbrev main_cst_10 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_cst_11 : Ref sig .tc := ⟨.hbm, 119, rfl⟩
abbrev main_v95 : Ref sig .tc := ⟨.hbm, 120, rfl⟩
abbrev main_v96 : Ref sig .tc := ⟨.hbm, 121, rfl⟩
abbrev main_cst_12 : Ref sig .tc := ⟨.hbm, 122, rfl⟩
abbrev main_v97 : Ref sig .tc := ⟨.hbm, 123, rfl⟩
abbrev main_v98 : Ref sig .tc := ⟨.hbm, 124, rfl⟩
abbrev main_cst_13 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_cst_14 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩

abbrev nD : Nat := 1
abbrev τ : Topo := Topo.v7x

variable {F : FTy → Type} [FloatOps F]
-- ==== Proof.TripIdeal.lean ====
/-
  One trip of the attention's loop.  A trip does two steps of the software pipeline: it writes the scores of the
  next block, adds the weighted values of the block before, and turns the scores of the present block into weights.
  `trA` and `trB` say what a trip leaves as plain functions of what it found, for the two arms of the loop's
  conditional (`trA` where a block may touch the diagonal, `trB` where none does); `trip_A` and `trip_B` run them.
-/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.ReadBack

@[expose] public section

set_option maxRecDepth 16384

noncomputable section

namespace Cert.KernelIdeal.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The four tiles of a score or weight buffer: slot, head of the pair. -/
abbrev T00 : Rect S2x2x512x512 := Rect.unit (s := S2x2x512x512) ![0, 0, 0, 0] ![1, 1, 512, 512] inb_S2x2x512x512_S1x1x512x512_0_0_0_0
abbrev T01 : Rect S2x2x512x512 := Rect.unit (s := S2x2x512x512) ![0, 1, 0, 0] ![1, 1, 512, 512] inb_S2x2x512x512_S1x1x512x512_0_1_0_0
abbrev T10 : Rect S2x2x512x512 := Rect.unit (s := S2x2x512x512) ![1, 0, 0, 0] ![1, 1, 512, 512] inb_S2x2x512x512_S1x1x512x512_1_0_0_0
abbrev T11 : Rect S2x2x512x512 := Rect.unit (s := S2x2x512x512) ![1, 1, 0, 0] ![1, 1, 512, 512] inb_S2x2x512x512_S1x1x512x512_1_1_0_0

/-- What the loop carries beside its two counters, with the two tiles of scores about to be used and the two tiles
    of weights whose values are still to be added: for each head of the pair the tile maxima `t`, the running
    maxima `m`, the running sums `l`, the rescalings `r`, the accumulators `o`, the scores `s`, the weights `w`. -/
structure St (F : FTy → Type) [FloatOps F] where
  t0 : FVec F S1x512 .f32
  t1 : FVec F S1x512 .f32
  m0 : FVec F S1x512 .f32
  m1 : FVec F S1x512 .f32
  l0 : FVec F S1x512 .f32
  l1 : FVec F S1x512 .f32
  r0 : FVec F S1x512 .f32
  r1 : FVec F S1x512 .f32
  o0 : FVec F S64x512 .f32
  o1 : FVec F S64x512 .f32
  s0 : Vec F S1x1x512x512 .f32
  s1 : Vec F S1x1x512x512 .f32
  w0 : Vec F S1x1x512x512 .bf16
  w1 : Vec F S1x1x512x512 .bf16

/-- The carried tuple at counters `i`, `j`. -/
abbrev carry (i j : BitVec 32) (S : St F) : BitVec 32 × BitVec 32 × FVec F S1x512 .f32 × FVec F S1x512 .f32 × FVec F S1x512 .f32 × FVec F S1x512 .f32 × FVec F S1x512 .f32 × FVec F S1x512 .f32 × FVec F S1x512 .f32 × FVec F S1x512 .f32 × FVec F S64x512 .f32 × FVec F S64x512 .f32 :=
  (i, j, S.t0, S.t1, S.m0, S.m1, S.l0, S.l1, S.r0, S.r1, S.o0, S.o1)

theorem carry_mk {i j i' j' : BitVec 32} {S : St F} {t0 t1 m0 m1 l0 l1 r0 r1 : FVec F S1x512 .f32} {o0 o1 : FVec F S64x512 .f32} (hi : i' = i) (hj : j' = j)
    (h0 : t0 = S.t0) (h1 : t1 = S.t1) (h2 : m0 = S.m0) (h3 : m1 = S.m1) (h4 : l0 = S.l0) (h5 : l1 = S.l1) (h6 : r0 = S.r0) (h7 : r1 = S.r1)
    (h8 : o0 = S.o0) (h9 : o1 = S.o1) : (i', j', t0, t1, m0, m1, l0, l1, r0, r1, o0, o1) = carry i j S := by
  subst hi hj h0 h1 h2 h3 h4 h5 h6 h7 h8 h9; rfl

/-- The counters one step on, and two. -/
def nI (i j : BitVec 32) : BitVec 32 := Scalar.select (Scalar.cmpi .eq j i) (Scalar.addi i 1#32) i
def nJ (i j : BitVec 32) : BitVec 32 := Scalar.select (Scalar.cmpi .eq j i) 0#32 (Scalar.addi j 1#32)

section Trip
variable (x2 : Vec F S1x8x256x512 .bf16) (x3 : Vec F S1x4096x256 .bf16) (x4 : Vec F S1x8x128x512 .bf16) (x8 : Vec F S2x512x512 .f32)
  (i j : BitVec 32) (hw : k0_chk1 i j)

/-- The blocks of queries, keys, values and masks a trip loads where a block may touch the diagonal, -/
abbrev qA (h1 : k0_cond1 i j = 1#1) : Fin 4 → Vec F S1x1x128x512 .bf16 := ![
  View.ld x2 (Rect.unit (s := S1x8x256x512) (k0_off5 i j) S1x1x128x512.size (k0_off5_inb i j hw h1)),
  View.ld x2 (Rect.unit (s := S1x8x256x512) (k0_off8 i j) S1x1x128x512.size (k0_off8_inb i j hw h1)),
  View.ld x2 (Rect.unit (s := S1x8x256x512) (k0_off12 i j) S1x1x128x512.size (k0_off12_inb i j hw h1)),
  View.ld x2 (Rect.unit (s := S1x8x256x512) (k0_off15 i j) S1x1x128x512.size (k0_off15_inb i j hw h1))]
abbrev kA (h1 : k0_cond1 i j = 1#1) : Fin 4 → Vec F S1x512x128 .bf16 := ![
  View.ld x3 (Rect.unit (s := S1x4096x256) (k0_off4 i j) S1x512x128.size (k0_off4_inb i j hw h1)),
  View.ld x3 (Rect.unit (s := S1x4096x256) (k0_off7 i j) S1x512x128.size (k0_off7_inb i j hw h1)),
  View.ld x3 (Rect.unit (s := S1x4096x256) (k0_off11 i j) S1x512x128.size (k0_off11_inb i j hw h1)),
  View.ld x3 (Rect.unit (s := S1x4096x256) (k0_off14 i j) S1x512x128.size (k0_off14_inb i j hw h1))]
abbrev vA (h1 : k0_cond1 i j = 1#1) : Fin 4 → Vec F S1x1x64x512 .bf16 := ![
  View.ld x4 (Rect.unit (s := S1x8x128x512) (k0_off9 i j) S1x1x64x512.size (k0_off9_inb i j hw h1)),
  View.ld x4 (Rect.unit (s := S1x8x128x512) (k0_off10 i j) S1x1x64x512.size (k0_off10_inb i j hw h1)),
  View.ld x4 (Rect.unit (s := S1x8x128x512) (k0_off16 i j) S1x1x64x512.size (k0_off16_inb i j hw h1)),
  View.ld x4 (Rect.unit (s := S1x8x128x512) (k0_off17 i j) S1x1x64x512.size (k0_off17_inb i j hw h1))]
abbrev bA (h1 : k0_cond1 i j = 1#1) : Fin 2 → Vec F S1x512x512 .f32 := ![
  View.ld x8 (Rect.unit (s := S2x512x512) (k0_off6 i j) S1x512x512.size (k0_off6_inb i j hw h1)),
  View.ld x8 (Rect.unit (s := S2x512x512) (k0_off13 i j) S1x512x512.size (k0_off13_inb i j hw h1))]

/-- and where none does. -/
abbrev qB (h1 : ¬ k0_cond1 i j = 1#1) : Fin 4 → Vec F S1x1x128x512 .bf16 := ![
  View.ld x2 (Rect.unit (s := S1x8x256x512) (k0_off21 i j) S1x1x128x512.size (k0_off21_inb i j hw h1)),
  View.ld x2 (Rect.unit (s := S1x8x256x512) (k0_off23 i j) S1x1x128x512.size (k0_off23_inb i j hw h1)),
  View.ld x2 (Rect.unit (s := S1x8x256x512) (k0_off27 i j) S1x1x128x512.size (k0_off27_inb i j hw h1)),
  View.ld x2 (Rect.unit (s := S1x8x256x512) (k0_off29 i j) S1x1x128x512.size (k0_off29_inb i j hw h1))]
abbrev kB (h1 : ¬ k0_cond1 i j = 1#1) : Fin 4 → Vec F S1x512x128 .bf16 := ![
  View.ld x3 (Rect.unit (s := S1x4096x256) (k0_off20 i j) S1x512x128.size (k0_off20_inb i j hw h1)),
  View.ld x3 (Rect.unit (s := S1x4096x256) (k0_off22 i j) S1x512x128.size (k0_off22_inb i j hw h1)),
  View.ld x3 (Rect.unit (s := S1x4096x256) (k0_off26 i j) S1x512x128.size (k0_off26_inb i j hw h1)),
  View.ld x3 (Rect.unit (s := S1x4096x256) (k0_off28 i j) S1x512x128.size (k0_off28_inb i j hw h1))]
abbrev vB (h1 : ¬ k0_cond1 i j = 1#1) : Fin 4 → Vec F S1x1x64x512 .bf16 := ![
  View.ld x4 (Rect.unit (s := S1x8x128x512) (k0_off24 i j) S1x1x64x512.size (k0_off24_inb i j hw h1)),
  View.ld x4 (Rect.unit (s := S1x8x128x512) (k0_off25 i j) S1x1x64x512.size (k0_off25_inb i j hw h1)),
  View.ld x4 (Rect.unit (s := S1x8x128x512) (k0_off30 i j) S1x1x64x512.size (k0_off30_inb i j hw h1)),
  View.ld x4 (Rect.unit (s := S1x8x128x512) (k0_off31 i j) S1x1x64x512.size (k0_off31_inb i j hw h1))]
end Trip

/-- One trip where a block may touch the diagonal: what is carried on, and the two blocks of results it may store
    (its first step's and its second step's). -/
def trA (i j : BitVec 32) (q : Fin 4 → Vec F S1x1x128x512 .bf16) (k : Fin 4 → Vec F S1x512x128 .bf16) (v : Fin 4 → Vec F S1x1x64x512 .bf16)
    (b : Fin 2 → Vec F S1x512x512 .f32) (S : St F) : St F × FVec F S1x512x128 .bf16 × FVec F S1x512x128 .bf16 :=
  let v128 := k0_pay15 (k 1) (q 1)
  let v121 := k0_pay14 (k 0) (q 0) (b 0)
  let v139 := k0_pay18 v128 (b 0)
  let v311 := k0_pay13 (k 0) (q 0) (b 0)
  let v331 := k0_pay17 v128 (b 0)
  let v153 := k0_pay19 S.r0 S.o0 (v 0) S.w0
  let v162 := k0_pay20 S.r1 S.o1 (v 1) S.w1
  let v180 := k0_pay23 i j S.m1
  let v181 := k0_pay24 i j S.t0 S.m0
  let v185 := k0_pay25 i j S.t0 S.m0
  let v200 := k0_pay28 i j S.t0 S.m0 S.l0 S.s0
  let p0 := k0_pay27 i j S.t0 S.m0 S.s0
  let p1 := k0_pay32 S.t1 v180 S.s1
  let v201 := k0_pay29 S.t1 v180
  let v205 := k0_pay30 S.t1 v180
  let v220 := k0_pay33 S.t1 S.l1 v180 S.s1
  let v235 := k0_pay34 (k 2) (q 2)
  let v271 := k0_pay41 v153 v185
  let v278 := k0_pay42 v271 (v 2) p0
  let v287 := k0_pay43 v162 v205 (v 3) p1
  let v299 := k0_pay45 (nI i j) (nJ i j) v181
  let v305 := k0_pay46 (nI i j) (nJ i j) v201
  (⟨k0_pay37 v235 (b 1), k0_pay40 (k 3) (q 3) (b 1), k0_pay47 v121 v299, k0_pay52 v139 v305,
    k0_pay51 v121 v200 v299 v311, k0_pay1 (k0_pay54 v139 v305 v331) (k0_pay56 v139 v220 v305), k0_pay48 v121 v299, k0_pay53 v139 v305,
    v278, v287, k0_pay36 v235 (b 1), k0_pay39 (k 3) (q 3) (b 1), k0_pay50 v121 v299 v311, k0_pay55 v139 v305 v331⟩,
   k0_pay2 S.l0 S.l1 v153 v162, k0_pay3 v200 v220 v278 v287)

/-- One trip where no block touches the diagonal. -/
def trB (i j : BitVec 32) (q : Fin 4 → Vec F S1x1x128x512 .bf16) (k : Fin 4 → Vec F S1x512x128 .bf16) (v : Fin 4 → Vec F S1x1x64x512 .bf16)
    (S : St F) : St F × FVec F S1x512x128 .bf16 × FVec F S1x512x128 .bf16 :=
  let v115 := k0_pay59 (k 0) (q 0)
  let v127 := k0_pay63 (k0_pay62 (k 1) (q 1))
  let v287 := k0_pay58 (k 0) (q 0)
  let v307 := k0_pay61 (k 1) (q 1)
  let v141 := k0_pay64 S.r0 S.o0 (v 0) S.w0
  let v150 := k0_pay65 S.r1 S.o1 (v 1) S.w1
  let v156 := k0_pay66 (F := F) i j
  let v158 := k0_pay67 i j S.m0
  let v159 := k0_pay68 (F := F) i j
  let v169 := k0_pay71 S.t0 v158 v159
  let v173 := k0_pay72 S.t0 v158 v159
  let v188 := k0_pay75 S.t0 S.l0 v158 v159 S.s0
  let v189 := k0_pay76 S.t1 S.m1 v156
  let v193 := k0_pay77 S.t1 S.m1 v156
  let v197 := k0_pay78 S.t1 S.m1 v156 S.s1
  let v198 := k0_pay79 (F := F)
  let p0 := k0_pay74 S.t0 v158 v159 S.s0
  let p1 := k0_pay81 v197 v198
  let v208 := k0_pay82 S.l1 v193 v197 v198
  let v231 := k0_pay86 (k 3)
  let v254 := k0_pay90 v141 v173 (v 2) p0
  let v263 := k0_pay91 v150 v193 (v 3) p1
  let v281 := k0_pay94 (nI i j) (nJ i j) v189
  (⟨k0_pay85 (k 2) (q 2), k0_pay89 v231 (q 3), k0_pay95 (nI i j) (nJ i j) v115 v169, k0_pay4 v127 v281,
    k0_pay99 (nI i j) (nJ i j) v115 v169 v188 v287, k0_pay8 v127 v208 v281 v307, k0_pay96 (nI i j) (nJ i j) v115 v169, k0_pay5 v127 v281,
    v254, v263, k0_pay84 (k 2) (q 2), k0_pay88 v231 (q 3), k0_pay98 (nI i j) (nJ i j) v115 v169 v287, k0_pay7 v127 v281 v307⟩,
   k0_pay9 S.l0 S.l1 v141 v150, k0_pay10 v188 v208 v254 v263)

/-- A load of a stored tile, the newest store its own, reads what was stored. -/
theorem readCov_self [∀ e, Nonempty (Elt F e)] {sp : Space} {s : Shape} {e : EltTy} (v : View sig .tc sp s e) (r : Rect s)
    (w : r.shape.Idx → Elt F e) (L : List (View.Piece (Elt F) s e)) :
    v.readCov (⟨r, w⟩ :: L) r.toLoadRect = w :=
  funext fun x => View.read_writes_cons_emb v _ r w L x

/-- A load of one tile is blind to a store of another. -/
theorem skip_00_01 [∀ e, Nonempty (Elt F e)] {sp : Space} {e : EltTy} (v : View sig .tc sp S2x2x512x512 e) (h : ∀ a : Fin 4, (![0, 0, 0, 0] : Fin 4 → ℕ) a + (![1, 1, 512, 512] : Fin 4 → ℕ) a ≤ S2x2x512x512.size a) (h' : ∀ a : Fin 4, (![0, 1, 0, 0] : Fin 4 → ℕ) a + (![1, 1, 512, 512] : Fin 4 → ℕ) a ≤ S2x2x512x512.size a) (w : (Rect.unit (s := S2x2x512x512) ![0, 0, 0, 0] ![1, 1, 512, 512] h).shape.Idx → Elt F e) (L : List (View.Piece (Elt F) S2x2x512x512 e)) :
    v.readCov (⟨(Rect.unit (s := S2x2x512x512) ![0, 0, 0, 0] ![1, 1, 512, 512] h), w⟩ :: L) (Rect.unit (s := S2x2x512x512) ![0, 1, 0, 0] ![1, 1, 512, 512] h').toLoadRect = v.readCov L (Rect.unit (s := S2x2x512x512) ![0, 1, 0, 0] ![1, 1, 512, 512] h').toLoadRect := View.readCov_skip _ _ _ _ _ rfl
theorem skip_00_10 [∀ e, Nonempty (Elt F e)] {sp : Space} {e : EltTy} (v : View sig .tc sp S2x2x512x512 e) (h : ∀ a : Fin 4, (![0, 0, 0, 0] : Fin 4 → ℕ) a + (![1, 1, 512, 512] : Fin 4 → ℕ) a ≤ S2x2x512x512.size a) (h' : ∀ a : Fin 4, (![1, 0, 0, 0] : Fin 4 → ℕ) a + (![1, 1, 512, 512] : Fin 4 → ℕ) a ≤ S2x2x512x512.size a) (w : (Rect.unit (s := S2x2x512x512) ![0, 0, 0, 0] ![1, 1, 512, 512] h).shape.Idx → Elt F e) (L : List (View.Piece (Elt F) S2x2x512x512 e)) :
    v.readCov (⟨(Rect.unit (s := S2x2x512x512) ![0, 0, 0, 0] ![1, 1, 512, 512] h), w⟩ :: L) (Rect.unit (s := S2x2x512x512) ![1, 0, 0, 0] ![1, 1, 512, 512] h').toLoadRect = v.readCov L (Rect.unit (s := S2x2x512x512) ![1, 0, 0, 0] ![1, 1, 512, 512] h').toLoadRect := View.readCov_skip _ _ _ _ _ rfl
theorem skip_00_11 [∀ e, Nonempty (Elt F e)] {sp : Space} {e : EltTy} (v : View sig .tc sp S2x2x512x512 e) (h : ∀ a : Fin 4, (![0, 0, 0, 0] : Fin 4 → ℕ) a + (![1, 1, 512, 512] : Fin 4 → ℕ) a ≤ S2x2x512x512.size a) (h' : ∀ a : Fin 4, (![1, 1, 0, 0] : Fin 4 → ℕ) a + (![1, 1, 512, 512] : Fin 4 → ℕ) a ≤ S2x2x512x512.size a) (w : (Rect.unit (s := S2x2x512x512) ![0, 0, 0, 0] ![1, 1, 512, 512] h).shape.Idx → Elt F e) (L : List (View.Piece (Elt F) S2x2x512x512 e)) :
    v.readCov (⟨(Rect.unit (s := S2x2x512x512) ![0, 0, 0, 0] ![1, 1, 512, 512] h), w⟩ :: L) (Rect.unit (s := S2x2x512x512) ![1, 1, 0, 0] ![1, 1, 512, 512] h').toLoadRect = v.readCov L (Rect.unit (s := S2x2x512x512) ![1, 1, 0, 0] ![1, 1, 512, 512] h').toLoadRect := View.readCov_skip _ _ _ _ _ rfl
theorem skip_01_00 [∀ e, Nonempty (Elt F e)] {sp : Space} {e : EltTy} (v : View sig .tc sp S2x2x512x512 e) (h : ∀ a : Fin 4, (![0, 1, 0, 0] : Fin 4 → ℕ) a + (![1, 1, 512, 512] : Fin 4 → ℕ) a ≤ S2x2x512x512.size a) (h' : ∀ a : Fin 4, (![0, 0, 0, 0] : Fin 4 → ℕ) a + (![1, 1, 512, 512] : Fin 4 → ℕ) a ≤ S2x2x512x512.size a) (w : (Rect.unit (s := S2x2x512x512) ![0, 1, 0, 0] ![1, 1, 512, 512] h).shape.Idx → Elt F e) (L : List (View.Piece (Elt F) S2x2x512x512 e)) :
    v.readCov (⟨(Rect.unit (s := S2x2x512x512) ![0, 1, 0, 0] ![1, 1, 512, 512] h), w⟩ :: L) (Rect.unit (s := S2x2x512x512) ![0, 0, 0, 0] ![1, 1, 512, 512] h').toLoadRect = v.readCov L (Rect.unit (s := S2x2x512x512) ![0, 0, 0, 0] ![1, 1, 512, 512] h').toLoadRect := View.readCov_skip _ _ _ _ _ rfl
theorem skip_01_10 [∀ e, Nonempty (Elt F e)] {sp : Space} {e : EltTy} (v : View sig .tc sp S2x2x512x512 e) (h : ∀ a : Fin 4, (![0, 1, 0, 0] : Fin 4 → ℕ) a + (![1, 1, 512, 512] : Fin 4 → ℕ) a ≤ S2x2x512x512.size a) (h' : ∀ a : Fin 4, (![1, 0, 0, 0] : Fin 4 → ℕ) a + (![1, 1, 512, 512] : Fin 4 → ℕ) a ≤ S2x2x512x512.size a) (w : (Rect.unit (s := S2x2x512x512) ![0, 1, 0, 0] ![1, 1, 512, 512] h).shape.Idx → Elt F e) (L : List (View.Piece (Elt F) S2x2x512x512 e)) :
    v.readCov (⟨(Rect.unit (s := S2x2x512x512) ![0, 1, 0, 0] ![1, 1, 512, 512] h), w⟩ :: L) (Rect.unit (s := S2x2x512x512) ![1, 0, 0, 0] ![1, 1, 512, 512] h').toLoadRect = v.readCov L (Rect.unit (s := S2x2x512x512) ![1, 0, 0, 0] ![1, 1, 512, 512] h').toLoadRect := View.readCov_skip _ _ _ _ _ rfl
theorem skip_01_11 [∀ e, Nonempty (Elt F e)] {sp : Space} {e : EltTy} (v : View sig .tc sp S2x2x512x512 e) (h : ∀ a : Fin 4, (![0, 1, 0, 0] : Fin 4 → ℕ) a + (![1, 1, 512, 512] : Fin 4 → ℕ) a ≤ S2x2x512x512.size a) (h' : ∀ a : Fin 4, (![1, 1, 0, 0] : Fin 4 → ℕ) a + (![1, 1, 512, 512] : Fin 4 → ℕ) a ≤ S2x2x512x512.size a) (w : (Rect.unit (s := S2x2x512x512) ![0, 1, 0, 0] ![1, 1, 512, 512] h).shape.Idx → Elt F e) (L : List (View.Piece (Elt F) S2x2x512x512 e)) :
    v.readCov (⟨(Rect.unit (s := S2x2x512x512) ![0, 1, 0, 0] ![1, 1, 512, 512] h), w⟩ :: L) (Rect.unit (s := S2x2x512x512) ![1, 1, 0, 0] ![1, 1, 512, 512] h').toLoadRect = v.readCov L (Rect.unit (s := S2x2x512x512) ![1, 1, 0, 0] ![1, 1, 512, 512] h').toLoadRect := View.readCov_skip _ _ _ _ _ rfl
theorem skip_10_00 [∀ e, Nonempty (Elt F e)] {sp : Space} {e : EltTy} (v : View sig .tc sp S2x2x512x512 e) (h : ∀ a : Fin 4, (![1, 0, 0, 0] : Fin 4 → ℕ) a + (![1, 1, 512, 512] : Fin 4 → ℕ) a ≤ S2x2x512x512.size a) (h' : ∀ a : Fin 4, (![0, 0, 0, 0] : Fin 4 → ℕ) a + (![1, 1, 512, 512] : Fin 4 → ℕ) a ≤ S2x2x512x512.size a) (w : (Rect.unit (s := S2x2x512x512) ![1, 0, 0, 0] ![1, 1, 512, 512] h).shape.Idx → Elt F e) (L : List (View.Piece (Elt F) S2x2x512x512 e)) :
    v.readCov (⟨(Rect.unit (s := S2x2x512x512) ![1, 0, 0, 0] ![1, 1, 512, 512] h), w⟩ :: L) (Rect.unit (s := S2x2x512x512) ![0, 0, 0, 0] ![1, 1, 512, 512] h').toLoadRect = v.readCov L (Rect.unit (s := S2x2x512x512) ![0, 0, 0, 0] ![1, 1, 512, 512] h').toLoadRect := View.readCov_skip _ _ _ _ _ rfl
theorem skip_10_01 [∀ e, Nonempty (Elt F e)] {sp : Space} {e : EltTy} (v : View sig .tc sp S2x2x512x512 e) (h : ∀ a : Fin 4, (![1, 0, 0, 0] : Fin 4 → ℕ) a + (![1, 1, 512, 512] : Fin 4 → ℕ) a ≤ S2x2x512x512.size a) (h' : ∀ a : Fin 4, (![0, 1, 0, 0] : Fin 4 → ℕ) a + (![1, 1, 512, 512] : Fin 4 → ℕ) a ≤ S2x2x512x512.size a) (w : (Rect.unit (s := S2x2x512x512) ![1, 0, 0, 0] ![1, 1, 512, 512] h).shape.Idx → Elt F e) (L : List (View.Piece (Elt F) S2x2x512x512 e)) :
    v.readCov (⟨(Rect.unit (s := S2x2x512x512) ![1, 0, 0, 0] ![1, 1, 512, 512] h), w⟩ :: L) (Rect.unit (s := S2x2x512x512) ![0, 1, 0, 0] ![1, 1, 512, 512] h').toLoadRect = v.readCov L (Rect.unit (s := S2x2x512x512) ![0, 1, 0, 0] ![1, 1, 512, 512] h').toLoadRect := View.readCov_skip _ _ _ _ _ rfl
theorem skip_10_11 [∀ e, Nonempty (Elt F e)] {sp : Space} {e : EltTy} (v : View sig .tc sp S2x2x512x512 e) (h : ∀ a : Fin 4, (![1, 0, 0, 0] : Fin 4 → ℕ) a + (![1, 1, 512, 512] : Fin 4 → ℕ) a ≤ S2x2x512x512.size a) (h' : ∀ a : Fin 4, (![1, 1, 0, 0] : Fin 4 → ℕ) a + (![1, 1, 512, 512] : Fin 4 → ℕ) a ≤ S2x2x512x512.size a) (w : (Rect.unit (s := S2x2x512x512) ![1, 0, 0, 0] ![1, 1, 512, 512] h).shape.Idx → Elt F e) (L : List (View.Piece (Elt F) S2x2x512x512 e)) :
    v.readCov (⟨(Rect.unit (s := S2x2x512x512) ![1, 0, 0, 0] ![1, 1, 512, 512] h), w⟩ :: L) (Rect.unit (s := S2x2x512x512) ![1, 1, 0, 0] ![1, 1, 512, 512] h').toLoadRect = v.readCov L (Rect.unit (s := S2x2x512x512) ![1, 1, 0, 0] ![1, 1, 512, 512] h').toLoadRect := View.readCov_skip _ _ _ _ _ rfl
theorem skip_11_00 [∀ e, Nonempty (Elt F e)] {sp : Space} {e : EltTy} (v : View sig .tc sp S2x2x512x512 e) (h : ∀ a : Fin 4, (![1, 1, 0, 0] : Fin 4 → ℕ) a + (![1, 1, 512, 512] : Fin 4 → ℕ) a ≤ S2x2x512x512.size a) (h' : ∀ a : Fin 4, (![0, 0, 0, 0] : Fin 4 → ℕ) a + (![1, 1, 512, 512] : Fin 4 → ℕ) a ≤ S2x2x512x512.size a) (w : (Rect.unit (s := S2x2x512x512) ![1, 1, 0, 0] ![1, 1, 512, 512] h).shape.Idx → Elt F e) (L : List (View.Piece (Elt F) S2x2x512x512 e)) :
    v.readCov (⟨(Rect.unit (s := S2x2x512x512) ![1, 1, 0, 0] ![1, 1, 512, 512] h), w⟩ :: L) (Rect.unit (s := S2x2x512x512) ![0, 0, 0, 0] ![1, 1, 512, 512] h').toLoadRect = v.readCov L (Rect.unit (s := S2x2x512x512) ![0, 0, 0, 0] ![1, 1, 512, 512] h').toLoadRect := View.readCov_skip _ _ _ _ _ rfl
theorem skip_11_01 [∀ e, Nonempty (Elt F e)] {sp : Space} {e : EltTy} (v : View sig .tc sp S2x2x512x512 e) (h : ∀ a : Fin 4, (![1, 1, 0, 0] : Fin 4 → ℕ) a + (![1, 1, 512, 512] : Fin 4 → ℕ) a ≤ S2x2x512x512.size a) (h' : ∀ a : Fin 4, (![0, 1, 0, 0] : Fin 4 → ℕ) a + (![1, 1, 512, 512] : Fin 4 → ℕ) a ≤ S2x2x512x512.size a) (w : (Rect.unit (s := S2x2x512x512) ![1, 1, 0, 0] ![1, 1, 512, 512] h).shape.Idx → Elt F e) (L : List (View.Piece (Elt F) S2x2x512x512 e)) :
    v.readCov (⟨(Rect.unit (s := S2x2x512x512) ![1, 1, 0, 0] ![1, 1, 512, 512] h), w⟩ :: L) (Rect.unit (s := S2x2x512x512) ![0, 1, 0, 0] ![1, 1, 512, 512] h').toLoadRect = v.readCov L (Rect.unit (s := S2x2x512x512) ![0, 1, 0, 0] ![1, 1, 512, 512] h').toLoadRect := View.readCov_skip _ _ _ _ _ rfl
theorem skip_11_10 [∀ e, Nonempty (Elt F e)] {sp : Space} {e : EltTy} (v : View sig .tc sp S2x2x512x512 e) (h : ∀ a : Fin 4, (![1, 1, 0, 0] : Fin 4 → ℕ) a + (![1, 1, 512, 512] : Fin 4 → ℕ) a ≤ S2x2x512x512.size a) (h' : ∀ a : Fin 4, (![1, 0, 0, 0] : Fin 4 → ℕ) a + (![1, 1, 512, 512] : Fin 4 → ℕ) a ≤ S2x2x512x512.size a) (w : (Rect.unit (s := S2x2x512x512) ![1, 1, 0, 0] ![1, 1, 512, 512] h).shape.Idx → Elt F e) (L : List (View.Piece (Elt F) S2x2x512x512 e)) :
    v.readCov (⟨(Rect.unit (s := S2x2x512x512) ![1, 1, 0, 0] ![1, 1, 512, 512] h), w⟩ :: L) (Rect.unit (s := S2x2x512x512) ![1, 0, 0, 0] ![1, 1, 512, 512] h').toLoadRect = v.readCov L (Rect.unit (s := S2x2x512x512) ![1, 0, 0, 0] ![1, 1, 512, 512] h').toLoadRect := View.readCov_skip _ _ _ _ _ rfl

/-- What the buffers hold: the operands and the masks as given, the results so far, the two tiles of scores and the
    two tiles of weights of `S`. -/
def Res (c : Dev nD) (arg2 : Memref sig .tc .vmem S1x8x256x512 .bf16) (arg3 : Memref sig .tc .vmem S1x4096x256 .bf16) (arg4 : Memref sig .tc .vmem S1x8x128x512 .bf16) (arg5 : Memref sig .tc .vmem S1x4096x128 .bf16) (arg6 : Memref sig .tc .vmem S2x2x512x512 .f32) (arg7 : Memref sig .tc .vmem S2x2x512x512 .bf16) (arg8 : Memref sig .tc .vmem S2x512x512 .f32)
    (x2 : Vec F S1x8x256x512 .bf16) (x3 : Vec F S1x4096x256 .bf16) (x4 : Vec F S1x8x128x512 .bf16) (x8 : Vec F S2x512x512 .f32)
    (f5 : Buf (Elt F) (arg5.view.loc (c : Thread nD τ))) (S : St F) : sProp 𝕄 :=
  iprop(owns (c : Thread nD τ) arg2 fullShare x2 ∗ owns (c : Thread nD τ) arg3 fullShare x3 ∗ owns (c : Thread nD τ) arg4 fullShare x4
    ∗ (arg5.view.loc (c : Thread nD τ) ↦[arg5.view.set]{fullShare} f5)
    ∗ (∃ f6, arg6.view.loc (c : Thread nD τ) ↦[arg6.view.set]{fullShare} arg6.view.writes (Elt F) f6 [⟨T01, S.s1⟩, ⟨T00, S.s0⟩])
    ∗ (∃ f7, arg7.view.loc (c : Thread nD τ) ↦[arg7.view.set]{fullShare} arg7.view.writes (Elt F) f7 [⟨T11, S.w1⟩, ⟨T10, S.w0⟩])
    ∗ owns (c : Thread nD τ) arg8 fullShare x8)

set_option maxHeartbeats 1000000 in
theorem trip_A (c : Dev nD) (ii : grid0.Coords) (arg2 : Memref sig .tc .vmem S1x8x256x512 .bf16) (harg2 : arg2.IsWhole) (arg3 : Memref sig .tc .vmem S1x4096x256 .bf16) (harg3 : arg3.IsWhole) (arg4 : Memref sig .tc .vmem S1x8x128x512 .bf16) (harg4 : arg4.IsWhole) (arg5 : Memref sig .tc .vmem S1x4096x128 .bf16) (harg5 : arg5.IsWhole) (arg6 : Memref sig .tc .vmem S2x2x512x512 .f32) (harg6 : arg6.IsWhole) (arg7 : Memref sig .tc .vmem S2x2x512x512 .bf16) (harg7 : arg7.IsWhole) (arg8 : Memref sig .tc .vmem S2x512x512 .f32) (harg8 : arg8.IsWhole)
    (kk : Fin k0_t1_loop.trips) (i j : BitVec 32) (hw : k0_chk1 i j) (h1 : k0_cond1 i j = 1#1) (h2 : ¬ k0_cond2 i j = 1#1) (h3 : ¬ k0_cond3 i j = 1#1)
    (x2 : Vec F S1x8x256x512 .bf16) (x3 : Vec F S1x4096x256 .bf16) (x4 : Vec F S1x8x128x512 .bf16) (x8 : Vec F S2x512x512 .f32)
    (f5 : Buf (Elt F) (arg5.view.loc (c : Thread nD τ))) (S : St F) :
    Res c arg2 arg3 arg4 arg5 arg6 arg7 arg8 x2 x3 x4 x8 f5 S
      ⊢ wp frame (wpE (defs₀ (F := F)) Variants.none (c : Thread nD τ) none) Set.univ (k0_t1_body ii arg2 harg2 arg3 harg3 arg4 harg4 arg5 harg5 arg6 harg6 arg7 harg7 arg8 harg8 kk (carry i j S))
        (fun a => iprop(⌜a = carry (nI (nI i j) (nJ i j)) (nJ (nI i j) (nJ i j)) (trA i j (qA x2 i j hw h1) (kA x3 i j hw h1) (vA x4 i j hw h1) (bA x8 i j hw h1) S).1⌝
          ∗ Res c arg2 arg3 arg4 arg5 arg6 arg7 arg8 x2 x3 x4 x8 f5 (trA i j (qA x2 i j hw h1) (kA x3 i j hw h1) (vA x4 i j hw h1) (bA x8 i j hw h1) S).1)) := by
  unfold Res k0_t1_body owns
  iintro ⟨⟨%f2, %hf2, H2⟩, ⟨%f3, %hf3, H3⟩, ⟨%f4, %hf4, H4⟩, H5, ⟨%f6, H6⟩, ⟨%f7, H7⟩, ⟨%f8, %hf8, H8⟩⟩
  subst hf2 hf3 hf4 hf8
  sl_exec_parts
  sl_step
  sl_unfold_run_names
  simp only [readCov_self, skip_00_01, skip_00_10, skip_00_11, skip_01_00, skip_01_10, skip_01_11, skip_10_00, skip_10_01, skip_10_11, skip_11_00, skip_11_01, skip_11_10]
  isplitr
  · ipureintro; refine carry_mk rfl rfl ?_ ?_ ?_ ?_ ?_ ?_ ?_ ?_ ?_ ?_ <;> (dsimp only [trA, qA, kA, vA, bA]; rfl)
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]; · iexact H5
  isplitl [H6]; · iexists _; iexact H6
  isplitl [H7]; · iexists _; iexact H7
  iexists f8; isplitr; · ipureintro; rfl
  iexact H8

set_option maxHeartbeats 1000000 in
theorem trip_Aa (c : Dev nD) (ii : grid0.Coords) (arg2 : Memref sig .tc .vmem S1x8x256x512 .bf16) (harg2 : arg2.IsWhole) (arg3 : Memref sig .tc .vmem S1x4096x256 .bf16) (harg3 : arg3.IsWhole) (arg4 : Memref sig .tc .vmem S1x8x128x512 .bf16) (harg4 : arg4.IsWhole) (arg5 : Memref sig .tc .vmem S1x4096x128 .bf16) (harg5 : arg5.IsWhole) (arg6 : Memref sig .tc .vmem S2x2x512x512 .f32) (harg6 : arg6.IsWhole) (arg7 : Memref sig .tc .vmem S2x2x512x512 .bf16) (harg7 : arg7.IsWhole) (arg8 : Memref sig .tc .vmem S2x512x512 .f32) (harg8 : arg8.IsWhole)
    (kk : Fin k0_t1_loop.trips) (i j : BitVec 32) (hw : k0_chk1 i j) (h1 : k0_cond1 i j = 1#1) (h2 : k0_cond2 i j = 1#1) (h3 : ¬ k0_cond3 i j = 1#1)
    (x2 : Vec F S1x8x256x512 .bf16) (x3 : Vec F S1x4096x256 .bf16) (x4 : Vec F S1x8x128x512 .bf16) (x8 : Vec F S2x512x512 .f32)
    (f5 : Buf (Elt F) (arg5.view.loc (c : Thread nD τ))) (S : St F) :
    Res c arg2 arg3 arg4 arg5 arg6 arg7 arg8 x2 x3 x4 x8 f5 S
      ⊢ wp frame (wpE (defs₀ (F := F)) Variants.none (c : Thread nD τ) none) Set.univ (k0_t1_body ii arg2 harg2 arg3 harg3 arg4 harg4 arg5 harg5 arg6 harg6 arg7 harg7 arg8 harg8 kk (carry i j S))
        (fun a => iprop(⌜a = carry (nI (nI i j) (nJ i j)) (nJ (nI i j) (nJ i j)) (trA i j (qA x2 i j hw h1) (kA x3 i j hw h1) (vA x4 i j hw h1) (bA x8 i j hw h1) S).1⌝
          ∗ Res c arg2 arg3 arg4 arg5 arg6 arg7 arg8 x2 x3 x4 x8 (arg5.view.writes (Elt F) f5 [⟨Rect.unit (s := S1x4096x128) (k0_off18 i) S1x512x128.size (k0_off18_inb i j hw h1 h2), (trA i j (qA x2 i j hw h1) (kA x3 i j hw h1) (vA x4 i j hw h1) (bA x8 i j hw h1) S).2.1⟩]) (trA i j (qA x2 i j hw h1) (kA x3 i j hw h1) (vA x4 i j hw h1) (bA x8 i j hw h1) S).1)) := by
  unfold Res k0_t1_body owns
  iintro ⟨⟨%f2, %hf2, H2⟩, ⟨%f3, %hf3, H3⟩, ⟨%f4, %hf4, H4⟩, H5, ⟨%f6, H6⟩, ⟨%f7, H7⟩, ⟨%f8, %hf8, H8⟩⟩
  subst hf2 hf3 hf4 hf8
  sl_exec_parts
  sl_step
  sl_unfold_run_names
  simp only [readCov_self, skip_00_01, skip_00_10, skip_00_11, skip_01_00, skip_01_10, skip_01_11, skip_10_00, skip_10_01, skip_10_11, skip_11_00, skip_11_01, skip_11_10]
  isplitr
  · ipureintro; refine carry_mk rfl rfl ?_ ?_ ?_ ?_ ?_ ?_ ?_ ?_ ?_ ?_ <;> (dsimp only [trA, qA, kA, vA, bA]; rfl)
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]; · iexact H5
  isplitl [H6]; · iexists _; iexact H6
  isplitl [H7]; · iexists _; iexact H7
  iexists f8; isplitr; · ipureintro; rfl
  iexact H8

set_option maxHeartbeats 1000000 in
theorem trip_Ab (c : Dev nD) (ii : grid0.Coords) (arg2 : Memref sig .tc .vmem S1x8x256x512 .bf16) (harg2 : arg2.IsWhole) (arg3 : Memref sig .tc .vmem S1x4096x256 .bf16) (harg3 : arg3.IsWhole) (arg4 : Memref sig .tc .vmem S1x8x128x512 .bf16) (harg4 : arg4.IsWhole) (arg5 : Memref sig .tc .vmem S1x4096x128 .bf16) (harg5 : arg5.IsWhole) (arg6 : Memref sig .tc .vmem S2x2x512x512 .f32) (harg6 : arg6.IsWhole) (arg7 : Memref sig .tc .vmem S2x2x512x512 .bf16) (harg7 : arg7.IsWhole) (arg8 : Memref sig .tc .vmem S2x512x512 .f32) (harg8 : arg8.IsWhole)
    (kk : Fin k0_t1_loop.trips) (i j : BitVec 32) (hw : k0_chk1 i j) (h1 : k0_cond1 i j = 1#1) (h2 : ¬ k0_cond2 i j = 1#1) (h3 : k0_cond3 i j = 1#1)
    (x2 : Vec F S1x8x256x512 .bf16) (x3 : Vec F S1x4096x256 .bf16) (x4 : Vec F S1x8x128x512 .bf16) (x8 : Vec F S2x512x512 .f32)
    (f5 : Buf (Elt F) (arg5.view.loc (c : Thread nD τ))) (S : St F) :
    Res c arg2 arg3 arg4 arg5 arg6 arg7 arg8 x2 x3 x4 x8 f5 S
      ⊢ wp frame (wpE (defs₀ (F := F)) Variants.none (c : Thread nD τ) none) Set.univ (k0_t1_body ii arg2 harg2 arg3 harg3 arg4 harg4 arg5 harg5 arg6 harg6 arg7 harg7 arg8 harg8 kk (carry i j S))
        (fun a => iprop(⌜a = carry (nI (nI i j) (nJ i j)) (nJ (nI i j) (nJ i j)) (trA i j (qA x2 i j hw h1) (kA x3 i j hw h1) (vA x4 i j hw h1) (bA x8 i j hw h1) S).1⌝
          ∗ Res c arg2 arg3 arg4 arg5 arg6 arg7 arg8 x2 x3 x4 x8 (arg5.view.writes (Elt F) f5 [⟨Rect.unit (s := S1x4096x128) (k0_off19 i j) S1x512x128.size (k0_off19_inb i j hw h1 h3), (trA i j (qA x2 i j hw h1) (kA x3 i j hw h1) (vA x4 i j hw h1) (bA x8 i j hw h1) S).2.2⟩]) (trA i j (qA x2 i j hw h1) (kA x3 i j hw h1) (vA x4 i j hw h1) (bA x8 i j hw h1) S).1)) := by
  unfold Res k0_t1_body owns
  iintro ⟨⟨%f2, %hf2, H2⟩, ⟨%f3, %hf3, H3⟩, ⟨%f4, %hf4, H4⟩, H5, ⟨%f6, H6⟩, ⟨%f7, H7⟩, ⟨%f8, %hf8, H8⟩⟩
  subst hf2 hf3 hf4 hf8
  sl_exec_parts
  sl_step
  sl_unfold_run_names
  simp only [readCov_self, skip_00_01, skip_00_10, skip_00_11, skip_01_00, skip_01_10, skip_01_11, skip_10_00, skip_10_01, skip_10_11, skip_11_00, skip_11_01, skip_11_10]
  isplitr
  · ipureintro; refine carry_mk rfl rfl ?_ ?_ ?_ ?_ ?_ ?_ ?_ ?_ ?_ ?_ <;> (dsimp only [trA, qA, kA, vA, bA]; rfl)
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]; · iexact H5
  isplitl [H6]; · iexists _; iexact H6
  isplitl [H7]; · iexists _; iexact H7
  iexists f8; isplitr; · ipureintro; rfl
  iexact H8

set_option maxHeartbeats 1000000 in
theorem trip_B (c : Dev nD) (ii : grid0.Coords) (arg2 : Memref sig .tc .vmem S1x8x256x512 .bf16) (harg2 : arg2.IsWhole) (arg3 : Memref sig .tc .vmem S1x4096x256 .bf16) (harg3 : arg3.IsWhole) (arg4 : Memref sig .tc .vmem S1x8x128x512 .bf16) (harg4 : arg4.IsWhole) (arg5 : Memref sig .tc .vmem S1x4096x128 .bf16) (harg5 : arg5.IsWhole) (arg6 : Memref sig .tc .vmem S2x2x512x512 .f32) (harg6 : arg6.IsWhole) (arg7 : Memref sig .tc .vmem S2x2x512x512 .bf16) (harg7 : arg7.IsWhole) (arg8 : Memref sig .tc .vmem S2x512x512 .f32) (harg8 : arg8.IsWhole)
    (kk : Fin k0_t1_loop.trips) (i j : BitVec 32) (hw : k0_chk1 i j) (h1 : ¬ k0_cond1 i j = 1#1) (h2 : ¬ k0_cond4 i j = 1#1) (h3 : ¬ k0_cond5 i j = 1#1)
    (x2 : Vec F S1x8x256x512 .bf16) (x3 : Vec F S1x4096x256 .bf16) (x4 : Vec F S1x8x128x512 .bf16) (x8 : Vec F S2x512x512 .f32)
    (f5 : Buf (Elt F) (arg5.view.loc (c : Thread nD τ))) (S : St F) :
    Res c arg2 arg3 arg4 arg5 arg6 arg7 arg8 x2 x3 x4 x8 f5 S
      ⊢ wp frame (wpE (defs₀ (F := F)) Variants.none (c : Thread nD τ) none) Set.univ (k0_t1_body ii arg2 harg2 arg3 harg3 arg4 harg4 arg5 harg5 arg6 harg6 arg7 harg7 arg8 harg8 kk (carry i j S))
        (fun a => iprop(⌜a = carry (nI (nI i j) (nJ i j)) (nJ (nI i j) (nJ i j)) (trB i j (qB x2 i j hw h1) (kB x3 i j hw h1) (vB x4 i j hw h1) S).1⌝
          ∗ Res c arg2 arg3 arg4 arg5 arg6 arg7 arg8 x2 x3 x4 x8 f5 (trB i j (qB x2 i j hw h1) (kB x3 i j hw h1) (vB x4 i j hw h1) S).1)) := by
  unfold Res k0_t1_body owns
  iintro ⟨⟨%f2, %hf2, H2⟩, ⟨%f3, %hf3, H3⟩, ⟨%f4, %hf4, H4⟩, H5, ⟨%f6, H6⟩, ⟨%f7, H7⟩, ⟨%f8, %hf8, H8⟩⟩
  subst hf2 hf3 hf4 hf8
  sl_exec_parts
  sl_step
  sl_unfold_run_names
  simp only [readCov_self, skip_00_01, skip_00_10, skip_00_11, skip_01_00, skip_01_10, skip_01_11, skip_10_00, skip_10_01, skip_10_11, skip_11_00, skip_11_01, skip_11_10]
  isplitr
  · ipureintro; refine carry_mk rfl rfl ?_ ?_ ?_ ?_ ?_ ?_ ?_ ?_ ?_ ?_ <;> (dsimp only [trB, qB, kB, vB]; rfl)
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]; · iexact H5
  isplitl [H6]; · iexists _; iexact H6
  isplitl [H7]; · iexists _; iexact H7
  iexists f8; isplitr; · ipureintro; rfl
  iexact H8

set_option maxHeartbeats 1000000 in
theorem trip_Ba (c : Dev nD) (ii : grid0.Coords) (arg2 : Memref sig .tc .vmem S1x8x256x512 .bf16) (harg2 : arg2.IsWhole) (arg3 : Memref sig .tc .vmem S1x4096x256 .bf16) (harg3 : arg3.IsWhole) (arg4 : Memref sig .tc .vmem S1x8x128x512 .bf16) (harg4 : arg4.IsWhole) (arg5 : Memref sig .tc .vmem S1x4096x128 .bf16) (harg5 : arg5.IsWhole) (arg6 : Memref sig .tc .vmem S2x2x512x512 .f32) (harg6 : arg6.IsWhole) (arg7 : Memref sig .tc .vmem S2x2x512x512 .bf16) (harg7 : arg7.IsWhole) (arg8 : Memref sig .tc .vmem S2x512x512 .f32) (harg8 : arg8.IsWhole)
    (kk : Fin k0_t1_loop.trips) (i j : BitVec 32) (hw : k0_chk1 i j) (h1 : ¬ k0_cond1 i j = 1#1) (h2 : k0_cond4 i j = 1#1) (h3 : ¬ k0_cond5 i j = 1#1)
    (x2 : Vec F S1x8x256x512 .bf16) (x3 : Vec F S1x4096x256 .bf16) (x4 : Vec F S1x8x128x512 .bf16) (x8 : Vec F S2x512x512 .f32)
    (f5 : Buf (Elt F) (arg5.view.loc (c : Thread nD τ))) (S : St F) :
    Res c arg2 arg3 arg4 arg5 arg6 arg7 arg8 x2 x3 x4 x8 f5 S
      ⊢ wp frame (wpE (defs₀ (F := F)) Variants.none (c : Thread nD τ) none) Set.univ (k0_t1_body ii arg2 harg2 arg3 harg3 arg4 harg4 arg5 harg5 arg6 harg6 arg7 harg7 arg8 harg8 kk (carry i j S))
        (fun a => iprop(⌜a = carry (nI (nI i j) (nJ i j)) (nJ (nI i j) (nJ i j)) (trB i j (qB x2 i j hw h1) (kB x3 i j hw h1) (vB x4 i j hw h1) S).1⌝
          ∗ Res c arg2 arg3 arg4 arg5 arg6 arg7 arg8 x2 x3 x4 x8 (arg5.view.writes (Elt F) f5 [⟨Rect.unit (s := S1x4096x128) (k0_off32 i) S1x512x128.size (k0_off32_inb i j hw h1 h2), (trB i j (qB x2 i j hw h1) (kB x3 i j hw h1) (vB x4 i j hw h1) S).2.1⟩]) (trB i j (qB x2 i j hw h1) (kB x3 i j hw h1) (vB x4 i j hw h1) S).1)) := by
  unfold Res k0_t1_body owns
  iintro ⟨⟨%f2, %hf2, H2⟩, ⟨%f3, %hf3, H3⟩, ⟨%f4, %hf4, H4⟩, H5, ⟨%f6, H6⟩, ⟨%f7, H7⟩, ⟨%f8, %hf8, H8⟩⟩
  subst hf2 hf3 hf4 hf8
  sl_exec_parts
  sl_step
  sl_unfold_run_names
  simp only [readCov_self, skip_00_01, skip_00_10, skip_00_11, skip_01_00, skip_01_10, skip_01_11, skip_10_00, skip_10_01, skip_10_11, skip_11_00, skip_11_01, skip_11_10]
  isplitr
  · ipureintro; refine carry_mk rfl rfl ?_ ?_ ?_ ?_ ?_ ?_ ?_ ?_ ?_ ?_ <;> (dsimp only [trB, qB, kB, vB]; rfl)
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]; · iexact H5
  isplitl [H6]; · iexists _; iexact H6
  isplitl [H7]; · iexists _; iexact H7
  iexists f8; isplitr; · ipureintro; rfl
  iexact H8

set_option maxHeartbeats 1000000 in
theorem trip_Bb (c : Dev nD) (ii : grid0.Coords) (arg2 : Memref sig .tc .vmem S1x8x256x512 .bf16) (harg2 : arg2.IsWhole) (arg3 : Memref sig .tc .vmem S1x4096x256 .bf16) (harg3 : arg3.IsWhole) (arg4 : Memref sig .tc .vmem S1x8x128x512 .bf16) (harg4 : arg4.IsWhole) (arg5 : Memref sig .tc .vmem S1x4096x128 .bf16) (harg5 : arg5.IsWhole) (arg6 : Memref sig .tc .vmem S2x2x512x512 .f32) (harg6 : arg6.IsWhole) (arg7 : Memref sig .tc .vmem S2x2x512x512 .bf16) (harg7 : arg7.IsWhole) (arg8 : Memref sig .tc .vmem S2x512x512 .f32) (harg8 : arg8.IsWhole)
    (kk : Fin k0_t1_loop.trips) (i j : BitVec 32) (hw : k0_chk1 i j) (h1 : ¬ k0_cond1 i j = 1#1) (h2 : ¬ k0_cond4 i j = 1#1) (h3 : k0_cond5 i j = 1#1)
    (x2 : Vec F S1x8x256x512 .bf16) (x3 : Vec F S1x4096x256 .bf16) (x4 : Vec F S1x8x128x512 .bf16) (x8 : Vec F S2x512x512 .f32)
    (f5 : Buf (Elt F) (arg5.view.loc (c : Thread nD τ))) (S : St F) :
    Res c arg2 arg3 arg4 arg5 arg6 arg7 arg8 x2 x3 x4 x8 f5 S
      ⊢ wp frame (wpE (defs₀ (F := F)) Variants.none (c : Thread nD τ) none) Set.univ (k0_t1_body ii arg2 harg2 arg3 harg3 arg4 harg4 arg5 harg5 arg6 harg6 arg7 harg7 arg8 harg8 kk (carry i j S))
        (fun a => iprop(⌜a = carry (nI (nI i j) (nJ i j)) (nJ (nI i j) (nJ i j)) (trB i j (qB x2 i j hw h1) (kB x3 i j hw h1) (vB x4 i j hw h1) S).1⌝
          ∗ Res c arg2 arg3 arg4 arg5 arg6 arg7 arg8 x2 x3 x4 x8 (arg5.view.writes (Elt F) f5 [⟨Rect.unit (s := S1x4096x128) (k0_off33 i j) S1x512x128.size (k0_off33_inb i j hw h1 h3), (trB i j (qB x2 i j hw h1) (kB x3 i j hw h1) (vB x4 i j hw h1) S).2.2⟩]) (trB i j (qB x2 i j hw h1) (kB x3 i j hw h1) (vB x4 i j hw h1) S).1)) := by
  unfold Res k0_t1_body owns
  iintro ⟨⟨%f2, %hf2, H2⟩, ⟨%f3, %hf3, H3⟩, ⟨%f4, %hf4, H4⟩, H5, ⟨%f6, H6⟩, ⟨%f7, H7⟩, ⟨%f8, %hf8, H8⟩⟩
  subst hf2 hf3 hf4 hf8
  sl_exec_parts
  sl_step
  sl_unfold_run_names
  simp only [readCov_self, skip_00_01, skip_00_10, skip_00_11, skip_01_00, skip_01_10, skip_01_11, skip_10_00, skip_10_01, skip_10_11, skip_11_00, skip_11_01, skip_11_10]
  isplitr
  · ipureintro; refine carry_mk rfl rfl ?_ ?_ ?_ ?_ ?_ ?_ ?_ ?_ ?_ ?_ <;> (dsimp only [trB, qB, kB, vB]; rfl)
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]; · iexact H5
  isplitl [H6]; · iexists _; iexact H6
  isplitl [H7]; · iexists _; iexact H7
  iexists f8; isplitr; · ipureintro; rfl
  iexact H8

end Cert.KernelIdeal.Mla

end
-- ==== Proof.RunIdeal.lean ====
/-
  The attention's loop as a plain recursion (`runSt`, `pcs`), the loop by its invariant, the kernel's whole body, and
  the launch: the kernel terminates, leaves its arguments as they were and its counters at zero, and its result is
  what `outOf` says of the blocks it was given.
-/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.TripIdeal
public import Idealize.ShloMosaic.Lib.Pipeline.ValueKit.Geometry
public import Idealize.ShloMosaic.Lib.Pipeline.ReadBack

@[expose] public section

set_option maxRecDepth 16384

noncomputable section

namespace Cert.KernelIdeal.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The two counters before trip `k`. -/
def wd : ℕ → BitVec 32 × BitVec 32
  | 0 => (0#32, 0#32)
  | k + 1 => (nI (nI (wd k).1 (wd k).2) (nJ (wd k).1 (wd k).2), nJ (nI (wd k).1 (wd k).2) (nJ (wd k).1 (wd k).2))

theorem chk (k : ℕ) (hk : k < 18) : k0_chk1 (wd k).1 (wd k).2 := by
  have h : ∀ k : Fin 18, @decide _ (k0_chk1.dec (wd k).1 (wd k).2) = true := by decide
  exact @of_decide_eq_true _ (k0_chk1.dec (wd k).1 (wd k).2) (h ⟨k, hk⟩)

theorem notBothA (k : ℕ) (hk : k < 18) (h2 : k0_cond2 (wd k).1 (wd k).2 = 1#1) : ¬ k0_cond3 (wd k).1 (wd k).2 = 1#1 := by
  have h : ∀ k : Fin 18, k0_cond2 (wd k).1 (wd k).2 = 1#1 → ¬ k0_cond3 (wd k).1 (wd k).2 = 1#1 := by decide
  exact h ⟨k, hk⟩ h2

theorem notBothB (k : ℕ) (hk : k < 18) (h2 : k0_cond4 (wd k).1 (wd k).2 = 1#1) : ¬ k0_cond5 (wd k).1 (wd k).2 = 1#1 := by
  have h : ∀ k : Fin 18, k0_cond4 (wd k).1 (wd k).2 = 1#1 → ¬ k0_cond5 (wd k).1 (wd k).2 = 1#1 := by decide
  exact h ⟨k, hk⟩ h2

section Run
variable (x2 : Vec F S1x8x256x512 .bf16) (x3 : Vec F S1x4096x256 .bf16) (x4 : Vec F S1x8x128x512 .bf16) (x8 : Vec F S2x512x512 .f32)

/-- What trip `k` makes of `S`. -/
def stepAt (k : ℕ) (hk : k < 18) (S : St F) : St F × FVec F S1x512x128 .bf16 × FVec F S1x512x128 .bf16 :=
  if h1 : k0_cond1 (wd k).1 (wd k).2 = 1#1 then
    trA (wd k).1 (wd k).2 (qA x2 _ _ (chk k hk) h1) (kA x3 _ _ (chk k hk) h1) (vA x4 _ _ (chk k hk) h1) (bA x8 _ _ (chk k hk) h1) S
  else trB (wd k).1 (wd k).2 (qB x2 _ _ (chk k hk) h1) (kB x3 _ _ (chk k hk) h1) (vB x4 _ _ (chk k hk) h1) S

/-- What it stores into the results. -/
def newP (k : ℕ) (hk : k < 18) (S : St F) : List (View.Piece (Elt F) S1x4096x128 .bf16) :=
  if h1 : k0_cond1 (wd k).1 (wd k).2 = 1#1 then
    if h2 : k0_cond2 (wd k).1 (wd k).2 = 1#1 then [⟨Rect.unit (s := S1x4096x128) (k0_off18 (wd k).1) S1x512x128.size (k0_off18_inb _ _ (chk k hk) h1 h2), (stepAt x2 x3 x4 x8 k hk S).2.1⟩]
    else if h3 : k0_cond3 (wd k).1 (wd k).2 = 1#1 then [⟨Rect.unit (s := S1x4096x128) (k0_off19 (wd k).1 (wd k).2) S1x512x128.size (k0_off19_inb _ _ (chk k hk) h1 h3), (stepAt x2 x3 x4 x8 k hk S).2.2⟩]
    else []
  else
    if h2 : k0_cond4 (wd k).1 (wd k).2 = 1#1 then [⟨Rect.unit (s := S1x4096x128) (k0_off32 (wd k).1) S1x512x128.size (k0_off32_inb _ _ (chk k hk) h1 h2), (stepAt x2 x3 x4 x8 k hk S).2.1⟩]
    else if h3 : k0_cond5 (wd k).1 (wd k).2 = 1#1 then [⟨Rect.unit (s := S1x4096x128) (k0_off33 (wd k).1 (wd k).2) S1x512x128.size (k0_off33_inb _ _ (chk k hk) h1 h3), (stepAt x2 x3 x4 x8 k hk S).2.2⟩]
    else []

variable (S0 : St F)

/-- The state before trip `k`. -/
def runSt : ℕ → St F
  | 0 => S0
  | k + 1 => if hk : k < 18 then (stepAt x2 x3 x4 x8 k hk (runSt k)).1 else runSt k

/-- What the trips before `k` have stored, the latest first. -/
def pcs : ℕ → List (View.Piece (Elt F) S1x4096x128 .bf16)
  | 0 => []
  | k + 1 => if hk : k < 18 then newP x2 x3 x4 x8 k hk (runSt x2 x3 x4 x8 S0 k) ++ pcs k else pcs k

theorem runSt_succ (k : ℕ) (hk : k < 18) : runSt x2 x3 x4 x8 S0 (k + 1) = (stepAt x2 x3 x4 x8 k hk (runSt x2 x3 x4 x8 S0 k)).1 := by
  rw [runSt, dif_pos hk]
theorem pcs_succ (k : ℕ) (hk : k < 18) : pcs x2 x3 x4 x8 S0 (k + 1) = newP x2 x3 x4 x8 k hk (runSt x2 x3 x4 x8 S0 k) ++ pcs x2 x3 x4 x8 S0 k := by
  rw [pcs, dif_pos hk]
end Run

/-- One trip. -/
theorem trip (c : Dev nD) (ii : grid0.Coords) (arg2 : Memref sig .tc .vmem S1x8x256x512 .bf16) (harg2 : arg2.IsWhole) (arg3 : Memref sig .tc .vmem S1x4096x256 .bf16) (harg3 : arg3.IsWhole) (arg4 : Memref sig .tc .vmem S1x8x128x512 .bf16) (harg4 : arg4.IsWhole) (arg5 : Memref sig .tc .vmem S1x4096x128 .bf16) (harg5 : arg5.IsWhole) (arg6 : Memref sig .tc .vmem S2x2x512x512 .f32) (harg6 : arg6.IsWhole) (arg7 : Memref sig .tc .vmem S2x2x512x512 .bf16) (harg7 : arg7.IsWhole) (arg8 : Memref sig .tc .vmem S2x512x512 .f32) (harg8 : arg8.IsWhole)
    (kk : Fin k0_t1_loop.trips) (k : ℕ) (hk : k < 18)
    (x2 : Vec F S1x8x256x512 .bf16) (x3 : Vec F S1x4096x256 .bf16) (x4 : Vec F S1x8x128x512 .bf16) (x8 : Vec F S2x512x512 .f32)
    (f5 : Buf (Elt F) (arg5.view.loc (c : Thread nD τ))) (S : St F) :
    Res c arg2 arg3 arg4 arg5 arg6 arg7 arg8 x2 x3 x4 x8 f5 S
      ⊢ wp frame (wpE (defs₀ (F := F)) Variants.none (c : Thread nD τ) none) Set.univ (k0_t1_body ii arg2 harg2 arg3 harg3 arg4 harg4 arg5 harg5 arg6 harg6 arg7 harg7 arg8 harg8 kk (carry (wd k).1 (wd k).2 S))
        (fun a => iprop(⌜a = carry (wd (k + 1)).1 (wd (k + 1)).2 (stepAt x2 x3 x4 x8 k hk S).1⌝
          ∗ Res c arg2 arg3 arg4 arg5 arg6 arg7 arg8 x2 x3 x4 x8 (arg5.view.writes (Elt F) f5 (newP x2 x3 x4 x8 k hk S)) (stepAt x2 x3 x4 x8 k hk S).1)) := by
  unfold newP stepAt
  by_cases h1 : k0_cond1 (wd k).1 (wd k).2 = 1#1
  · simp only [dif_pos h1]
    by_cases h2 : k0_cond2 (wd k).1 (wd k).2 = 1#1
    · simp only [dif_pos h2]
      exact trip_Aa c ii arg2 harg2 arg3 harg3 arg4 harg4 arg5 harg5 arg6 harg6 arg7 harg7 arg8 harg8 kk _ _ (chk k hk) h1 h2 (notBothA k hk h2) x2 x3 x4 x8 f5 S
    · by_cases h3 : k0_cond3 (wd k).1 (wd k).2 = 1#1
      · simp only [dif_neg h2, dif_pos h3]
        exact trip_Ab c ii arg2 harg2 arg3 harg3 arg4 harg4 arg5 harg5 arg6 harg6 arg7 harg7 arg8 harg8 kk _ _ (chk k hk) h1 h2 h3 x2 x3 x4 x8 f5 S
      · simp only [dif_neg h2, dif_neg h3]
        exact trip_A c ii arg2 harg2 arg3 harg3 arg4 harg4 arg5 harg5 arg6 harg6 arg7 harg7 arg8 harg8 kk _ _ (chk k hk) h1 h2 h3 x2 x3 x4 x8 f5 S
  · simp only [dif_neg h1]
    by_cases h2 : k0_cond4 (wd k).1 (wd k).2 = 1#1
    · simp only [dif_pos h2]
      exact trip_Ba c ii arg2 harg2 arg3 harg3 arg4 harg4 arg5 harg5 arg6 harg6 arg7 harg7 arg8 harg8 kk _ _ (chk k hk) h1 h2 (notBothB k hk h2) x2 x3 x4 x8 f5 S
    · by_cases h3 : k0_cond5 (wd k).1 (wd k).2 = 1#1
      · simp only [dif_neg h2, dif_pos h3]
        exact trip_Bb c ii arg2 harg2 arg3 harg3 arg4 harg4 arg5 harg5 arg6 harg6 arg7 harg7 arg8 harg8 kk _ _ (chk k hk) h1 h2 h3 x2 x3 x4 x8 f5 S
      · simp only [dif_neg h2, dif_neg h3]
        exact trip_B c ii arg2 harg2 arg3 harg3 arg4 harg4 arg5 harg5 arg6 harg6 arg7 harg7 arg8 harg8 kk _ _ (chk k hk) h1 h2 h3 x2 x3 x4 x8 f5 S

/-- The loop's invariant. -/
def invAt (c : Dev nD) (arg2 : Memref sig .tc .vmem S1x8x256x512 .bf16) (arg3 : Memref sig .tc .vmem S1x4096x256 .bf16) (arg4 : Memref sig .tc .vmem S1x8x128x512 .bf16) (arg5 : Memref sig .tc .vmem S1x4096x128 .bf16) (arg6 : Memref sig .tc .vmem S2x2x512x512 .f32) (arg7 : Memref sig .tc .vmem S2x2x512x512 .bf16) (arg8 : Memref sig .tc .vmem S2x512x512 .f32)
    (x2 : Vec F S1x8x256x512 .bf16) (x3 : Vec F S1x4096x256 .bf16) (x4 : Vec F S1x8x128x512 .bf16) (x8 : Vec F S2x512x512 .f32)
    (f5 : Buf (Elt F) (arg5.view.loc (c : Thread nD τ))) (S : St F) (k : ℕ)
    (a : BitVec 32 × BitVec 32 × FVec F S1x512 .f32 × FVec F S1x512 .f32 × FVec F S1x512 .f32 × FVec F S1x512 .f32 × FVec F S1x512 .f32 × FVec F S1x512 .f32 × FVec F S1x512 .f32 × FVec F S1x512 .f32 × FVec F S64x512 .f32 × FVec F S64x512 .f32) : sProp 𝕄 :=
  iprop(⌜a = carry (wd k).1 (wd k).2 (runSt x2 x3 x4 x8 S k)⌝
    ∗ Res c arg2 arg3 arg4 arg5 arg6 arg7 arg8 x2 x3 x4 x8 (arg5.view.writes (Elt F) f5 (pcs x2 x3 x4 x8 S k)) (runSt x2 x3 x4 x8 S k))

theorem invStep (c : Dev nD) (ii : grid0.Coords) (arg2 : Memref sig .tc .vmem S1x8x256x512 .bf16) (harg2 : arg2.IsWhole) (arg3 : Memref sig .tc .vmem S1x4096x256 .bf16) (harg3 : arg3.IsWhole) (arg4 : Memref sig .tc .vmem S1x8x128x512 .bf16) (harg4 : arg4.IsWhole) (arg5 : Memref sig .tc .vmem S1x4096x128 .bf16) (harg5 : arg5.IsWhole) (arg6 : Memref sig .tc .vmem S2x2x512x512 .f32) (harg6 : arg6.IsWhole) (arg7 : Memref sig .tc .vmem S2x2x512x512 .bf16) (harg7 : arg7.IsWhole) (arg8 : Memref sig .tc .vmem S2x512x512 .f32) (harg8 : arg8.IsWhole)
    (x2 : Vec F S1x8x256x512 .bf16) (x3 : Vec F S1x4096x256 .bf16) (x4 : Vec F S1x8x128x512 .bf16) (x8 : Vec F S2x512x512 .f32)
    (f5 : Buf (Elt F) (arg5.view.loc (c : Thread nD τ))) (S : St F) (k : Fin k0_t1_loop.trips)
    (a : BitVec 32 × BitVec 32 × FVec F S1x512 .f32 × FVec F S1x512 .f32 × FVec F S1x512 .f32 × FVec F S1x512 .f32 × FVec F S1x512 .f32 × FVec F S1x512 .f32 × FVec F S1x512 .f32 × FVec F S1x512 .f32 × FVec F S64x512 .f32 × FVec F S64x512 .f32) :
    invAt c arg2 arg3 arg4 arg5 arg6 arg7 arg8 x2 x3 x4 x8 f5 S k.val a
      ⊢ wp frame (wpE (defs₀ (F := F)) Variants.none (c : Thread nD τ) none) Set.univ (k0_t1_body ii arg2 harg2 arg3 harg3 arg4 harg4 arg5 harg5 arg6 harg6 arg7 harg7 arg8 harg8 k a) (invAt c arg2 arg3 arg4 arg5 arg6 arg7 arg8 x2 x3 x4 x8 f5 S (k.val + 1)) := by
  have hk : k.val < 18 := k.isLt
  unfold invAt
  rw [runSt_succ x2 x3 x4 x8 S k.val hk, pcs_succ x2 x3 x4 x8 S k.val hk, View.writes_append]
  iintro ⟨%e, H⟩
  subst e
  iapply (trip c ii arg2 harg2 arg3 harg3 arg4 harg4 arg5 harg5 arg6 harg6 arg7 harg7 arg8 harg8 k k.val hk x2 x3 x4 x8)
  iexact H

/-- The two masks the kernel keeps: none below the diagonal, the triangle on it. -/
abbrev X8 : Vec F S2x512x512 .f32 :=
  View.canon [⟨Rect.unit (s := S2x512x512) ![1, 0, 0] ![1, 512, 512] inb_S2x512x512_S1x512x512_1_0_0, k0_pay101 (F := F)⟩,
    ⟨Rect.unit (s := S2x512x512) ![0, 0, 0] ![1, 512, 512] inb_S2x512x512_S1x512x512_0_0_0, k0_pay100 (F := F)⟩]

/-- The half of a pair of tiles a head owns. -/
def half (a : Fin 2) (x : S1x1x512x512.Idx) : S1x2x512x512.Idx := fun b => match b with
  | ⟨0, _⟩ => ⟨0, Nat.one_pos⟩ | ⟨1, _⟩ => ⟨a.val, a.isLt⟩ | ⟨2, _⟩ => x 2 | ⟨3, _⟩ => x 3

/-- What the loop starts from. -/
def S0 (x2 : Vec F S1x8x256x512 .bf16) (x3 : Vec F S1x4096x256 .bf16) : St F :=
  let q0 := View.ld x2 (Rect.unit (s := S1x8x256x512) ![0, 0, 0, 0] S1x1x128x512.size inb_S1x8x256x512_S1x1x128x512_0_0_0_0)
  let q1 := View.ld x2 (Rect.unit (s := S1x8x256x512) ![0, 0, 128, 0] S1x1x128x512.size inb_S1x8x256x512_S1x1x128x512_0_0_128_0)
  let k0 := View.ld x3 (Rect.unit (s := S1x4096x256) k0_off1 S1x512x128.size k0_off1_inb)
  let k1 := View.ld x3 (Rect.unit (s := S1x4096x256) k0_off3 S1x512x128.size k0_off3_inb)
  let b := View.ld (X8 (F := F)) (Rect.unit (s := S2x512x512) k0_off2 S1x512x512.size k0_off2_inb)
  ⟨k0_pay106 (k0_pay103 k0 q0) b, k0_pay109 k1 q1 b, k0_pay110, k0_pay110, k0_pay111, k0_pay111, k0_pay112, k0_pay112, k0_pay113, k0_pay113,
    k0_pay105 (k0_pay103 k0 q0) b, k0_pay108 k1 q1 b, fun x => k0_pay102 (half 0 x), fun x => k0_pay102 (half 1 x)⟩

/-- Writing what is already there changes nothing. -/
theorem writes_same {sp : Space} {s : Shape} {e : EltTy} (v : View sig .tc sp s e) (g : v.ty.Contents (Elt F)) (r : Rect s)
    (w : r.shape.Idx → Elt F e) (h : ∀ x, v.read (Elt F) g (r.emb x) = w x) : v.writes (Elt F) g [⟨r, w⟩] = g := by
  refine View.contents_ext v (fun y => ?_) (fun i hi => View.writes_apply_of_forall_ne v g _ hi)
  by_cases hy : y ∈ r.set
  · rw [← Rect.map_emb_univ] at hy
    obtain ⟨x, -, rfl⟩ := Finset.mem_map.mp hy
    rw [View.read_writes_cons_emb, h]
  · exact View.read_writes_apply_of_forall_not_mem v g y _ (fun p hp => by rw [List.mem_singleton.mp hp]; exact hy)

theorem writes_halves {sp : Space} (v : View sig .tc sp S2x2x512x512 .bf16) (f : v.ty.Contents (Elt F)) (w : Vec F S1x2x512x512 .bf16)
    (g : v.ty.Contents (Elt F))
    (hg : g = v.writes (Elt F) f [⟨Rect.unit (s := S2x2x512x512) ![1, 0, 0, 0] ![1, 2, 512, 512] inb_S2x2x512x512_S1x2x512x512_1_0_0_0, w⟩]) :
    v.writes (Elt F) g [⟨T11, fun x => w (half 1 x)⟩, ⟨T10, fun x => w (half 0 x)⟩] = g := by
  have key : ∀ a : Fin 2, ∀ x : S1x1x512x512.Idx, ∀ y : S2x2x512x512.Idx, (y 0).val = 1 → (y 1).val = a.val → (y 2).val = (x 2).val → (y 3).val = (x 3).val →
      v.read (Elt F) g y = w (half a x) := by
    intro a x y h0 h1 h2 h3
    have e : y = (Rect.unit (s := S2x2x512x512) ![1, 0, 0, 0] ![1, 2, 512, 512] inb_S2x2x512x512_S1x2x512x512_1_0_0_0).emb (half a x) := by
      funext b; apply Fin.ext; rw [ValueKit.rect_emb_unit_val]; fin_cases b
      · show (y 0).val = 1 + 0; omega
      · show (y 1).val = 0 + a.val; omega
      · show (y 2).val = 0 + (x 2).val; omega
      · show (y 3).val = 0 + (x 3).val; omega
    rw [hg, e, View.read_writes_cons_emb]
  have e0 : v.writes (Elt F) g [⟨T10, fun x => w (half 0 x)⟩] = g := writes_same v g _ _ fun x => by
    refine key 0 x _ ?_ ?_ ?_ ?_
    · rw [ValueKit.rect_emb_unit_val]; show 1 + (x 0).val = 1; have := (x 0).isLt; change (x 0).val < 1 at this; omega
    · rw [ValueKit.rect_emb_unit_val]; show 0 + (x 1).val = 0; have := (x 1).isLt; change (x 1).val < 1 at this; omega
    · rw [ValueKit.rect_emb_unit_val]; show 0 + (x 2).val = _; omega
    · rw [ValueKit.rect_emb_unit_val]; show 0 + (x 3).val = _; omega
  have e1 : v.writes (Elt F) g [⟨T11, fun x => w (half 1 x)⟩] = g := writes_same v g _ _ fun x => by
    refine key 1 x _ ?_ ?_ ?_ ?_
    · rw [ValueKit.rect_emb_unit_val]; show 1 + (x 0).val = 1; have := (x 0).isLt; change (x 0).val < 1 at this; omega
    · rw [ValueKit.rect_emb_unit_val]; show 1 + (x 1).val = 1; have := (x 1).isLt; change (x 1).val < 1 at this; omega
    · rw [ValueKit.rect_emb_unit_val]; show 0 + (x 2).val = _; omega
    · rw [ValueKit.rect_emb_unit_val]; show 0 + (x 3).val = _; omega
  have e2 := View.writes_append v g [⟨T11, fun x => w (half 1 x)⟩] [⟨T10, fun x => w (half 0 x)⟩]
  rw [e0, e1] at e2
  exact e2

section Out
variable (x2 : Vec F S1x8x256x512 .bf16) (x3 : Vec F S1x4096x256 .bf16) (x4 : Vec F S1x8x128x512 .bf16)

/-- The last block of results, stored after the loop. -/
def lastP (S : St F) : FVec F S1x512x128 .bf16 :=
  k0_pay11 S.l0 S.l1 S.r0 S.r1 S.o0 S.o1
    (View.ld x4 (Rect.unit (s := S1x8x128x512) ![0, 7, 0, 0] S1x1x64x512.size inb_S1x8x128x512_S1x1x64x512_0_7_0_0)) S.w0
    (View.ld x4 (Rect.unit (s := S1x8x128x512) ![0, 7, 64, 0] S1x1x64x512.size inb_S1x8x128x512_S1x1x64x512_0_7_64_0)) S.w1

/-- Everything the kernel stores into its results. -/
def allP : List (View.Piece (Elt F) S1x4096x128 .bf16) :=
  ⟨Rect.unit (s := S1x4096x128) ![0, 3584, 0] ![1, 512, 128] inb_S1x4096x128_S1x512x128_0_3584_0, lastP x4 (runSt x2 x3 x4 X8 (S0 x2 x3) 18)⟩
    :: pcs x2 x3 x4 X8 (S0 x2 x3) 18

/-- The block of results of the blocks of queries, keys and values. -/
def outOf : Vec F S1x4096x128 .bf16 := View.canon (allP x2 x3 x4)

end Out

/-- The loop run to its end. -/
theorem loop_run (c : Dev nD) (ii : grid0.Coords) (arg2 : Memref sig .tc .vmem S1x8x256x512 .bf16) (harg2 : arg2.IsWhole) (arg3 : Memref sig .tc .vmem S1x4096x256 .bf16) (harg3 : arg3.IsWhole) (arg4 : Memref sig .tc .vmem S1x8x128x512 .bf16) (harg4 : arg4.IsWhole) (arg5 : Memref sig .tc .vmem S1x4096x128 .bf16) (harg5 : arg5.IsWhole) (arg6 : Memref sig .tc .vmem S2x2x512x512 .f32) (harg6 : arg6.IsWhole) (arg7 : Memref sig .tc .vmem S2x2x512x512 .bf16) (harg7 : arg7.IsWhole) (arg8 : Memref sig .tc .vmem S2x512x512 .f32) (harg8 : arg8.IsWhole)
    (x2 : Vec F S1x8x256x512 .bf16) (x3 : Vec F S1x4096x256 .bf16) (x4 : Vec F S1x8x128x512 .bf16) (x8 : Vec F S2x512x512 .f32)
    (f5 : Buf (Elt F) (arg5.view.loc (c : Thread nD τ))) (S : St F) (init : BitVec 32 × BitVec 32 × FVec F S1x512 .f32 × FVec F S1x512 .f32 × FVec F S1x512 .f32 × FVec F S1x512 .f32 × FVec F S1x512 .f32 × FVec F S1x512 .f32 × FVec F S1x512 .f32 × FVec F S1x512 .f32 × FVec F S64x512 .f32 × FVec F S64x512 .f32) (hin : init = carry 0#32 0#32 S) {β : Type}
    (kk : (BitVec 32 × BitVec 32 × FVec F S1x512 .f32 × FVec F S1x512 .f32 × FVec F S1x512 .f32 × FVec F S1x512 .f32 × FVec F S1x512 .f32 × FVec F S1x512 .f32 × FVec F S1x512 .f32 × FVec F S1x512 .f32 × FVec F S64x512 .f32 × FVec F S64x512 .f32) → Prog (TpuEff nD τ sig (Elt F) Λ₀ .tc) β) (Q : β → sProp 𝕄) :
    iprop(Res c arg2 arg3 arg4 arg5 arg6 arg7 arg8 x2 x3 x4 x8 f5 S
      ∗ (Res c arg2 arg3 arg4 arg5 arg6 arg7 arg8 x2 x3 x4 x8 (arg5.view.writes (Elt F) f5 (pcs x2 x3 x4 x8 S 18)) (runSt x2 x3 x4 x8 S 18)
          -∗ wp frame (wpE (defs₀ (F := F)) Variants.none (c : Thread nD τ) none) Set.univ (kk (carry (wd 18).1 (wd 18).2 (runSt x2 x3 x4 x8 S 18))) Q))
      ⊢ wp frame (wpE (defs₀ (F := F)) Variants.none (c : Thread nD τ) none) Set.univ
          (k0_t1_loop.for k0_t1_ok init (k0_t1_body ii arg2 harg2 arg3 harg3 arg4 harg4 arg5 harg5 arg6 harg6 arg7 harg7 arg8 harg8) >>= kk) Q := by
  have key := BIClass.wand_elim (Scf.wp_for_bind frame (wpE (defs₀ (F := F)) Variants.none (c : Thread nD τ) none) Set.univ k0_t1_loop.lb k0_t1_loop.ub k0_t1_loop.st k0_t1_ok
    (carry 0#32 0#32 S) (k0_t1_body ii arg2 harg2 arg3 harg3 arg4 harg4 arg5 harg5 arg6 harg6 arg7 harg7 arg8 harg8) (invAt c arg2 arg3 arg4 arg5 arg6 arg7 arg8 x2 x3 x4 x8 f5 S) (invStep c ii arg2 harg2 arg3 harg3 arg4 harg4 arg5 harg5 arg6 harg6 arg7 harg7 arg8 harg8 x2 x3 x4 x8 f5 S) (kk := kk) (Q := Q))
  subst hin
  refine BIBase.Entails.trans ?_ key
  iintro ⟨H, HK⟩
  isplitl [H]
  · unfold invAt; isplitr; · ipureintro; rfl
    iexact H
  · unfold invAt; iintro %a ⟨%e, H⟩
    have e' : a = carry (wd 18).1 (wd 18).2 (runSt x2 x3 x4 x8 S 18) := e
    subst e'
    iapply HK
    iexact H

theorem X8_cover : ∀ y : S2x512x512.Idx, ∃ p ∈ ([⟨Rect.unit (s := S2x512x512) ![1, 0, 0] ![1, 512, 512] inb_S2x512x512_S1x512x512_1_0_0, k0_pay101 (F := F)⟩,
    ⟨Rect.unit (s := S2x512x512) ![0, 0, 0] ![1, 512, 512] inb_S2x512x512_S1x512x512_0_0_0, k0_pay100 (F := F)⟩] : List (View.Piece (Elt F) S2x512x512 .f32)), y ∈ p.1.set :=
  View.cover_of_tiled _ S1x512x512.size (by rfl)

/-- A load of the masks. -/
theorem readX8 {sp : Space} (v : View sig .tc sp S2x512x512 .f32) (r : Rect S2x512x512) :
    v.readCov [⟨Rect.unit (s := S2x512x512) ![1, 0, 0] ![1, 512, 512] inb_S2x512x512_S1x512x512_1_0_0, k0_pay101 (F := F)⟩,
      ⟨Rect.unit (s := S2x512x512) ![0, 0, 0] ![1, 512, 512] inb_S2x512x512_S1x512x512_0_0_0, k0_pay100 (F := F)⟩] r.toLoadRect = View.ld (X8 (F := F)) r :=
  View.readCov_eq_canon v _ _ fun j => X8_cover _

section Cover
variable (x2 : Vec F S1x8x256x512 .bf16) (x3 : Vec F S1x4096x256 .bf16) (x4 : Vec F S1x8x128x512 .bf16) (x8 : Vec F S2x512x512 .f32)
variable (k : ℕ) (hk : k < 18) (S : St F)

theorem newP_Aa (h1 : k0_cond1 (wd k).1 (wd k).2 = 1#1) (h2 : k0_cond2 (wd k).1 (wd k).2 = 1#1) :
    newP x2 x3 x4 x8 k hk S = [⟨Rect.unit (s := S1x4096x128) (k0_off18 (wd k).1) S1x512x128.size (k0_off18_inb _ _ (chk k hk) h1 h2), (stepAt x2 x3 x4 x8 k hk S).2.1⟩] := by
  unfold newP; rw [dif_pos h1, dif_pos h2]
theorem newP_Ab (h1 : k0_cond1 (wd k).1 (wd k).2 = 1#1) (h2 : ¬ k0_cond2 (wd k).1 (wd k).2 = 1#1) (h3 : k0_cond3 (wd k).1 (wd k).2 = 1#1) :
    newP x2 x3 x4 x8 k hk S = [⟨Rect.unit (s := S1x4096x128) (k0_off19 (wd k).1 (wd k).2) S1x512x128.size (k0_off19_inb _ _ (chk k hk) h1 h3), (stepAt x2 x3 x4 x8 k hk S).2.2⟩] := by
  unfold newP; rw [dif_pos h1, dif_neg h2, dif_pos h3]
theorem newP_Ba (h1 : ¬ k0_cond1 (wd k).1 (wd k).2 = 1#1) (h2 : k0_cond4 (wd k).1 (wd k).2 = 1#1) :
    newP x2 x3 x4 x8 k hk S = [⟨Rect.unit (s := S1x4096x128) (k0_off32 (wd k).1) S1x512x128.size (k0_off32_inb _ _ (chk k hk) h1 h2), (stepAt x2 x3 x4 x8 k hk S).2.1⟩] := by
  unfold newP; rw [dif_neg h1, dif_pos h2]
theorem newP_Bb (h1 : ¬ k0_cond1 (wd k).1 (wd k).2 = 1#1) (h2 : ¬ k0_cond4 (wd k).1 (wd k).2 = 1#1) (h3 : k0_cond5 (wd k).1 (wd k).2 = 1#1) :
    newP x2 x3 x4 x8 k hk S = [⟨Rect.unit (s := S1x4096x128) (k0_off33 (wd k).1 (wd k).2) S1x512x128.size (k0_off33_inb _ _ (chk k hk) h1 h3), (stepAt x2 x3 x4 x8 k hk S).2.2⟩] := by
  unfold newP; rw [dif_neg h1, dif_neg h2, dif_pos h3]

theorem mem_pcs (S : St F) (p : View.Piece (Elt F) S1x4096x128 .bf16) (hp : p ∈ newP x2 x3 x4 x8 k hk (runSt x2 x3 x4 x8 S k)) (n : ℕ) (h : k < n) :
    p ∈ pcs x2 x3 x4 x8 S n := by
  induction n with
  | zero => omega
  | succ n ih =>
    by_cases hn : n < 18
    · rw [pcs_succ x2 x3 x4 x8 S n hn]
      rcases Nat.lt_succ_iff_lt_or_eq.mp h with h' | h'
      · exact List.mem_append_right _ (ih h')
      · subst h'; exact List.mem_append_left _ hp
    · rw [pcs, dif_neg hn]
      exact ih (by omega)

end Cover

/-- The stores cover the whole result. -/
theorem allP_cover (x2 : Vec F S1x8x256x512 .bf16) (x3 : Vec F S1x4096x256 .bf16) (x4 : Vec F S1x8x128x512 .bf16) :
    ∀ y : S1x4096x128.Idx, ∃ p ∈ allP x2 x3 x4, y ∈ p.1.set := by
  intro y
  have h0 : (y 0).val < 1 := (y 0).isLt
  have h1 : (y 1).val < 4096 := (y 1).isLt
  have h2 : (y 2).val < 128 := (y 2).isLt
  have tile : ∀ (k : ℕ) (hk : k < 18) (o : ℕ) (off : Fin 3 → ℕ) (inb) (w), off = ![0, o, 0] → o ≤ (y 1).val → (y 1).val < o + 512 →
      newP x2 x3 x4 (X8 (F := F)) k hk (runSt x2 x3 x4 X8 (S0 x2 x3) k) = [⟨Rect.unit (s := S1x4096x128) off S1x512x128.size inb, w⟩] →
      ∃ p ∈ allP x2 x3 x4, y ∈ p.1.set := by
    intro k hk o off inb w e ha hb he
    refine ⟨⟨Rect.unit (s := S1x4096x128) off S1x512x128.size inb, w⟩, List.mem_cons_of_mem _ (mem_pcs x2 x3 x4 X8 k hk _ _ (by rw [he]; exact List.mem_singleton_self _) 18 hk), ?_⟩
    subst e
    rw [Rect.mem_set_unit]; intro a
    fin_cases a
    · show 0 ≤ (y 0).val ∧ (y 0).val < 0 + 1; omega
    · show o ≤ (y 1).val ∧ (y 1).val < o + 512; omega
    · show 0 ≤ (y 2).val ∧ (y 2).val < 0 + 128; omega
  by_cases c0 : (y 1).val < 512
  · exact tile 0 (by decide) 0 _ _ _ (by decide) (by omega) (by omega) (newP_Ab x2 x3 x4 X8 0 _ _ (by decide) (by decide) (by decide))
  by_cases c1 : (y 1).val < 1024
  · exact tile 1 (by decide) 512 _ _ _ (by decide) (by omega) (by omega) (newP_Bb x2 x3 x4 X8 1 _ _ (by decide) (by decide) (by decide))
  by_cases c2 : (y 1).val < 1536
  · exact tile 3 (by decide) 1024 _ _ _ (by decide) (by omega) (by omega) (newP_Ba x2 x3 x4 X8 3 _ _ (by decide) (by decide))
  by_cases c3 : (y 1).val < 2048
  · exact tile 5 (by decide) 1536 _ _ _ (by decide) (by omega) (by omega) (newP_Ba x2 x3 x4 X8 5 _ _ (by decide) (by decide))
  by_cases c4 : (y 1).val < 2560
  · exact tile 7 (by decide) 2048 _ _ _ (by decide) (by omega) (by omega) (newP_Bb x2 x3 x4 X8 7 _ _ (by decide) (by decide) (by decide))
  by_cases c5 : (y 1).val < 3072
  · exact tile 10 (by decide) 2560 _ _ _ (by decide) (by omega) (by omega) (newP_Bb x2 x3 x4 X8 10 _ _ (by decide) (by decide) (by decide))
  by_cases c6 : (y 1).val < 3584
  · exact tile 14 (by decide) 3072 _ _ _ (by decide) (by omega) (by omega) (newP_Ba x2 x3 x4 X8 14 _ _ (by decide) (by decide))
  · refine ⟨_, List.mem_cons_self, ?_⟩
    rw [Rect.mem_set_unit]; intro a
    fin_cases a
    · show 0 ≤ (y 0).val ∧ (y 0).val < 0 + 1; omega
    · show 3584 ≤ (y 1).val ∧ (y 1).val < 3584 + 512; omega
    · show 0 ≤ (y 2).val ∧ (y 2).val < 0 + 128; omega

/-- A buffer held at contents written another way. -/
theorem owns_of_eq (c : Dev nD) {sp : Space} {sh : Shape} {e : EltTy} (m : Memref sig .tc sp sh e) {f g : BufTy.Contents (Elt F) m.view.ty} (h : g = f) :
    (m.view.loc (c : Thread nD τ) ↦[m.view.set]{fullShare} f : sProp 𝕄) ⊢ (m.view.loc (c : Thread nD τ) ↦[m.view.set]{fullShare} g) := by
  rw [h]

/-- A buffer held at some contents. -/
theorem owns_some (c : Dev nD) {sp : Space} {sh : Shape} {e : EltTy} (m : Memref sig .tc sp sh e) (f : BufTy.Contents (Elt F) m.view.ty) :
    (m.view.loc (c : Thread nD τ) ↦[m.view.set]{fullShare} f : sProp 𝕄)
      ⊢ iprop(∃ d : sh.Idx → Elt F e, ∃ f, ⌜View.read (Elt F) m.view f = d⌝ ∗ (m.view.loc (c : Thread nD τ) ↦[m.view.set]{fullShare} f)) := by
  iintro H
  iexists (View.read (Elt F) m.view f)
  iexists f
  isplitr
  · ipureintro; rfl
  · iexact H

set_option maxHeartbeats 1000000 in
/-- The kernel's body. -/
theorem sound (c : Dev nD) (ii : grid0.Coords) (arg2 : Memref sig .tc .vmem S1x8x256x512 .bf16) (harg2 : arg2.IsWhole) (arg3 : Memref sig .tc .vmem S1x4096x256 .bf16) (harg3 : arg3.IsWhole) (arg4 : Memref sig .tc .vmem S1x8x128x512 .bf16) (harg4 : arg4.IsWhole) (arg5 : Memref sig .tc .vmem S1x4096x128 .bf16) (harg5 : arg5.IsWhole) (arg6 : Memref sig .tc .vmem S2x2x512x512 .f32) (harg6 : arg6.IsWhole) (arg7 : Memref sig .tc .vmem S2x2x512x512 .bf16) (harg7 : arg7.IsWhole) (arg8 : Memref sig .tc .vmem S2x512x512 .f32) (harg8 : arg8.IsWhole)
    (x2 : Vec F S1x8x256x512 .bf16) (x3 : Vec F S1x4096x256 .bf16) (x4 : Vec F S1x8x128x512 .bf16) (x5 : Vec F S1x4096x128 .bf16) (x6 : Vec F S2x2x512x512 .f32) (x7 : Vec F S2x2x512x512 .bf16) (x8 : Vec F S2x512x512 .f32) :
    (iprop(owns (c : Thread nD τ) arg2 fullShare x2 ∗ owns (c : Thread nD τ) arg3 fullShare x3 ∗ owns (c : Thread nD τ) arg4 fullShare x4
      ∗ owns (c : Thread nD τ) arg5 fullShare x5 ∗ owns (c : Thread nD τ) arg6 fullShare x6 ∗ owns (c : Thread nD τ) arg7 fullShare x7 ∗ owns (c : Thread nD τ) arg8 fullShare x8) : sProp 𝕄)
      ⊢ wp frame (wpE (defs₀ (F := F)) Variants.none (c : Thread nD τ) none) Set.univ (cc0_mla_attn ii arg2 harg2 arg3 harg3 arg4 harg4 arg5 harg5 arg6 harg6 arg7 harg7 arg8 harg8)
        (fun _ => iprop(owns (c : Thread nD τ) arg2 fullShare x2 ∗ owns (c : Thread nD τ) arg3 fullShare x3 ∗ owns (c : Thread nD τ) arg4 fullShare x4
          ∗ owns (c : Thread nD τ) arg5 fullShare (outOf x2 x3 x4) ∗ (∃ d : Vec F S2x2x512x512 .f32, owns (c : Thread nD τ) arg6 fullShare d) ∗ (∃ d : Vec F S2x2x512x512 .bf16, owns (c : Thread nD τ) arg7 fullShare d) ∗ (∃ d : Vec F S2x512x512 .f32, owns (c : Thread nD τ) arg8 fullShare d))) := by
  rw [cc0_mla_attn_eq_skeleton]
  unfold cc0_mla_attn_skel owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩
  subst hf2 hf3 hf4
  sl_exec_parts
  sl_unfold_run_names
  simp only [readX8]
  have hc : (View.read (Elt F) arg8.view (arg8.view.writes (Elt F) arg8.view.junk [⟨Rect.unit (s := S2x512x512) ![1, 0, 0] S1x512x512.size inb_S2x512x512_S1x512x512_1_0_0, k0_pay101 (F := F)⟩,
      ⟨Rect.unit (s := S2x512x512) ![0, 0, 0] S1x512x512.size inb_S2x512x512_S1x512x512_0_0_0, k0_pay100 (F := F)⟩])) = X8 (F := F) :=
    View.read_writes_eq_canon _ _ _ X8_cover
  have h7 := writes_halves arg7.view f7 (k0_pay102 (F := F)) _ rfl
  iapply (loop_run c ii arg2 harg2 arg3 harg3 arg4 harg4 arg5 harg5 arg6 harg6 arg7 harg7 arg8 harg8 (View.read (Elt F) arg2.view f2) (View.read (Elt F) arg3.view f3) (View.read (Elt F) arg4.view f4) (X8 (F := F)) f5 (S0 (View.read (Elt F) arg2.view f2) (View.read (Elt F) arg3.view f3)) _ ?hin)
  case hin => refine carry_mk rfl rfl ?_ ?_ ?_ ?_ ?_ ?_ ?_ ?_ ?_ ?_ <;> (dsimp only [S0]; try rfl)
  unfold Res owns
  isplitl [H2 H3 H4 H5 H6 H7 H8]
  · isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]; · iexact H5
    isplitl [H6]; · iexists f6; iexact H6
    isplitl [H7]
    · iexists (arg7.view.writes (Elt F) f7 [⟨Rect.unit (s := S2x2x512x512) ![1, 0, 0, 0] ![1, 2, 512, 512] inb_S2x2x512x512_S1x2x512x512_1_0_0_0, k0_pay102 (F := F)⟩])
      iapply (owns_of_eq c arg7 h7)
      iexact H7
    iexists _; isplitr; · ipureintro; exact hc
    iexact H8
  · iintro ⟨⟨%g2, %hg2, H2⟩, ⟨%g3, %hg3, H3⟩, ⟨%g4, %hg4, H4⟩, H5, ⟨%g6, H6⟩, ⟨%g7, H7⟩, ⟨%g8, %hg8, H8⟩⟩
    sl_exec_parts
    sl_step
    sl_unfold_run_names
    simp only [View.readAt_eq_ld, hg4, readCov_self, skip_11_10]
    isplitl [H2]
    · iexists g2; isplitr; · ipureintro; exact hg2
      iexact H2
    isplitl [H3]
    · iexists g3; isplitr; · ipureintro; exact hg3
      iexact H3
    isplitl [H4]
    · iexists g4; isplitr; · ipureintro; exact hg4
      iexact H4
    isplitl [H5]
    · iexists _
      isplitr
      rotate_left
      · iexact H5
      · ipureintro
        exact View.read_writes_eq_canon arg5.view f5 (allP (View.read (Elt F) arg2.view f2) (View.read (Elt F) arg3.view f3) (View.read (Elt F) arg4.view f4)) (allP_cover _ _ _)
    isplitl [H6]
    · iapply (owns_some c arg6); iexact H6
    isplitl [H7]
    · iapply (owns_some c arg7); iexact H7
    iapply (owns_some c arg8); iexact H8

end Cert.KernelIdeal.Mla

end
-- ==== Proof.LaunchIdeal.lean ====
/-
  The attention's loop as a plain recursion (`runSt`, `pcs`), the loop by its invariant, the kernel's whole body, and
  the launch: the kernel terminates, leaves its arguments as they were and its counters at zero, and its result is
  what `outOf` says of the blocks it was given.
-/
module

public import proofs.«01_k».proof.Proof.RunIdeal
public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.TripIdeal
public import Idealize.ShloMosaic.Lib.Pipeline.ValueKit.Geometry
public import Idealize.ShloMosaic.Lib.Pipeline.ReadBack

@[expose] public section

set_option maxRecDepth 16384

noncomputable section

namespace Cert.KernelIdeal.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the kernel leaves in its result's block at a grid point. -/
def outAt (c : Dev nD) (t : Fin cfg0.N) : Vec F S1x4096x128 .bf16 :=
  outOf (Gen.iblk m c 0 t) (Gen.iblk m c 1 t) (Gen.iblk m c 2 t)

/-- The blocks after each grid point: the inputs as they were, the result the attention of them. -/
def dats (_ : Fin 1) (c : Dev nD) : Dat τ (Elt F) Unit ℕ (UR sig nD τ) ℕ cfg0 c where
  A w := Gen.V m c (Pipeline.arrRef spec0 w)
  after w t := match w with
    | ⟨0, _⟩ => Gen.iblk m c 0 t
    | ⟨1, _⟩ => Gen.iblk m c 1 t
    | ⟨2, _⟩ => Gen.iblk m c 2 t
    | ⟨3, _⟩ => outAt m c t
  Φ _ := Pipeline.ΦA spec0 c
  q _ := fullShare
  owed _ := 0

theorem after_0 (c : Dev nD) (t : Fin cfg0.N) : (dats m 0 c).after 0 t = Gen.iblk m c 0 t := by dsimp only [dats]
theorem after_1 (c : Dev nD) (t : Fin cfg0.N) : (dats m 0 c).after 1 t = Gen.iblk m c 1 t := by dsimp only [dats]
theorem after_2 (c : Dev nD) (t : Fin cfg0.N) : (dats m 0 c).after 2 t = Gen.iblk m c 2 t := by dsimp only [dats]
theorem after_3 (c : Dev nD) (t : Fin cfg0.N) : (dats m 0 c).after 3 t = outAt m c t := by dsimp only [dats]
theorem before_0 (c : Dev nD) (t : Fin cfg0.N) (d) : (dats m 0 c).before 0 t d = Gen.iblk m c 0 t :=
  Gen.before0_0_of m (dats m 0 c) rfl (after_0 m c) t d
theorem before_1 (c : Dev nD) (t : Fin cfg0.N) (d) : (dats m 0 c).before 1 t d = Gen.iblk m c 1 t :=
  Gen.before0_1_of m (dats m 0 c) rfl (after_1 m c) t d
theorem before_2 (c : Dev nD) (t : Fin cfg0.N) (d) : (dats m 0 c).before 2 t d = Gen.iblk m c 2 t :=
  Gen.before0_2_of m (dats m 0 c) rfl (after_2 m c) t d

/-- What the body is handed at a grid point. -/
def bodyPre (c : Dev nD) (t : Fin cfg0.N) : sProp 𝕄 :=
  iprop((dats m 0 c).Φ t.castSucc ∗ (dats m 0 c).owesAt () t.castSucc
    ∗ (∃ d, owns (c : Thread nD τ) (Gen.st0_0 t) fullShare ((dats m 0 c).before 0 t d))
    ∗ (∃ d, owns (c : Thread nD τ) (Gen.st0_1 t) fullShare ((dats m 0 c).before 1 t d))
    ∗ (∃ d, owns (c : Thread nD τ) (Gen.st0_2 t) fullShare ((dats m 0 c).before 2 t d))
    ∗ (∃ d, owns (c : Thread nD τ) (Gen.st0_3 t) fullShare ((dats m 0 c).before 3 t d)))

/-- What the body hands back. -/
def bodyPost (c : Dev nD) (t : Fin cfg0.N) : sProp 𝕄 :=
  iprop((dats m 0 c).Φ t.succ ∗ (dats m 0 c).owesAt () t.succ
    ∗ owns (c : Thread nD τ) (Gen.st0_0 t) fullShare ((dats m 0 c).after 0 t)
    ∗ owns (c : Thread nD τ) (Gen.st0_1 t) fullShare ((dats m 0 c).after 1 t)
    ∗ owns (c : Thread nD τ) (Gen.st0_2 t) fullShare ((dats m 0 c).after 2 t)
    ∗ owns (c : Thread nD τ) (Gen.st0_3 t) fullShare ((dats m 0 c).after 3 t))

theorem sound_body (c : Dev nD) (t : Fin cfg0.N) :
    bodyPre m c t ⊢ wp frame (wpE (defs₀ (F := F)) Variants.none (c : Thread nD τ) none) Set.univ (Gen.bodyAt0 t) (fun _ => bodyPost m c t) := by
  unfold bodyPre bodyPost Gen.bodyAt0
  simp only [before_0, before_1, before_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after_0, after_1, after_2, after_3]
  unfold Pipeline.ΦA
  rw [Gen.scopedRest0_eq]
  iintro ⟨⟨⟨⟨%g0, G0⟩, ⟨%g1, G1⟩, ⟨%g2, G2⟩⟩, Hr⟩, Ho, ⟨%d0, H0⟩, ⟨%d1, H1⟩, ⟨%d2, H2⟩, ⟨%d3, H3⟩⟩
  have key := sound (F := F) c (grid0.coords t) (win0_0.stage (cfg0.slots t 0)) (Gen.hstage0_0 ((cfg0.slots t 0).cast nbuf0_0)) (win0_1.stage (cfg0.slots t 1)) (Gen.hstage0_1 ((cfg0.slots t 1).cast nbuf0_1)) (win0_2.stage (cfg0.slots t 2)) (Gen.hstage0_2 ((cfg0.slots t 2).cast nbuf0_2)) (win0_3.stage (cfg0.slots t 3)) (Gen.hstage0_3 ((cfg0.slots t 3).cast nbuf0_3)) (Memref.whole cc0_scratch0) (Memref.isWhole_whole _) (Memref.whole cc0_scratch1) (Memref.isWhole_whole _) (Memref.whole cc0_scratch2) (Memref.isWhole_whole _)
    (Gen.iblk m c 0 t) (Gen.iblk m c 1 t) (Gen.iblk m c 2 t) ((dats m 0 c).before 3 t d3) g0 g1 g2
  simp only [owns_whole] at key
  iapply (wp_wand_r _ _ _)
  isplitl [H0 H1 H2 H3 G0 G1 G2]
  · iapply key
    isplitl [H0]; · iexact H0
    isplitl [H1]; · iexact H1
    isplitl [H2]; · iexact H2
    isplitl [H3]; · iexact H3
    isplitl [G0]; · iexact G0
    isplitl [G1]; · iexact G1
    iexact G2
  · iintro %a ⟨H0, H1, H2, H3, G0, G1, G2⟩
    isplitl [G0 G1 G2 Hr]
    · isplitl [G0 G1 G2]
      · isplitl [G0]; · iexact G0
        isplitl [G1]; · iexact G1
        iexact G2
      iexact Hr
    isplitl [Ho]; · iexact Ho
    isplitl [H0]; · iexact H0
    isplitl [H1]; · iexact H1
    isplitl [H2]; · iexact H2
    iexact H3

theorem body_obligation (c : Dev nD) : BodyObligation (dats (F := F) m 0 c) (defs₀ (F := F)) Variants.none () Set.univ := fun t => by
  rw [Gen.bigSep_W0, Gen.bigSep_W0]
  exact sound_body m c t

set_option backward.isDefEq.respectTransparency.types false in
/-- The whole run: every array ends as computed from the blocks, and no semaphore is left raised. -/
theorem run_main : θ_run defs (onTc (τ := τ) (main (F := F))) (s₀ m ρ)
    (fun r => Pipeline.FramePost cfgs (dats m) 0 (Gen.V m) r ∧ r.2.sem = fun _ => 0) :=
  Pipeline.θ_run_frame cfgs (dats m) (0 : Fin 1) Gen.launch0 defs₀ Variants.none m ρ main
    (hbody := fun c => (body_obligation m c).loose) (hshare := fun c => (dats m 0 c).share_full fun _ => rfl)
    (howed := fun _ _ => rfl) (V := Gen.V m) (hmain := Gen.hmain m Variants.none) (hA := fun _ _ => rfl) (hΦ := fun _ _ => rfl)
    (Q' := fun r => Pipeline.FramePost cfgs (dats m) 0 (Gen.V m) r ∧ r.2.sem = fun _ => 0) (hQ' := fun _ h => h)

/-- The run leaves the arguments as they were and every semaphore at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).1 0).trans ((dats m 0 c).arrAt_in 0 rfl _),
      ((h.1 c).1 1).trans ((dats m 0 c).arrAt_in 1 rfl _),
      ((h.1 c).1 2).trans ((dats m 0 c).arrAt_in 2 rfl _)⟩, h.2⟩) (run_main m ρ)

end Cert.KernelIdeal.Mla

end
-- ==== Proof.RefRun.lean ====
/- The reference's run: its arguments end unchanged and, declaring no semaphore, it leaves none raised. -/
module

public import proofs.«01_k».proof.Defs
public import proofs.«01_k».proof.Proof.Gen.ReferenceIdeal.Run

@[expose] public section

noncomputable section

namespace Cert.ReferenceIdeal

open Idealize.ShloMosaic Idealize.SL.Sem

/-- The reference declares no semaphore. -/
theorem no_sems (s : SemLoc sig) : False := by
  rcases s with ⟨⟨_, h⟩⟩ | ⟨⟨_, h⟩⟩ <;> exact absurd h (Nat.not_lt_zero _)

theorem quiet (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h c).2, funext fun g => (no_sems g.2).elim⟩) (Value.run m ρ)

end Cert.ReferenceIdeal

end
-- ==== Proof.Head.lean ====
/-
  One step of the attention's software pipeline, for one head of the pair, as a function of what it found; and the
  fact that a trip of the loop is two such steps for each head.
-/
module

public import proofs.«01_k».proof.Proof.RunIdeal

@[expose] public section

set_option maxRecDepth 400000

noncomputable section

namespace Cert.KernelIdeal.Mla

open Cert.KernelIdeal Cert.KernelIdeal.Gen
open Idealize.ShloMosaic Idealize.ShloMosaic.TcCoe

variable {F : FTy → Type} [FloatOps F] [Named F]

/-- What is carried for one head. -/
structure Hd (F : FTy → Type) [FloatOps F] where
  t : FVec F S1x512 .f32
  m : FVec F S1x512 .f32
  l : FVec F S1x512 .f32
  r : FVec F S1x512 .f32
  o : FVec F S64x512 .f32
  s : Vec F S1x1x512x512 .f32
  w : Vec F S1x1x512x512 .bf16

/-- The two heads of what is carried, and their pair. -/
def hd0 (S : St F) : Hd F := ⟨S.t0, S.m0, S.l0, S.r0, S.o0, S.s0, S.w0⟩
def hd1 (S : St F) : Hd F := ⟨S.t1, S.m1, S.l1, S.r1, S.o1, S.s1, S.w1⟩
def pairUp (A B : Hd F) : St F := ⟨A.t, B.t, A.m, B.m, A.l, B.l, A.r, B.r, A.o, B.o, A.s, B.s, A.w, B.w⟩

/-- A block of scores, with its mask and without. -/
def scA (k : Vec F S1x512x128 .bf16) (q : Vec F S1x1x128x512 .bf16) (b : Vec F S1x512x512 .f32) : FVec F S512x512 .f32 := k0_pay12 k q b
def scB (k : Vec F S1x512x128 .bf16) (q : Vec F S1x1x128x512 .bf16) : FVec F S512x512 .f32 := k0_pay15 k q

/-- The maxima of a block's columns, and the block as it is kept. -/
def top (X : FVec F S512x512 .f32) : FVec F S1x512 .f32 :=
  shapeCast S1x512 (multiReduction .maximumf [0] S512 X 0xFF800000#32 reduces_S512x512_S512 (.inl rfl) rfl) shapeCasts_S512_S1x512
def keep (X : FVec F S512x512 .f32) : Vec F S1x1x512x512 .f32 := shapeCast S1x1x512x512 X shapeCasts_S512x512_S1x1x512x512

/-- One step at tile `i`, block `j`: the next block's scores `X` are kept, this block's scores become weights, and the
    block before's weights are added to the accumulator with its values `v`. -/
def stepH (i j : BitVec 32) (X : FVec F S512x512 .f32) (v : Vec F S1x1x64x512 .bf16) (H : Hd F) : Hd F :=
  ⟨top X, k0_pay4 H.t (k0_pay22 i j H.m), k0_pay8 H.t H.l (k0_pay22 i j H.m) H.s, k0_pay5 H.t (k0_pay22 i j H.m),
   k0_pay19 H.r H.o v H.w, keep X, k0_pay7 H.t (k0_pay22 i j H.m) H.s⟩

/-- A finished tile's results. -/
def finish (A B : Hd F) (a b : FVec F S64x512 .f32) : FVec F S1x512x128 .bf16 := k0_pay2 A.l B.l a b

theorem trA_eq (i j : BitVec 32) (q : Fin 4 → Vec F S1x1x128x512 .bf16) (k : Fin 4 → Vec F S1x512x128 .bf16) (v : Fin 4 → Vec F S1x1x64x512 .bf16)
    (b : Fin 2 → Vec F S1x512x512 .f32) (S : St F) :
    trA i j q k v b S =
      (pairUp (stepH (nI i j) (nJ i j) (scA (k 2) (q 2) (b 1)) (v 2) (stepH i j (scA (k 0) (q 0) (b 0)) (v 0) (hd0 S)))
          (stepH (nI i j) (nJ i j) (scA (k 3) (q 3) (b 1)) (v 3) (stepH i j (scA (k 1) (q 1) (b 0)) (v 1) (hd1 S))),
        finish (hd0 S) (hd1 S) (stepH i j (scA (k 0) (q 0) (b 0)) (v 0) (hd0 S)).o (stepH i j (scA (k 1) (q 1) (b 0)) (v 1) (hd1 S)).o,
        finish (stepH i j (scA (k 0) (q 0) (b 0)) (v 0) (hd0 S)) (stepH i j (scA (k 1) (q 1) (b 0)) (v 1) (hd1 S))
          (stepH (nI i j) (nJ i j) (scA (k 2) (q 2) (b 1)) (v 2) (stepH i j (scA (k 0) (q 0) (b 0)) (v 0) (hd0 S))).o
          (stepH (nI i j) (nJ i j) (scA (k 3) (q 3) (b 1)) (v 3) (stepH i j (scA (k 1) (q 1) (b 0)) (v 1) (hd1 S))).o) := rfl

theorem trB_eq (i j : BitVec 32) (q : Fin 4 → Vec F S1x1x128x512 .bf16) (k : Fin 4 → Vec F S1x512x128 .bf16) (v : Fin 4 → Vec F S1x1x64x512 .bf16)
    (S : St F) :
    trB i j q k v S =
      (pairUp (stepH (nI i j) (nJ i j) (scB (k 2) (q 2)) (v 2) (stepH i j (scB (k 0) (q 0)) (v 0) (hd0 S)))
          (stepH (nI i j) (nJ i j) (scB (k 3) (q 3)) (v 3) (stepH i j (scB (k 1) (q 1)) (v 1) (hd1 S))),
        finish (hd0 S) (hd1 S) (stepH i j (scB (k 0) (q 0)) (v 0) (hd0 S)).o (stepH i j (scB (k 1) (q 1)) (v 1) (hd1 S)).o,
        finish (stepH i j (scB (k 0) (q 0)) (v 0) (hd0 S)) (stepH i j (scB (k 1) (q 1)) (v 1) (hd1 S))
          (stepH (nI i j) (nJ i j) (scB (k 2) (q 2)) (v 2) (stepH i j (scB (k 0) (q 0)) (v 0) (hd0 S))).o
          (stepH (nI i j) (nJ i j) (scB (k 3) (q 3)) (v 3) (stepH i j (scB (k 1) (q 1)) (v 1) (hd1 S))).o) := rfl

/-- What the loop starts from, and the last tile, head by head. -/
def hdInit (k : Vec F S1x512x128 .bf16) (q : Vec F S1x1x128x512 .bf16) (b : Vec F S1x512x512 .f32) (w : Vec F S1x1x512x512 .bf16) : Hd F :=
  ⟨top (scA k q b), k0_pay110, k0_pay111, k0_pay112, k0_pay113, keep (scA k q b), w⟩

theorem S0_eq (x2 : Vec F S1x8x256x512 .bf16) (x3 : Vec F S1x4096x256 .bf16) : S0 x2 x3 =
    pairUp (hdInit (View.ld x3 (Rect.unit (s := S1x4096x256) k0_off1 S1x512x128.size k0_off1_inb))
        (View.ld x2 (Rect.unit (s := S1x8x256x512) ![0, 0, 0, 0] S1x1x128x512.size inb_S1x8x256x512_S1x1x128x512_0_0_0_0))
        (View.ld (X8 (F := F)) (Rect.unit (s := S2x512x512) k0_off2 S1x512x512.size k0_off2_inb)) (fun x => k0_pay102 (half 0 x)))
      (hdInit (View.ld x3 (Rect.unit (s := S1x4096x256) k0_off3 S1x512x128.size k0_off3_inb))
        (View.ld x2 (Rect.unit (s := S1x8x256x512) ![0, 0, 128, 0] S1x1x128x512.size inb_S1x8x256x512_S1x1x128x512_0_0_128_0))
        (View.ld (X8 (F := F)) (Rect.unit (s := S2x512x512) k0_off2 S1x512x512.size k0_off2_inb)) (fun x => k0_pay102 (half 1 x))) := rfl

theorem lastP_eq (x4 : Vec F S1x8x128x512 .bf16) (S : St F) : lastP x4 S = finish (hd0 S) (hd1 S)
    (k0_pay19 S.r0 S.o0 (View.ld x4 (Rect.unit (s := S1x8x128x512) ![0, 7, 0, 0] S1x1x64x512.size inb_S1x8x128x512_S1x1x64x512_0_7_0_0)) S.w0)
    (k0_pay19 S.r1 S.o1 (View.ld x4 (Rect.unit (s := S1x8x128x512) ![0, 7, 64, 0] S1x1x64x512.size inb_S1x8x128x512_S1x1x64x512_0_7_64_0)) S.w1) := rfl

end Cert.KernelIdeal.Mla
-- ==== Proof.Soft.lean ====
/-
  The softmax weighting of a row of scores, taken block by block with a running maximum: plain facts about extended
  reals, with no program in them.  Exponentials are to base two, of the scores times a positive scale.
-/
module

public import proofs.«01_k».proof.Defs
public import proofs.«01_k».proof.Proof.Gen.KernelIdeal

@[expose] public section

noncomputable section

namespace Cert.Soft

open Idealize.ShloMosaic

/-- The comparison of two small numbers as words. -/
theorem sle_word (a b : ℕ) (ha : a < 2 ^ 31) (hb : b < 2 ^ 31) :
    IntOp.cmpi CmpIPredicate.sle (BitVec.ofNat 32 a) (BitVec.ofNat 32 b) = if a ≤ b then 1#1 else 0#1 := by
  have e : ∀ n : ℕ, n < 2 ^ 31 → (BitVec.ofNat 32 n).toInt = n := by
    intro n hn
    rw [BitVec.toInt_eq_toNat_of_lt (by rw [BitVec.toNat_ofNat]; omega), BitVec.toNat_ofNat]
    omega
  show BitVec.ofBool (BitVec.sle _ _) = _
  unfold BitVec.sle
  rw [e a ha, e b hb]
  by_cases h : a ≤ b
  · rw [if_pos h, decide_eq_true (by exact_mod_cast h)]; rfl
  · rw [if_neg h, decide_eq_false (by exact_mod_cast h)]; rfl

/-- The weight of score `a` against maximum `m`. -/
def ex (c : ℝ) (a m : EReal) : EReal := Ideal.exp2 ((a - m) * (c : EReal))

theorem ex_coe (c a m : ℝ) : ex c a m = ((Real.rpow 2 ((a - m) * c) : ℝ) : EReal) := by
  unfold ex; rw [← EReal.coe_sub, ← EReal.coe_mul, Ideal.exp2_coe]
theorem ex_bot {c : ℝ} (hc : 0 < c) (m : EReal) : ex c ⊥ m = 0 := by
  unfold ex; rw [EReal.bot_sub, EReal.bot_mul_coe_of_pos hc, Ideal.exp2_bot]
theorem ex_comp {c : ℝ} (hc : 0 < c) (a : EReal) (ha : a ≠ ⊤) (m m' : ℝ) : ex c m m' * ex c a m = ex c a m' := by
  induction a using EReal.rec with
  | bot => rw [ex_bot hc _, ex_bot hc _, mul_zero]
  | top => exact absurd rfl ha
  | coe a =>
    rw [ex_coe, ex_coe, ex_coe, ← EReal.coe_mul]
    refine congrArg _ ?_
    change (2 : ℝ) ^ ((m - m') * c) * (2 : ℝ) ^ ((a - m) * c) = (2 : ℝ) ^ ((a - m') * c)
    rw [← Real.rpow_add two_pos]; congr 1; ring

/-- A nonnegative real factor goes into a sum. -/
theorem mul_sum_coe {ι : Type} (s : Finset ι) (f : ι → EReal) (r : ℝ) (hr : 0 ≤ r) : (r : EReal) * ∑ i ∈ s, f i = ∑ i ∈ s, (r : EReal) * f i := by
  classical
  induction s using Finset.induction_on with
  | empty => simp
  | insert a s h ih =>
    rw [Finset.sum_insert h, Finset.sum_insert h, EReal.left_distrib_of_nonneg_of_ne_top (EReal.coe_nonneg.mpr hr) (EReal.coe_ne_top r), ih]

section Row
variable (c : ℝ) (x v : ℕ → EReal)

/-- Maximum, sum of weights and weighted sum of values over the first `n` keys. -/
def M (n : ℕ) : EReal := (Finset.range n).sup x
def L (n : ℕ) : EReal := ∑ κ ∈ Finset.range n, ex c (x κ) (M x n)
def A (n : ℕ) : EReal := ∑ κ ∈ Finset.range n, v κ * ex c (x κ) (M x n)

theorem M_zero : M x 0 = ⊥ := rfl
theorem L_zero : L c x 0 = 0 := rfl
theorem A_zero : A c x v 0 = 0 := rfl

theorem M_add (n b : ℕ) : M x (n + b) = max (M x n) (Finset.univ.sup fun a : Fin b => x (n + a.val)) := by
  apply le_antisymm
  · refine Finset.sup_le fun κ hκ => ?_
    rw [Finset.mem_range] at hκ
    by_cases h : κ < n
    · exact le_max_of_le_left (Finset.le_sup (f := x) (Finset.mem_range.mpr h))
    · refine le_max_of_le_right ?_
      have := Finset.le_sup (f := fun a : Fin b => x (n + a.val)) (Finset.mem_univ ⟨κ - n, by omega⟩)
      simp only at this
      rwa [Nat.add_sub_cancel' (by omega)] at this
  · refine max_le ?_ ?_
    · exact Finset.sup_mono (Finset.range_mono (by omega))
    · exact Finset.sup_le fun a _ => Finset.le_sup (f := x) (Finset.mem_range.mpr (by omega))

variable {x} in
theorem M_real (hx : ∀ κ, x κ ≠ ⊤) (h0 : x 0 ≠ ⊥) (n : ℕ) (hn : 0 < n) : ∃ r : ℝ, M x n = r := by
  have h1 : M x n ≠ ⊤ := by
    refine ne_of_lt ?_
    rw [M, Finset.sup_lt_iff (by exact bot_lt_top)]
    exact fun κ _ => lt_top_iff_ne_top.mpr (hx κ)
  have h2 : M x n ≠ ⊥ := by
    intro h
    have : x 0 ≤ M x n := Finset.le_sup (f := x) (Finset.mem_range.mpr hn)
    rw [h, le_bot_iff] at this
    exact h0 this
  exact ⟨(M x n).toReal, (EReal.coe_toReal h1 h2).symm⟩

variable {c} (hc : 0 < c) {x} (hx : ∀ κ, x κ ≠ ⊤) (h0 : x 0 ≠ ⊥)
include hc hx h0

theorem L_add (n b : ℕ) (hb : 0 < b) : L c x (n + b) = ex c (M x n) (M x (n + b)) * L c x n + ∑ a : Fin b, ex c (x (n + a.val)) (M x (n + b)) := by
  rw [L, Finset.sum_range_add, ← Finset.sum_range fun a => ex c (x (n + a)) (M x (n + b))]
  congr 1
  by_cases hn : n = 0
  · subst hn; rw [L_zero, mul_zero]; rfl
  obtain ⟨m, hm⟩ := M_real hx h0 n (by omega)
  obtain ⟨m', hm'⟩ := M_real hx h0 (n + b) (by omega)
  rw [L, hm, hm']
  conv_rhs => rw [ex_coe]
  rw [mul_sum_coe _ _ _ (show (0 : ℝ) ≤ Real.rpow 2 ((m - m') * c) from Real.rpow_nonneg (by norm_num) _)]
  refine Finset.sum_congr rfl fun κ _ => ?_
  rw [← ex_coe, ex_comp hc _ (hx κ)]

theorem A_add (n b : ℕ) (hb : 0 < b) : A c x v (n + b) = ex c (M x n) (M x (n + b)) * A c x v n + ∑ a : Fin b, v (n + a.val) * ex c (x (n + a.val)) (M x (n + b)) := by
  rw [A, Finset.sum_range_add, ← Finset.sum_range fun a => v (n + a) * ex c (x (n + a)) (M x (n + b))]
  congr 1
  by_cases hn : n = 0
  · subst hn; rw [A_zero, mul_zero]; rfl
  obtain ⟨m, hm⟩ := M_real hx h0 n (by omega)
  obtain ⟨m', hm'⟩ := M_real hx h0 (n + b) (by omega)
  rw [A, hm, hm']
  conv_rhs => rw [ex_coe]
  rw [mul_sum_coe _ _ _ (show (0 : ℝ) ≤ Real.rpow 2 ((m - m') * c) from Real.rpow_nonneg (by norm_num) _)]
  refine Finset.sum_congr rfl fun κ _ => ?_
  rw [← ex_coe, mul_left_comm, ex_comp hc _ (hx κ)]

end Row

/-- The tile and block of step `n`, and the tile and number of blocks finished before it. -/
def pos : ℕ → ℕ × ℕ
  | 0 => (0, 0)
  | n + 1 => if (pos n).2 = (pos n).1 then ((pos n).1 + 1, 0) else ((pos n).1, (pos n).2 + 1)
def done : ℕ → ℕ × ℕ
  | 0 => (0, 0)
  | n + 1 => ((pos n).1, (pos n).2 + 1)

theorem done_eq (n : ℕ) (h : (pos n).2 ≠ 0) : done n = pos n := by
  cases n with
  | zero => exact absurd rfl h
  | succ n =>
    rw [pos] at h ⊢
    split_ifs at h ⊢ with h1
    · exact absurd rfl h
    · rfl
theorem pos_first (n : ℕ) (h : (pos n).2 = 0) (hn : n ≠ 0) : 0 < (pos n).1 := by
  cases n with
  | zero => exact absurd rfl hn
  | succ n =>
    rw [pos] at h ⊢
    split_ifs at h ⊢ with h1
    · exact Nat.succ_pos _

/-- What is carried for one query (a column of a block of scores) and one coordinate of the values. -/
structure Col where
  t : EReal
  m : EReal
  l : EReal
  r : EReal
  o : EReal
  s : Fin 512 → EReal
  w : Fin 512 → EReal

/-- One step; `new` says a new tile starts. -/
def step (c : ℝ) (new : Prop) [Decidable new] (X V : Fin 512 → EReal) (C : Col) : Col :=
  ⟨Finset.univ.sup X, max (if new then ⊥ else C.m) C.t,
   ex c (if new then ⊥ else C.m) (max (if new then ⊥ else C.m) C.t) * C.l + ∑ a, ex c (C.s a) (max (if new then ⊥ else C.m) C.t),
   ex c (if new then ⊥ else C.m) (max (if new then ⊥ else C.m) C.t),
   C.r * C.o + ∑ a, V a * C.w a, X, fun a => ex c (C.s a) (max (if new then ⊥ else C.m) C.t)⟩

/-- Before step `n`, what is carried accounts for the blocks finished, but that the last block's weights still wait
    for their values. -/
structure Held (c : ℝ) (x : ℕ → ℕ → EReal) (v : ℕ → EReal) (n : ℕ) (C : Col) : Prop where
  m : C.m = M (x (done n).1) (512 * (done n).2)
  l : C.l = L c (x (done n).1) (512 * (done n).2)
  o : ∀ V : Fin 512 → EReal, (∀ n', n = n' + 1 → V = fun a => v (512 * (pos n').2 + a.val)) →
    C.r * C.o + ∑ a, V a * C.w a = A c (x (done n).1) v (512 * (done n).2)

theorem step_held {c : ℝ} (hc : 0 < c) (x : ℕ → ℕ → EReal) (hx : ∀ i κ, x i κ ≠ ⊤) (h0 : ∀ i, x i 0 ≠ ⊥) (v : ℕ → EReal) (n : ℕ) (C : Col)
    (H : Held c x v n C) (hs : C.s = fun a => x (pos n).1 (512 * (pos n).2 + a.val)) (ht : C.t = Finset.univ.sup C.s)
    (new : Prop) [Decidable new] (hnew : new ↔ (pos n).2 = 0 ∧ 0 < (pos n).1) (X V : Fin 512 → EReal)
    (hV : ∀ n', n = n' + 1 → V = fun a => v (512 * (pos n').2 + a.val)) : Held c x v (n + 1) (step c new X V C) := by
  have hms : (if new then ⊥ else C.m) = M (x (pos n).1) (512 * (pos n).2) := by
    by_cases hj : (pos n).2 = 0
    · rw [hj, mul_zero, M_zero]
      split_ifs with h
      · rfl
      · by_cases hn : n = 0
        · subst hn; rw [H.m]; rfl
        · exact absurd (hnew.mpr ⟨hj, pos_first n hj hn⟩) h
    · rw [if_neg fun h => hj (hnew.mp h).1, H.m, done_eq n hj]
  have hM : max (M (x (pos n).1) (512 * (pos n).2)) C.t = M (x (pos n).1) (512 * (pos n).2 + 512) := by
    rw [M_add, ht, hs]
  have hr : (pos n).2 = 0 → ex c (M (x (pos n).1) (512 * (pos n).2)) (M (x (pos n).1) (512 * (pos n).2 + 512)) = 0 := by
    intro hj; rw [hj, mul_zero, M_zero, ex_bot hc _]
  refine ⟨?_, ?_, ?_⟩
  · simp only [step, done, hms, hM, mul_add, mul_one]
  · simp only [step, done, hms, hM, mul_add, mul_one]
    rw [L_add hc (hx _) (h0 _) _ _ (by norm_num), hs]
    by_cases hj : (pos n).2 = 0
    · rw [hr hj, zero_mul, zero_mul]
    · rw [H.l, done_eq n hj]
  · intro V' hV'
    rw [hV' n rfl]
    simp only [step, done, hms, hM, mul_add, mul_one]
    rw [A_add v hc (hx _) (h0 _) _ _ (by norm_num), hs, H.o V hV]
    by_cases hj : (pos n).2 = 0
    · rw [hr hj, zero_mul, zero_mul]
    · rw [done_eq n hj]

/-- The start. -/
theorem held_zero (c : ℝ) (x : ℕ → ℕ → EReal) (v : ℕ → EReal) (C : Col) (hm : C.m = ⊥) (hl : C.l = 0) (ho : C.o = 0) (hw : ∀ a, C.w a = 0) :
    Held c x v 0 C := by
  refine ⟨hm, hl, fun V _ => ?_⟩
  rw [ho, mul_zero, zero_add]
  exact Finset.sum_eq_zero fun a _ => by rw [hw, mul_zero]

end Cert.Soft
-- ==== Proof.Cols.lean ====
/-
  One step of the software pipeline read down one column of a block of scores, over the extended reals: it is the
  step of the blockwise softmax.
-/
module

public import proofs.«01_k».proof.Proof.Head
public import proofs.«01_k».proof.Proof.Soft
public import Idealize.ShloMosaic.Lib.Pointwise

@[expose] public section

set_option maxRecDepth 16384

noncomputable section

namespace Cert.KernelIdeal.Mla

open Cert.KernelIdeal Cert.KernelIdeal.Gen
open Idealize.ShloMosaic Idealize.ShloMosaic.TcCoe

/-- The scale of the exponents. -/
def sc : ℝ := (Real.log 2)⁻¹ * (Real.sqrt 96)⁻¹
theorem sc_pos : 0 < sc := by
  have h1 : 0 < Real.log 2 := Real.log_pos (by norm_num)
  have h2 : 0 < Real.sqrt 96 := Real.sqrt_pos.mpr (by norm_num)
  unfold sc; positivity

theorem mask_bot : (Named.named κ "mask" 0xF149F2CA#32 : Ideal .f32) = (⊥ : EReal) :=
  IdealRules.named_const.ideal_named_scalar _ _ _ _ rfl
theorem scale_val : (Named.named κ "scale2" 0x3E16C740#32 : Ideal .f32) = (sc : EReal) :=
  IdealRules.named_const.ideal_named_scalar _ _ _ _ rfl

theorem scA_at (k : Vec Ideal S1x512x128 .bf16) (q : Vec Ideal S1x1x128x512 .bf16) (b : Vec Ideal S1x512x512 .f32) (a c : Fin 512) :
    scA k q b (ix2 a c) = ∑ x, k (ix3 0 a x) * q (ix4 0 0 x c) + b (ix3 0 a c) := by
  pointwise [scA, k0_pay12]
theorem scB_at (k : Vec Ideal S1x512x128 .bf16) (q : Vec Ideal S1x1x128x512 .bf16) (a c : Fin 512) :
    scB k q (ix2 a c) = ∑ x, k (ix3 0 a x) * q (ix4 0 0 x c) := by
  pointwise [scB, k0_pay15]
theorem ninf : Ideal.ofBits FTy.f32 4286578688#32 = (⊥ : EReal) := by
  first | rfl | simp [Ideal.ofBits]
theorem top_at (X : FVec Ideal S512x512 .f32) (c : Fin 512) : top X (ix2 0 c) = Finset.univ.sup fun a : Fin 512 => X (ix2 a c) := by
  pointwise [top]
  rw [ninf]; rfl
theorem keep_at (X : FVec Ideal S512x512 .f32) (a c : Fin 512) : keep X (ix4 0 0 a c) = X (ix2 a c) := by
  pointwise! [keep]
theorem ms_at (i j : BitVec 32) (m : FVec Ideal S1x512 .f32) (c : Fin 512) :
    k0_pay22 i j m (ix2 0 c) = if Scalar.andi (Scalar.cmpi CmpIPredicate.eq j 0#32) (Scalar.cmpi CmpIPredicate.sgt i 0#32) = 1#1 then ⊥ else m (ix2 0 c) := by
  pointwise [k0_pay22, k0_pay21]
  rw [mask_bot]
  generalize Scalar.andi (Scalar.cmpi CmpIPredicate.eq j 0#32) (Scalar.cmpi CmpIPredicate.sgt i 0#32) = b
  by_cases h : b = 1#1
  · subst h; rw [if_pos rfl]
    show (0 : EReal) + ⊥ * (1 - 0) = ⊥
    simp
  · rw [if_neg h]
    have h0 : b = 0#1 := by revert h; revert b; decide
    subst h0
    show m (ix2 0 c) + (⊥ : EReal) * ((1 : EReal) - 1) = m (ix2 0 c)
    have e : ((1 : EReal) - 1) = 0 := by rw [← EReal.coe_one, ← EReal.coe_sub, sub_self]; rfl
    rw [e, mul_zero, add_zero]
theorem mx_at (t m : FVec Ideal S1x512 .f32) (c : Fin 512) : k0_pay4 t m (ix2 0 c) = max (m (ix2 0 c)) (t (ix2 0 c)) := by
  pointwise [k0_pay4]
theorem al_at (t m : FVec Ideal S1x512 .f32) (c : Fin 512) : k0_pay5 t m (ix2 0 c) = Soft.ex sc (m (ix2 0 c)) (max (m (ix2 0 c)) (t (ix2 0 c))) := by
  pointwise [k0_pay5, k0_pay4]
  rw [scale_val]; rfl
theorem w_at (t m : FVec Ideal S1x512 .f32) (s : Vec Ideal S1x1x512x512 .f32) (a c : Fin 512) :
    k0_pay7 t m s (ix4 0 0 a c) = Soft.ex sc (s (ix4 0 0 a c)) (max (m (ix2 0 c)) (t (ix2 0 c))) := by
  pointwise [k0_pay7, k0_pay6, k0_pay4]
  rw [scale_val]; rfl
theorem l_at (t l m : FVec Ideal S1x512 .f32) (s : Vec Ideal S1x1x512x512 .f32) (c : Fin 512) :
    k0_pay8 t l m s (ix2 0 c) = Soft.ex sc (m (ix2 0 c)) (max (m (ix2 0 c)) (t (ix2 0 c))) * l (ix2 0 c)
      + ∑ a : Fin 512, Soft.ex sc (s (ix4 0 0 a c)) (max (m (ix2 0 c)) (t (ix2 0 c))) := by
  pointwise [k0_pay8, k0_pay7, k0_pay6, k0_pay5, k0_pay4]
  rw [scale_val]; rfl
theorem o_at (r : FVec Ideal S1x512 .f32) (o : FVec Ideal S64x512 .f32) (v : Vec Ideal S1x1x64x512 .bf16) (w : Vec Ideal S1x1x512x512 .bf16) (d : Fin 64) (c : Fin 512) :
    k0_pay19 r o v w (ix2 d c) = r (ix2 0 c) * o (ix2 d c) + ∑ x, v (ix4 0 0 d x) * w (ix4 0 0 x c) := by
  pointwise [k0_pay19]
theorem fin_at (l0 l1 : FVec Ideal S1x512 .f32) (a b : FVec Ideal S64x512 .f32) (c : Fin 512) (d : Fin 128) :
    k0_pay2 l0 l1 a b (ix3 0 c d) = if h : d.val < 64 then Ideal.div (a (ix2 ⟨d.val, h⟩ c)) (l0 (ix2 0 c))
      else Ideal.div (b (ix2 ⟨d.val - 64, by omega⟩ c)) (l1 (ix2 0 c)) := by
  pointwise [k0_pay2]
theorem z102_at (h : Fin 2) (a c : Fin 512) : (k0_pay102 (F := Ideal)) (half h (ix4 0 0 a c)) = (0 : EReal) := by
  pointwise [k0_pay102]
theorem z110_at (c : Fin 512) : (k0_pay110 (F := Ideal)) (ix2 0 c) = (⊥ : EReal) := by
  pointwise [k0_pay110]
  exact mask_bot
theorem z111_at (c : Fin 512) : (k0_pay111 (F := Ideal)) (ix2 0 c) = (0 : EReal) := by
  pointwise [k0_pay111]
theorem z113_at (d : Fin 64) (c : Fin 512) : (k0_pay113 (F := Ideal)) (ix2 d c) = (0 : EReal) := by
  pointwise [k0_pay113]
theorem z101_at (a c : Fin 512) : (k0_pay101 (F := Ideal)) (ix3 0 a c) = (if a.val ≤ c.val then 0 else ⊥ : EReal) := by
  pointwise [k0_pay101]
  rw [mask_bot]
  have ha := a.isLt
  have hc := c.isLt
  rw [Soft.sle_word _ _ (by omega) (by omega)]
  split_ifs <;> rfl
theorem z100_at (a c : Fin 512) : (k0_pay100 (F := Ideal)) (ix3 0 a c) = (0 : EReal) := by
  pointwise [k0_pay100]

/-- One column of what is carried for a head, and one coordinate of its values. -/
def col (H : Hd Ideal) (c : Fin 512) (d : Fin 64) : Soft.Col :=
  ⟨H.t (ix2 0 c), H.m (ix2 0 c), H.l (ix2 0 c), H.r (ix2 0 c), H.o (ix2 d c), fun a => H.s (ix4 0 0 a c), fun a => H.w (ix4 0 0 a c)⟩

/-- A new tile starts. -/
abbrev isNew (i j : BitVec 32) : Prop := Scalar.andi (Scalar.cmpi CmpIPredicate.eq j 0#32) (Scalar.cmpi CmpIPredicate.sgt i 0#32) = 1#1

theorem col_step (i j : BitVec 32) (X : FVec Ideal S512x512 .f32) (v : Vec Ideal S1x1x64x512 .bf16) (H : Hd Ideal) (c : Fin 512) (d : Fin 64) :
    col (stepH i j X v H) c d = Soft.step sc (isNew i j) (fun a => X (ix2 a c)) (fun a => v (ix4 0 0 d a)) (col H c d) := by
  unfold col stepH Soft.step
  simp only [top_at, mx_at, al_at, w_at, l_at, o_at, keep_at, ms_at]

end Cert.KernelIdeal.Mla
-- ==== Proof.Loads.lean ====
/-
  What a trip loads: which blocks of queries, keys, values and masks, by the tile and block of the step they are for.
-/
module

public import proofs.«01_k».proof.Proof.Cols
public import Idealize.ShloMosaic.Lib.Pipeline.ValueKit

@[expose] public section

set_option maxRecDepth 16384

noncomputable section

namespace Cert.KernelIdeal.Mla

open Cert.KernelIdeal Cert.KernelIdeal.Gen
open Idealize.ShloMosaic Idealize.ShloMosaic.TcCoe

/-- Keys, queries and values at plain numbers: key `κ`, tile `i`, row `e`, query `c` of the tile. -/
def kN (x3 : Vec Ideal S1x4096x256 .bf16) (κ e : ℕ) : EReal := if h : κ < 4096 ∧ e < 256 then x3 (ix3 0 ⟨κ, h.1⟩ ⟨e, h.2⟩) else 0
def qN (x2 : Vec Ideal S1x8x256x512 .bf16) (i e : ℕ) (c : Fin 512) : EReal := if h : i < 8 ∧ e < 256 then x2 (ix4 0 ⟨i, h.1⟩ ⟨e, h.2⟩ c) else 0
def vN (x4 : Vec Ideal S1x8x128x512 .bf16) (e κ : ℕ) : EReal :=
  if h : κ / 512 < 8 ∧ e < 128 then x4 (ix4 0 ⟨κ / 512, h.1⟩ ⟨e, h.2⟩ ⟨κ % 512, Nat.mod_lt _ (by norm_num)⟩) else 0

/-- The score of head `h` of the pair, and the score as masked. -/
def sg (x2 : Vec Ideal S1x8x256x512 .bf16) (x3 : Vec Ideal S1x4096x256 .bf16) (h : ℕ) (c : Fin 512) (i κ : ℕ) : EReal :=
  ∑ d : Fin 128, kN x3 κ (128 * h + d.val) * qN x2 i (128 * h + d.val) c
def xs (x2 : Vec Ideal S1x8x256x512 .bf16) (x3 : Vec Ideal S1x4096x256 .bf16) (h : ℕ) (c : Fin 512) (i κ : ℕ) : EReal :=
  if κ ≤ 512 * i + c.val then sg x2 x3 h c i κ else ⊥

theorem ldk (x3 : Vec Ideal S1x4096x256 .bf16) (off : Fin 3 → ℕ) (inb) (j h : ℕ) (e : off = ![0, 512 * j, 128 * h]) (hj : j < 8) (hh : h < 2)
    (a : Fin 512) (d : Fin 128) :
    (View.ld x3 (Rect.unit (s := S1x4096x256) off S1x512x128.size inb)) (ix3 0 a d) = kN x3 (512 * j + a.val) (128 * h + d.val) := by
  subst e
  rw [kN, dif_pos ⟨by omega, by omega⟩]
  refine View.ld_unit_apply_of _ _ _ _ _ _ fun b => ?_
  fin_cases b
  · rfl
  · rfl
  · rfl
theorem ldq (x2 : Vec Ideal S1x8x256x512 .bf16) (off : Fin 4 → ℕ) (inb) (i h : ℕ) (e : off = ![0, i, 128 * h, 0]) (hi : i < 8) (hh : h < 2)
    (d : Fin 128) (c : Fin 512) :
    (View.ld x2 (Rect.unit (s := S1x8x256x512) off S1x1x128x512.size inb)) (ix4 0 0 d c) = qN x2 i (128 * h + d.val) c := by
  subst e
  rw [qN, dif_pos ⟨by omega, by omega⟩]
  refine View.ld_unit_apply_of _ _ _ _ _ _ fun b => ?_
  fin_cases b
  · rfl
  · rfl
  · rfl
  · exact (Nat.zero_add _).symm
theorem ldv (x4 : Vec Ideal S1x8x128x512 .bf16) (off : Fin 4 → ℕ) (inb) (j h : ℕ) (e : off = ![0, j, 64 * h, 0]) (hj : j < 8) (hh : h < 2)
    (d : Fin 64) (a : Fin 512) :
    (View.ld x4 (Rect.unit (s := S1x8x128x512) off S1x1x64x512.size inb)) (ix4 0 0 d a) = vN x4 (64 * h + d.val) (512 * j + a.val) := by
  subst e
  have ha := a.isLt
  rw [vN, dif_pos ⟨by omega, by omega⟩]
  refine View.ld_unit_apply_of _ _ _ _ _ _ fun b => ?_
  fin_cases b
  · rfl
  · show (512 * j + a.val) / 512 = j + 0; omega
  · rfl
  · show (512 * j + a.val) % 512 = 0 + a.val; omega

theorem X8_1 (a c : Fin 512) : X8 (F := Ideal) (ix3 1 a c) = (if a.val ≤ c.val then 0 else ⊥ : EReal) := by
  rw [← z101_at a c]
  unfold X8
  canon_tiles y h
  case piece0 =>
    refine congrArg _ (funext fun b => Fin.ext ?_)
    fin_cases b
    · show (y 0).val = 0; omega
    · exact h1.symm
    · exact h2.symm
  case piece1 =>
    exfalso
    have h0' : 1 = (y 0).val := h0
    omega
theorem X8_0 (a c : Fin 512) : X8 (F := Ideal) (ix3 0 a c) = (0 : EReal) := by
  rw [← z100_at a c]
  unfold X8
  canon_tiles y h
  case piece0 =>
    exfalso
    have h0' : 0 = 1 + (y 0).val := h0
    omega
  case piece1 =>
    refine congrArg _ (funext fun b => Fin.ext ?_)
    fin_cases b
    · show (y 0).val = 0; omega
    · exact h1.symm
    · exact h2.symm

theorem ldb (off : Fin 3 → ℕ) (inb) (i j : ℕ) (e : off = ![if i = j then 1 else 0, 0, 0]) (a c : Fin 512) :
    (View.ld (X8 (F := Ideal)) (Rect.unit (s := S2x512x512) off S1x512x512.size inb)) (ix3 0 a c) = (if i = j ∧ ¬ a.val ≤ c.val then ⊥ else 0 : EReal) := by
  subst e
  by_cases h : i = j
  · subst h
    have e1 : (View.ld (X8 (F := Ideal)) (Rect.unit (s := S2x512x512) ![if i = i then 1 else 0, 0, 0] S1x512x512.size inb)) (ix3 0 a c) = X8 (F := Ideal) (ix3 1 a c) := by
      refine View.ld_unit_apply_of _ _ _ _ _ _ fun b => ?_
      fin_cases b
      · show 1 = (if i = i then 1 else 0) + 0; rw [if_pos rfl]
      · exact (Nat.zero_add _).symm
      · exact (Nat.zero_add _).symm
    rw [e1, X8_1]
    by_cases h2 : a.val ≤ c.val
    · rw [if_pos h2, if_neg fun h => h.2 h2]
    · rw [if_neg h2, if_pos ⟨rfl, h2⟩]
  · have e1 : (View.ld (X8 (F := Ideal)) (Rect.unit (s := S2x512x512) ![if i = j then 1 else 0, 0, 0] S1x512x512.size inb)) (ix3 0 a c) = X8 (F := Ideal) (ix3 0 a c) := by
      refine View.ld_unit_apply_of _ _ _ _ _ _ fun b => ?_
      fin_cases b
      · show 0 = (if i = j then 1 else 0) + 0; rw [if_neg h]
      · exact (Nat.zero_add _).symm
      · exact (Nat.zero_add _).symm
    rw [e1, X8_0, if_neg fun hh => h hh.1]

/-- `X` is the block of scores of step `n`, `v` the block of values of step `n`. -/
def IsX (x2 : Vec Ideal S1x8x256x512 .bf16) (x3 : Vec Ideal S1x4096x256 .bf16) (h n : ℕ) (X : FVec Ideal S512x512 .f32) : Prop :=
  ∀ a c : Fin 512, X (ix2 a c) = xs x2 x3 h c (Soft.pos n).1 (512 * (Soft.pos n).2 + a.val)
def IsV (x4 : Vec Ideal S1x8x128x512 .bf16) (h n : ℕ) (v : Vec Ideal S1x1x64x512 .bf16) : Prop :=
  ∀ (d : Fin 64) (a : Fin 512), v (ix4 0 0 d a) = vN x4 (64 * h + d.val) (512 * (Soft.pos n).2 + a.val)

theorem pos_bd (n : ℕ) (hn : n < 36) : (Soft.pos n).1 < 8 ∧ (Soft.pos n).2 ≤ (Soft.pos n).1 := by
  have h : ∀ n : Fin 36, (Soft.pos n).1 < 8 ∧ (Soft.pos n).2 ≤ (Soft.pos n).1 := by decide
  exact h ⟨n, hn⟩

theorem isX_A (x2 : Vec Ideal S1x8x256x512 .bf16) (x3 : Vec Ideal S1x4096x256 .bf16) (h n : ℕ) (hh : h < 2) (hn : n < 36)
    (o3 : Fin 3 → ℕ) (i3) (o2 : Fin 4 → ℕ) (i2) (o8 : Fin 3 → ℕ) (i8)
    (e3 : o3 = ![0, 512 * (Soft.pos n).2, 128 * h]) (e2 : o2 = ![0, (Soft.pos n).1, 128 * h, 0])
    (e8 : o8 = ![if (Soft.pos n).1 = (Soft.pos n).2 then 1 else 0, 0, 0]) :
    IsX x2 x3 h n (scA (View.ld x3 (Rect.unit (s := S1x4096x256) o3 S1x512x128.size i3)) (View.ld x2 (Rect.unit (s := S1x8x256x512) o2 S1x1x128x512.size i2))
      (View.ld (X8 (F := Ideal)) (Rect.unit (s := S2x512x512) o8 S1x512x512.size i8))) := by
  intro a c
  obtain ⟨b1, b2⟩ := pos_bd n hn
  rw [scA_at, ldb o8 i8 _ _ e8 a c]
  have es : ∑ x : Fin 128, (View.ld x3 (Rect.unit (s := S1x4096x256) o3 S1x512x128.size i3)) (ix3 0 a x) * (View.ld x2 (Rect.unit (s := S1x8x256x512) o2 S1x1x128x512.size i2)) (ix4 0 0 x c)
      = sg x2 x3 h c (Soft.pos n).1 (512 * (Soft.pos n).2 + a.val) :=
    Finset.sum_congr rfl fun d _ => Ideal.mul_congr (ldk x3 o3 i3 _ h e3 (by omega) hh a d) (ldq x2 o2 i2 _ h e2 b1 hh d c)
  refine (Ideal.add_congr es rfl).trans ?_
  rw [xs]
  by_cases hd : (Soft.pos n).1 = (Soft.pos n).2 ∧ ¬ a.val ≤ c.val
  · rw [if_pos hd, if_neg (by omega), EReal.add_bot]
  · rw [if_neg hd, if_pos (by omega), add_zero]
theorem isX_B (x2 : Vec Ideal S1x8x256x512 .bf16) (x3 : Vec Ideal S1x4096x256 .bf16) (h n : ℕ) (hh : h < 2) (hn : n < 36)
    (o3 : Fin 3 → ℕ) (i3) (o2 : Fin 4 → ℕ) (i2)
    (e3 : o3 = ![0, 512 * (Soft.pos n).2, 128 * h]) (e2 : o2 = ![0, (Soft.pos n).1, 128 * h, 0]) (hlt : (Soft.pos n).2 < (Soft.pos n).1) :
    IsX x2 x3 h n (scB (View.ld x3 (Rect.unit (s := S1x4096x256) o3 S1x512x128.size i3)) (View.ld x2 (Rect.unit (s := S1x8x256x512) o2 S1x1x128x512.size i2))) := by
  intro a c
  obtain ⟨b1, b2⟩ := pos_bd n hn
  rw [scB_at]
  have es : ∑ x : Fin 128, (View.ld x3 (Rect.unit (s := S1x4096x256) o3 S1x512x128.size i3)) (ix3 0 a x) * (View.ld x2 (Rect.unit (s := S1x8x256x512) o2 S1x1x128x512.size i2)) (ix4 0 0 x c)
      = sg x2 x3 h c (Soft.pos n).1 (512 * (Soft.pos n).2 + a.val) :=
    Finset.sum_congr rfl fun d _ => Ideal.mul_congr (ldk x3 o3 i3 _ h e3 (by omega) hh a d) (ldq x2 o2 i2 _ h e2 b1 hh d c)
  rw [es, xs, if_pos (by omega)]

/-- Where a trip that may touch the diagonal loads from, -/
theorem offA : ∀ k : Fin 18, k0_cond1 (wd k).1 (wd k).2 = 1#1 →
    (k0_off4 (wd k).1 (wd k).2 = ![0, 512 * (Soft.pos (2 * k + 1)).2, 128 * 0] ∧ k0_off5 (wd k).1 (wd k).2 = ![0, (Soft.pos (2 * k + 1)).1, 128 * 0, 0]
      ∧ k0_off6 (wd k).1 (wd k).2 = ![if (Soft.pos (2 * k + 1)).1 = (Soft.pos (2 * k + 1)).2 then 1 else 0, 0, 0]
      ∧ k0_off7 (wd k).1 (wd k).2 = ![0, 512 * (Soft.pos (2 * k + 1)).2, 128 * 1] ∧ k0_off8 (wd k).1 (wd k).2 = ![0, (Soft.pos (2 * k + 1)).1, 128 * 1, 0])
    ∧ (k.val ≠ 0 → k0_off9 (wd k).1 (wd k).2 = ![0, (Soft.pos (2 * k - 1)).2, 64 * 0, 0] ∧ k0_off10 (wd k).1 (wd k).2 = ![0, (Soft.pos (2 * k - 1)).2, 64 * 1, 0])
    ∧ (k.val < 17 → k0_off11 (wd k).1 (wd k).2 = ![0, 512 * (Soft.pos (2 * k + 2)).2, 128 * 0] ∧ k0_off12 (wd k).1 (wd k).2 = ![0, (Soft.pos (2 * k + 2)).1, 128 * 0, 0]
      ∧ k0_off13 (wd k).1 (wd k).2 = ![if (Soft.pos (2 * k + 2)).1 = (Soft.pos (2 * k + 2)).2 then 1 else 0, 0, 0]
      ∧ k0_off14 (wd k).1 (wd k).2 = ![0, 512 * (Soft.pos (2 * k + 2)).2, 128 * 1] ∧ k0_off15 (wd k).1 (wd k).2 = ![0, (Soft.pos (2 * k + 2)).1, 128 * 1, 0])
    ∧ (k0_off16 (wd k).1 (wd k).2 = ![0, (Soft.pos (2 * k)).2, 64 * 0, 0] ∧ k0_off17 (wd k).1 (wd k).2 = ![0, (Soft.pos (2 * k)).2, 64 * 1, 0]) := by
  decide +kernel
/-- and a trip that does not. -/
theorem offB : ∀ k : Fin 18, ¬ k0_cond1 (wd k).1 (wd k).2 = 1#1 → k.val ≠ 0 ∧ k.val < 17
    ∧ (k0_off20 (wd k).1 (wd k).2 = ![0, 512 * (Soft.pos (2 * k + 1)).2, 128 * 0] ∧ k0_off21 (wd k).1 (wd k).2 = ![0, (Soft.pos (2 * k + 1)).1, 128 * 0, 0]
      ∧ (Soft.pos (2 * k + 1)).2 < (Soft.pos (2 * k + 1)).1
      ∧ k0_off22 (wd k).1 (wd k).2 = ![0, 512 * (Soft.pos (2 * k + 1)).2, 128 * 1] ∧ k0_off23 (wd k).1 (wd k).2 = ![0, (Soft.pos (2 * k + 1)).1, 128 * 1, 0])
    ∧ (k0_off24 (wd k).1 (wd k).2 = ![0, (Soft.pos (2 * k - 1)).2, 64 * 0, 0] ∧ k0_off25 (wd k).1 (wd k).2 = ![0, (Soft.pos (2 * k - 1)).2, 64 * 1, 0])
    ∧ (k0_off26 (wd k).1 (wd k).2 = ![0, 512 * (Soft.pos (2 * k + 2)).2, 128 * 0] ∧ k0_off27 (wd k).1 (wd k).2 = ![0, (Soft.pos (2 * k + 2)).1, 128 * 0, 0]
      ∧ (Soft.pos (2 * k + 2)).2 < (Soft.pos (2 * k + 2)).1
      ∧ k0_off28 (wd k).1 (wd k).2 = ![0, 512 * (Soft.pos (2 * k + 2)).2, 128 * 1] ∧ k0_off29 (wd k).1 (wd k).2 = ![0, (Soft.pos (2 * k + 2)).1, 128 * 1, 0])
    ∧ (k0_off30 (wd k).1 (wd k).2 = ![0, (Soft.pos (2 * k)).2, 64 * 0, 0] ∧ k0_off31 (wd k).1 (wd k).2 = ![0, (Soft.pos (2 * k)).2, 64 * 1, 0]) := by
  decide +kernel

theorem new1 (k : ℕ) (hk : k < 18) : isNew (wd k).1 (wd k).2 ↔ (Soft.pos (2 * k)).2 = 0 ∧ 0 < (Soft.pos (2 * k)).1 := by
  have h : ∀ k : Fin 18, isNew (wd k).1 (wd k).2 ↔ (Soft.pos (2 * k)).2 = 0 ∧ 0 < (Soft.pos (2 * k)).1 := by decide +kernel
  exact h ⟨k, hk⟩
theorem new2 (k : ℕ) (hk : k < 18) : isNew (nI (wd k).1 (wd k).2) (nJ (wd k).1 (wd k).2) ↔ (Soft.pos (2 * k + 1)).2 = 0 ∧ 0 < (Soft.pos (2 * k + 1)).1 := by
  have h : ∀ k : Fin 18, isNew (nI (wd k).1 (wd k).2) (nJ (wd k).1 (wd k).2) ↔ (Soft.pos (2 * k + 1)).2 = 0 ∧ 0 < (Soft.pos (2 * k + 1)).1 := by decide +kernel
  exact h ⟨k, hk⟩

/-- The pair of steps of a trip, by what it loads. -/
abbrev two (i j : BitVec 32) (X Y : Fin 2 → FVec Ideal S512x512 .f32) (v u : Fin 2 → Vec Ideal S1x1x64x512 .bf16) (S : St Ideal) :
    St Ideal × FVec Ideal S1x512x128 .bf16 × FVec Ideal S1x512x128 .bf16 :=
  (pairUp (stepH (nI i j) (nJ i j) (X 1) (v 1) (stepH i j (X 0) (v 0) (hd0 S)))
      (stepH (nI i j) (nJ i j) (Y 1) (u 1) (stepH i j (Y 0) (u 0) (hd1 S))),
    finish (hd0 S) (hd1 S) (stepH i j (X 0) (v 0) (hd0 S)).o (stepH i j (Y 0) (u 0) (hd1 S)).o,
    finish (stepH i j (X 0) (v 0) (hd0 S)) (stepH i j (Y 0) (u 0) (hd1 S))
      (stepH (nI i j) (nJ i j) (X 1) (v 1) (stepH i j (X 0) (v 0) (hd0 S))).o
      (stepH (nI i j) (nJ i j) (Y 1) (u 1) (stepH i j (Y 0) (u 0) (hd1 S))).o)

theorem two_A (i j : BitVec 32) (q : Fin 4 → Vec Ideal S1x1x128x512 .bf16) (k : Fin 4 → Vec Ideal S1x512x128 .bf16) (v : Fin 4 → Vec Ideal S1x1x64x512 .bf16)
    (b : Fin 2 → Vec Ideal S1x512x512 .f32) (S : St Ideal) (P : St Ideal × FVec Ideal S1x512x128 .bf16 × FVec Ideal S1x512x128 .bf16 → (X Y : Fin 2 → FVec Ideal S512x512 .f32) →
      (v u : Fin 2 → Vec Ideal S1x1x64x512 .bf16) → Prop)
    (h : ∀ X Y v' u, X 0 = scA (k 0) (q 0) (b 0) → X 1 = scA (k 2) (q 2) (b 1) → Y 0 = scA (k 1) (q 1) (b 0) → Y 1 = scA (k 3) (q 3) (b 1) →
      v' 0 = v 0 → v' 1 = v 2 → u 0 = v 1 → u 1 = v 3 → P (two i j X Y v' u S) X Y v' u) :
    ∃ X Y v' u, P (trA i j q k v b S) X Y v' u := by
  rw [trA_eq]
  exact ⟨_, _, _, _, h ![scA (k 0) (q 0) (b 0), scA (k 2) (q 2) (b 1)] ![scA (k 1) (q 1) (b 0), scA (k 3) (q 3) (b 1)] ![v 0, v 2] ![v 1, v 3] rfl rfl rfl rfl rfl rfl rfl rfl⟩
theorem two_B (i j : BitVec 32) (q : Fin 4 → Vec Ideal S1x1x128x512 .bf16) (k : Fin 4 → Vec Ideal S1x512x128 .bf16) (v : Fin 4 → Vec Ideal S1x1x64x512 .bf16)
    (S : St Ideal) (P : St Ideal × FVec Ideal S1x512x128 .bf16 × FVec Ideal S1x512x128 .bf16 → (X Y : Fin 2 → FVec Ideal S512x512 .f32) →
      (v u : Fin 2 → Vec Ideal S1x1x64x512 .bf16) → Prop)
    (h : ∀ X Y v' u, X 0 = scB (k 0) (q 0) → X 1 = scB (k 2) (q 2) → Y 0 = scB (k 1) (q 1) → Y 1 = scB (k 3) (q 3) →
      v' 0 = v 0 → v' 1 = v 2 → u 0 = v 1 → u 1 = v 3 → P (two i j X Y v' u S) X Y v' u) :
    ∃ X Y v' u, P (trB i j q k v S) X Y v' u := by
  rw [trB_eq]
  exact ⟨_, _, _, _, h ![scB (k 0) (q 0), scB (k 2) (q 2)] ![scB (k 1) (q 1), scB (k 3) (q 3)] ![v 0, v 2] ![v 1, v 3] rfl rfl rfl rfl rfl rfl rfl rfl⟩

section
variable (x2 : Vec Ideal S1x8x256x512 .bf16) (x3 : Vec Ideal S1x4096x256 .bf16) (x4 : Vec Ideal S1x8x128x512 .bf16)

/-- A trip as two steps of each head, with what it loads. -/
theorem stepAt_eq (k : ℕ) (hk : k < 18) (S : St Ideal) : ∃ (X Y : Fin 2 → FVec Ideal S512x512 .f32) (v u : Fin 2 → Vec Ideal S1x1x64x512 .bf16),
    stepAt x2 x3 x4 X8 k hk S = two (wd k).1 (wd k).2 X Y v u S
    ∧ IsX x2 x3 0 (2 * k + 1) (X 0) ∧ IsX x2 x3 1 (2 * k + 1) (Y 0) ∧ (k < 17 → IsX x2 x3 0 (2 * k + 2) (X 1) ∧ IsX x2 x3 1 (2 * k + 2) (Y 1))
    ∧ (k ≠ 0 → IsV x4 0 (2 * k - 1) (v 0) ∧ IsV x4 1 (2 * k - 1) (u 0)) ∧ IsV x4 0 (2 * k) (v 1) ∧ IsV x4 1 (2 * k) (u 1) := by
  unfold stepAt
  have pb : ∀ n, n < 36 → (Soft.pos n).2 < 8 := fun n hn => lt_of_le_of_lt (pos_bd n hn).2 (pos_bd n hn).1
  by_cases h1 : k0_cond1 (wd k).1 (wd k).2 = 1#1
  · obtain ⟨⟨a1, a2, a3, a4, a5⟩, a6, a7, a8, a9⟩ := offA ⟨k, hk⟩ h1
    rw [dif_pos h1]
    refine two_A _ _ _ _ _ _ _ (fun T X Y v u => T = two (wd k).1 (wd k).2 X Y v u S
      ∧ IsX x2 x3 0 (2 * k + 1) (X 0) ∧ IsX x2 x3 1 (2 * k + 1) (Y 0) ∧ (k < 17 → IsX x2 x3 0 (2 * k + 2) (X 1) ∧ IsX x2 x3 1 (2 * k + 2) (Y 1))
      ∧ (k ≠ 0 → IsV x4 0 (2 * k - 1) (v 0) ∧ IsV x4 1 (2 * k - 1) (u 0)) ∧ IsV x4 0 (2 * k) (v 1) ∧ IsV x4 1 (2 * k) (u 1)) ?_
    intro X Y v u eX0 eX1 eY0 eY1 ev0 ev1 eu0 eu1
    refine ⟨rfl, ?_, ?_, ?_, ?_, ?_, ?_⟩
    · rw [eX0]; exact isX_A x2 x3 0 (2 * k + 1) (by omega) (by omega) _ _ _ _ _ _ a1 a2 a3
    · rw [eY0]; exact isX_A x2 x3 1 (2 * k + 1) (by omega) (by omega) _ _ _ _ _ _ a4 a5 a3
    · intro h17
      obtain ⟨c1, c2, c3, c4, c5⟩ := a7 h17
      rw [eX1, eY1]
      exact ⟨isX_A x2 x3 0 (2 * k + 2) (by omega) (by omega) _ _ _ _ _ _ c1 c2 c3, isX_A x2 x3 1 (2 * k + 2) (by omega) (by omega) _ _ _ _ _ _ c4 c5 c3⟩
    · intro h0
      rw [ev0, eu0]
      exact ⟨fun d a => ldv x4 _ _ _ 0 (a6 h0).1 (pb _ (by omega)) (by omega) d a, fun d a => ldv x4 _ _ _ 1 (a6 h0).2 (pb _ (by omega)) (by omega) d a⟩
    · rw [ev1]; exact fun d a => ldv x4 _ _ _ 0 a8 (pb _ (by omega)) (by omega) d a
    · rw [eu1]; exact fun d a => ldv x4 _ _ _ 1 a9 (pb _ (by omega)) (by omega) d a
  · obtain ⟨g0, g17, ⟨a1, a2, a3, a4, a5⟩, ⟨a6, a6'⟩, ⟨c1, c2, c3, c4, c5⟩, a8, a9⟩ := offB ⟨k, hk⟩ h1
    rw [dif_neg h1]
    refine two_B _ _ _ _ _ _ (fun T X Y v u => T = two (wd k).1 (wd k).2 X Y v u S
      ∧ IsX x2 x3 0 (2 * k + 1) (X 0) ∧ IsX x2 x3 1 (2 * k + 1) (Y 0) ∧ (k < 17 → IsX x2 x3 0 (2 * k + 2) (X 1) ∧ IsX x2 x3 1 (2 * k + 2) (Y 1))
      ∧ (k ≠ 0 → IsV x4 0 (2 * k - 1) (v 0) ∧ IsV x4 1 (2 * k - 1) (u 0)) ∧ IsV x4 0 (2 * k) (v 1) ∧ IsV x4 1 (2 * k) (u 1)) ?_
    intro X Y v u eX0 eX1 eY0 eY1 ev0 ev1 eu0 eu1
    refine ⟨rfl, ?_, ?_, ?_, ?_, ?_, ?_⟩
    · rw [eX0]; exact isX_B x2 x3 0 (2 * k + 1) (by omega) (by omega) _ _ _ _ a1 a2 a3
    · rw [eY0]; exact isX_B x2 x3 1 (2 * k + 1) (by omega) (by omega) _ _ _ _ a4 a5 a3
    · intro h17
      have h17' : k < 17 := h17
      rw [eX1, eY1]
      exact ⟨isX_B x2 x3 0 (2 * k + 2) (by omega) (by omega) _ _ _ _ c1 c2 c3, isX_B x2 x3 1 (2 * k + 2) (by omega) (by omega) _ _ _ _ c4 c5 c3⟩
    · intro h0
      rw [ev0, eu0]
      exact ⟨fun d a => ldv x4 _ _ _ 0 a6 (pb _ (by omega)) (by omega) d a, fun d a => ldv x4 _ _ _ 1 a6' (pb _ (by omega)) (by omega) d a⟩
    · rw [ev1]; exact fun d a => ldv x4 _ _ _ 0 a8 (pb _ (by omega)) (by omega) d a
    · rw [eu1]; exact fun d a => ldv x4 _ _ _ 1 a9 (pb _ (by omega)) (by omega) d a
end

end Cert.KernelIdeal.Mla
-- ==== Proof.Induct.lean ====
/-
  The loop run to its end, as values: before every trip the state accounts for the blocks finished, so every stored
  tile holds the weighted values over the sum of weights.
-/
module

public import proofs.«01_k».proof.Proof.Loads
public import Idealize.ShloMosaic.Lib.Pipeline.CanonAppend

@[expose] public section

set_option maxRecDepth 16384

noncomputable section

namespace Cert.KernelIdeal.Mla

open Cert.KernelIdeal Cert.KernelIdeal.Gen
open Idealize.ShloMosaic Idealize.ShloMosaic.TcCoe

section
variable (x2 : Vec Ideal S1x8x256x512 .bf16) (x3 : Vec Ideal S1x4096x256 .bf16) (x4 : Vec Ideal S1x8x128x512 .bf16)

/-- Before step `n` head `h` accounts for the blocks finished; and it holds the scores of step `n` and their maxima. -/
def Good (h n : ℕ) (H : Hd Ideal) : Prop := ∀ c d, Soft.Held sc (xs x2 x3 h c) (vN x4 (64 * h + d.val)) n (col H c d)
def Fresh (h n : ℕ) (H : Hd Ideal) : Prop := ∀ c d,
  (col H c d).s = (fun a => xs x2 x3 h c (Soft.pos n).1 (512 * (Soft.pos n).2 + a.val)) ∧ (col H c d).t = Finset.univ.sup (col H c d).s

theorem fresh_X (h n : ℕ) (X : FVec Ideal S512x512 .f32) (hX : IsX x2 x3 h n X) (H : Hd Ideal) (ht : H.t = top X) (hs : H.s = keep X) : Fresh x2 x3 h n H := by
  intro c d
  have e : (col H c d).s = fun a => X (ix2 a c) := by
    funext a; show H.s (ix4 0 0 a c) = _; rw [hs, keep_at]
  refine ⟨?_, ?_⟩
  · rw [e]; funext a; exact hX a c
  · rw [e]; show H.t (ix2 0 c) = _; rw [ht, top_at]

theorem init_off : k0_off1 = ![0, 512 * (Soft.pos 0).2, 128 * 0] ∧ k0_off3 = ![0, 512 * (Soft.pos 0).2, 128 * 1]
    ∧ k0_off2 = ![if (Soft.pos 0).1 = (Soft.pos 0).2 then 1 else 0, 0, 0] ∧ (![0, 0, 0, 0] : Fin 4 → ℕ) = ![0, (Soft.pos 0).1, 128 * 0, 0]
    ∧ (![0, 0, 128, 0] : Fin 4 → ℕ) = ![0, (Soft.pos 0).1, 128 * 1, 0] := by decide +kernel
theorem fresh_init (h n : ℕ) (k : Vec Ideal S1x512x128 .bf16) (q : Vec Ideal S1x1x128x512 .bf16) (b : Vec Ideal S1x512x512 .f32) (w : Vec Ideal S1x1x512x512 .bf16)
    (hX : IsX x2 x3 h n (scA k q b)) : Fresh x2 x3 h n (hdInit k q b w) := fresh_X x2 x3 h n _ hX _ (by rw [hdInit]) (by rw [hdInit])
theorem good_init (h : ℕ) (k : Vec Ideal S1x512x128 .bf16) (q : Vec Ideal S1x1x128x512 .bf16) (b : Vec Ideal S1x512x512 .f32) (w : Vec Ideal S1x1x512x512 .bf16)
    (hw : ∀ a c : Fin 512, w (ix4 0 0 a c) = (0 : EReal)) : Good x2 x3 x4 h 0 (hdInit k q b w) := by
  intro c d
  refine Soft.held_zero _ _ _ _ ?_ ?_ ?_ ?_
  · unfold col hdInit; exact z110_at c
  · unfold col hdInit; exact z111_at c
  · unfold col hdInit; exact z113_at d c
  · intro a; unfold col hdInit; exact hw a c
theorem fresh_step (h n : ℕ) (i j : BitVec 32) (X : FVec Ideal S512x512 .f32) (v : Vec Ideal S1x1x64x512 .bf16) (H : Hd Ideal)
    (hX : IsX x2 x3 h n X) : Fresh x2 x3 h n (stepH i j X v H) := fresh_X x2 x3 h n _ hX _ (by rw [stepH]) (by rw [stepH])
theorem hd0_pairUp (A B : Hd Ideal) : hd0 (pairUp A B) = A := rfl
theorem hd1_pairUp (A B : Hd Ideal) : hd1 (pairUp A B) = B := rfl

/-- Every score is a real number. -/
def RealScores : Prop := ∀ h c i κ, ∃ r : ℝ, sg x2 x3 h c i κ = r

variable (hr : RealScores x2 x3)
include hr

theorem xs_top (h : ℕ) (c : Fin 512) (i κ : ℕ) : xs x2 x3 h c i κ ≠ ⊤ := by
  unfold xs
  split_ifs
  · obtain ⟨r, e⟩ := hr h c i κ; rw [e]; exact EReal.coe_ne_top r
  · exact bot_ne_top
theorem xs_zero (h : ℕ) (c : Fin 512) (i : ℕ) : xs x2 x3 h c i 0 ≠ ⊥ := by
  unfold xs
  rw [if_pos (Nat.zero_le _)]
  obtain ⟨r, e⟩ := hr h c i 0; rw [e]; exact EReal.coe_ne_bot r

theorem good_step (h n : ℕ) (H : Hd Ideal) (hg : Good x2 x3 x4 h n H) (hf : Fresh x2 x3 h n H) (i j : BitVec 32)
    (hnew : isNew i j ↔ (Soft.pos n).2 = 0 ∧ 0 < (Soft.pos n).1) (X : FVec Ideal S512x512 .f32) (v : Vec Ideal S1x1x64x512 .bf16)
    (hv : n ≠ 0 → IsV x4 h (n - 1) v) : Good x2 x3 x4 h (n + 1) (stepH i j X v H) := by
  intro c d
  rw [col_step]
  refine Soft.step_held sc_pos _ (xs_top x2 x3 hr h c) (xs_zero x2 x3 hr h c) _ n _ (hg c d) (hf c d).1 (hf c d).2 _ hnew _ _ ?_
  intro n' e
  subst e
  funext a
  exact hv (by omega) d a

theorem run_good (k : ℕ) (hk : k ≤ 18) :
    Good x2 x3 x4 0 (2 * k) (hd0 (runSt x2 x3 x4 X8 (S0 x2 x3) k)) ∧ Good x2 x3 x4 1 (2 * k) (hd1 (runSt x2 x3 x4 X8 (S0 x2 x3) k))
    ∧ (k < 18 → Fresh x2 x3 0 (2 * k) (hd0 (runSt x2 x3 x4 X8 (S0 x2 x3) k)) ∧ Fresh x2 x3 1 (2 * k) (hd1 (runSt x2 x3 x4 X8 (S0 x2 x3) k))) := by
  induction k with
  | zero =>
    rw [runSt, S0_eq, hd0_pairUp, hd1_pairUp]
    refine ⟨?_, ?_, fun _ => ⟨?_, ?_⟩⟩
    · exact good_init x2 x3 x4 0 _ _ _ _ fun a c => z102_at 0 a c
    · exact good_init x2 x3 x4 1 _ _ _ _ fun a c => z102_at 1 a c
    · exact fresh_init x2 x3 0 0 _ _ _ _ (isX_A x2 x3 0 0 (by omega) (by omega) _ _ _ _ _ _ init_off.1 init_off.2.2.2.1 init_off.2.2.1)
    · exact fresh_init x2 x3 1 0 _ _ _ _ (isX_A x2 x3 1 0 (by omega) (by omega) _ _ _ _ _ _ init_off.2.1 init_off.2.2.2.2 init_off.2.2.1)
  | succ k ih =>
    obtain ⟨g0, g1, f⟩ := ih (by omega)
    obtain ⟨f0, f1⟩ := f (by omega)
    rw [runSt_succ x2 x3 x4 X8 _ k (by omega)]
    obtain ⟨X, Y, v, u, e, hX0, hY0, hXY, hvu, hv1, hu1⟩ := stepAt_eq x2 x3 x4 k (by omega) (runSt x2 x3 x4 X8 (S0 x2 x3) k)
    rw [e]
    simp only [two, hd0_pairUp, hd1_pairUp]
    have n1 := new1 k (by omega)
    have n2 := new2 k (by omega)
    have a0 := good_step x2 x3 x4 hr 0 (2 * k) _ g0 f0 _ _ n1 (X 0) (v 0) (fun h => (hvu (by omega)).1)
    have a1 := good_step x2 x3 x4 hr 1 (2 * k) _ g1 f1 _ _ n1 (Y 0) (u 0) (fun h => (hvu (by omega)).2)
    have b0 := good_step x2 x3 x4 hr 0 (2 * k + 1) _ a0 (fresh_step x2 x3 0 _ _ _ _ _ _ hX0) _ _ n2 (X 1) (v 1) (fun _ => hv1)
    have b1 := good_step x2 x3 x4 hr 1 (2 * k + 1) _ a1 (fresh_step x2 x3 1 _ _ _ _ _ _ hY0) _ _ n2 (Y 1) (u 1) (fun _ => hu1)
    refine ⟨b0, b1, fun hk' => ?_⟩
    exact ⟨fresh_step x2 x3 0 _ _ _ _ _ _ (hXY (by omega)).1, fresh_step x2 x3 1 _ _ _ _ _ _ (hXY (by omega)).2⟩

omit hr in
/-- One result: query `c` of tile `i`, coordinate `d` of head `h`. -/
def resAt (h : ℕ) (c : Fin 512) (d : ℕ) (i : ℕ) : EReal :=
  Ideal.div (Soft.A sc (xs x2 x3 h c i) (vN x4 (64 * h + d)) (512 * (i + 1))) (Soft.L sc (xs x2 x3 h c i) (512 * (i + 1)))

omit hr in
theorem fin_good (h n : ℕ) (H : Hd Ideal) (hg : Good x2 x3 x4 h n H) (hn : n ≠ 0) (hd : (Soft.pos (n - 1)).2 = (Soft.pos (n - 1)).1)
    (v : Vec Ideal S1x1x64x512 .bf16) (hv : IsV x4 h (n - 1) v) (c : Fin 512) (d : Fin 64) :
    Ideal.div (k0_pay19 H.r H.o v H.w (ix2 d c)) (H.l (ix2 0 c)) = resAt x2 x3 x4 h c d.val (Soft.pos (n - 1)).1 := by
  obtain ⟨m, rfl⟩ := Nat.exists_eq_succ_of_ne_zero hn
  rw [Nat.succ_sub_one] at *
  have ho := (hg c d).o (fun a => v (ix4 0 0 d a)) (by
    intro n' e
    have e' : m = n' := Nat.succ.inj e
    subst e'
    funext a; exact hv d a)
  have hl := (hg c d).l
  simp only [Soft.done, hd] at ho hl
  rw [o_at, resAt, ← ho, ← hl]
  rfl

omit hr in
/-- The block of results as a function of its index. -/
def outG : S1x4096x128.Idx → EReal := fun y =>
  resAt x2 x3 x4 ((y 2).val / 64) ⟨(y 1).val % 512, Nat.mod_lt _ (by norm_num)⟩ ((y 2).val % 64) ((y 1).val / 512)

omit hr in
/-- A stored tile. -/
theorem fin_tile (n : ℕ) (A B : Hd Ideal) (ga : Good x2 x3 x4 0 n A) (gb : Good x2 x3 x4 1 n B) (hn : n ≠ 0)
    (hd : (Soft.pos (n - 1)).2 = (Soft.pos (n - 1)).1) (v u : Vec Ideal S1x1x64x512 .bf16) (hv : IsV x4 0 (n - 1) v) (hu : IsV x4 1 (n - 1) u)
    (off : Fin 3 → ℕ) (inb) (e : off = ![0, 512 * (Soft.pos (n - 1)).1, 0]) (x : S1x512x128.Idx) :
    finish A B (k0_pay19 A.r A.o v A.w) (k0_pay19 B.r B.o u B.w) x
      = outG x2 x3 x4 ((Rect.unit (s := S1x4096x128) off S1x512x128.size inb).emb x) := by
  subst e
  have pv : (Soft.pos (n - 1)).1 < 8 := by
    have h := inb 1
    change 512 * (Soft.pos (n - 1)).1 + 512 ≤ 4096 at h
    omega
  obtain ⟨x0, xa, xd, rfl⟩ : ∃ (x0 : Fin 1) (xa : Fin 512) (xd : Fin 128), x = ix3 x0 xa xd := ⟨x 0, x 1, x 2, eq_ix3 x⟩
  have e0 : x0 = 0 := Subsingleton.elim _ _
  subst e0
  have ha := xa.isLt
  have hxd := xd.isLt
  rw [finish, fin_at, outG]
  have v1 : (((Rect.unit (s := S1x4096x128) ![0, 512 * (Soft.pos (n - 1)).1, 0] S1x512x128.size inb).emb (ix3 0 xa xd)) 1).val = 512 * (Soft.pos (n - 1)).1 + xa.val :=
    ValueKit.rect_emb_unit_val _ _ _ _ _
  have v2 : (((Rect.unit (s := S1x4096x128) ![0, 512 * (Soft.pos (n - 1)).1, 0] S1x512x128.size inb).emb (ix3 0 xa xd)) 2).val = xd.val :=
    (ValueKit.rect_emb_unit_val _ _ _ _ _).trans (Nat.zero_add _)
  have w1 : (512 * (Soft.pos (n - 1)).1 + xa.val) / 512 = (Soft.pos (n - 1)).1 := by omega
  have w2 : (512 * (Soft.pos (n - 1)).1 + xa.val) % 512 = xa.val := by omega
  simp only [v1, v2, w1, w2]
  split_ifs with h
  · rw [fin_good x2 x3 x4 0 n A ga hn hd v hv xa ⟨xd.val, h⟩]
    have q1 : xd.val / 64 = 0 := by omega
    have q2 : xd.val % 64 = xd.val := by omega
    rw [q1, q2]
  · rw [fin_good x2 x3 x4 1 n B gb hn hd u hu xa ⟨xd.val - 64, by omega⟩]
    have q1 : xd.val / 64 = 1 := by omega
    have q2 : xd.val % 64 = xd.val - 64 := by omega
    rw [q1, q2]

end

end Cert.KernelIdeal.Mla
-- ==== Proof.Tiles.lean ====
/-
  Every tile the kernel stores holds the results of its place, so the block of results is one function of its index.
-/
module

public import proofs.«01_k».proof.Proof.Induct

@[expose] public section

set_option maxRecDepth 16384

noncomputable section

namespace Cert.KernelIdeal.Mla

open Cert.KernelIdeal Cert.KernelIdeal.Gen
open Idealize.ShloMosaic Idealize.ShloMosaic.TcCoe

/-- Where finished tiles are stored. -/
theorem whereA1 : ∀ k : Fin 18, k0_cond1 (wd k).1 (wd k).2 = 1#1 → k0_cond2 (wd k).1 (wd k).2 = 1#1 →
    k.val ≠ 0 ∧ k0_off18 (wd k).1 = ![0, 512 * (Soft.pos (2 * k - 1)).1, 0] ∧ (Soft.pos (2 * k - 1)).2 = (Soft.pos (2 * k - 1)).1 := by decide +kernel
theorem whereA2 : ∀ k : Fin 18, k0_cond1 (wd k).1 (wd k).2 = 1#1 → k0_cond3 (wd k).1 (wd k).2 = 1#1 →
    k0_off19 (wd k).1 (wd k).2 = ![0, 512 * (Soft.pos (2 * k)).1, 0] ∧ (Soft.pos (2 * k)).2 = (Soft.pos (2 * k)).1 := by decide +kernel
theorem whereB1 : ∀ k : Fin 18, ¬ k0_cond1 (wd k).1 (wd k).2 = 1#1 → k0_cond4 (wd k).1 (wd k).2 = 1#1 →
    k.val ≠ 0 ∧ k0_off32 (wd k).1 = ![0, 512 * (Soft.pos (2 * k - 1)).1, 0] ∧ (Soft.pos (2 * k - 1)).2 = (Soft.pos (2 * k - 1)).1 := by decide +kernel
theorem whereB2 : ∀ k : Fin 18, ¬ k0_cond1 (wd k).1 (wd k).2 = 1#1 → k0_cond5 (wd k).1 (wd k).2 = 1#1 →
    k0_off33 (wd k).1 (wd k).2 = ![0, 512 * (Soft.pos (2 * k)).1, 0] ∧ (Soft.pos (2 * k)).2 = (Soft.pos (2 * k)).1 := by decide +kernel

section
variable (x2 : Vec Ideal S1x8x256x512 .bf16) (x3 : Vec Ideal S1x4096x256 .bf16) (x4 : Vec Ideal S1x8x128x512 .bf16)
variable (hr : RealScores x2 x3)
include hr

theorem store1 (k : ℕ) (hk : k < 18) (h0 : k ≠ 0) (hd : (Soft.pos (2 * k - 1)).2 = (Soft.pos (2 * k - 1)).1)
    (off : Fin 3 → ℕ) (inb) (e : off = ![0, 512 * (Soft.pos (2 * k - 1)).1, 0]) (x : S1x512x128.Idx) :
    (stepAt x2 x3 x4 X8 k hk (runSt x2 x3 x4 X8 (S0 x2 x3) k)).2.1 x
      = outG x2 x3 x4 ((Rect.unit (s := S1x4096x128) off S1x512x128.size inb).emb x) := by
  obtain ⟨g0, g1, f⟩ := run_good x2 x3 x4 hr k (by omega)
  obtain ⟨X, Y, v, u, es, hX0, hY0, hXY, hvu, hv1, hu1⟩ := stepAt_eq x2 x3 x4 k hk (runSt x2 x3 x4 X8 (S0 x2 x3) k)
  rw [es]
  exact fin_tile x2 x3 x4 (2 * k) _ _ g0 g1 (by omega) hd _ _ (hvu h0).1 (hvu h0).2 off inb e x

theorem store2 (k : ℕ) (hk : k < 18) (hd : (Soft.pos (2 * k)).2 = (Soft.pos (2 * k)).1)
    (off : Fin 3 → ℕ) (inb) (e : off = ![0, 512 * (Soft.pos (2 * k)).1, 0]) (x : S1x512x128.Idx) :
    (stepAt x2 x3 x4 X8 k hk (runSt x2 x3 x4 X8 (S0 x2 x3) k)).2.2 x
      = outG x2 x3 x4 ((Rect.unit (s := S1x4096x128) off S1x512x128.size inb).emb x) := by
  obtain ⟨g0, g1, f⟩ := run_good x2 x3 x4 hr k (by omega)
  obtain ⟨f0, f1⟩ := f hk
  obtain ⟨X, Y, v, u, es, hX0, hY0, hXY, hvu, hv1, hu1⟩ := stepAt_eq x2 x3 x4 k hk (runSt x2 x3 x4 X8 (S0 x2 x3) k)
  rw [es]
  have a0 := good_step x2 x3 x4 hr 0 (2 * k) _ g0 f0 _ _ (new1 k hk) (X 0) (v 0) (fun h => (hvu (by omega)).1)
  have a1 := good_step x2 x3 x4 hr 1 (2 * k) _ g1 f1 _ _ (new1 k hk) (Y 0) (u 0) (fun h => (hvu (by omega)).2)
  exact fin_tile x2 x3 x4 (2 * k + 1) _ _ a0 a1 (by omega) hd _ _ hv1 hu1 off inb e x

theorem newP_mem (k : ℕ) (hk : k < 18) : ∀ p ∈ newP x2 x3 x4 (X8 (F := Ideal)) k hk (runSt x2 x3 x4 X8 (S0 x2 x3) k), ∀ x, p.2 x = outG x2 x3 x4 (p.1.emb x) := by
  intro p hp
  unfold newP at hp
  split_ifs at hp with h1 h2 h3 h4 h5
  · rw [List.mem_singleton] at hp; subst hp
    obtain ⟨a, b, c⟩ := whereA1 ⟨k, hk⟩ h1 h2
    exact store1 x2 x3 x4 hr k hk a c _ (k0_off18_inb _ _ (chk k hk) h1 h2) b
  · rw [List.mem_singleton] at hp; subst hp
    obtain ⟨b, c⟩ := whereA2 ⟨k, hk⟩ h1 h3
    exact store2 x2 x3 x4 hr k hk c _ (k0_off19_inb _ _ (chk k hk) h1 h3) b
  · exact absurd hp List.not_mem_nil
  · rw [List.mem_singleton] at hp; subst hp
    obtain ⟨a, b, c⟩ := whereB1 ⟨k, hk⟩ h1 h4
    exact store1 x2 x3 x4 hr k hk a c _ (k0_off32_inb _ _ (chk k hk) h1 h4) b
  · rw [List.mem_singleton] at hp; subst hp
    obtain ⟨b, c⟩ := whereB2 ⟨k, hk⟩ h1 h5
    exact store2 x2 x3 x4 hr k hk c _ (k0_off33_inb _ _ (chk k hk) h1 h5) b
  · exact absurd hp List.not_mem_nil

theorem pcs_mem (n : ℕ) : ∀ p ∈ pcs x2 x3 x4 (X8 (F := Ideal)) (S0 x2 x3) n, ∀ x, p.2 x = outG x2 x3 x4 (p.1.emb x) := by
  induction n with
  | zero => intro p hp; exact absurd hp List.not_mem_nil
  | succ n ih =>
    intro p hp
    by_cases hn : n < 18
    · rw [pcs_succ x2 x3 x4 X8 _ n hn] at hp
      rcases List.mem_append.mp hp with h | h
      · exact newP_mem x2 x3 x4 hr n hn p h
      · exact ih p h
    · rw [pcs, dif_neg hn] at hp
      exact ih p hp

theorem last_mem (x : S1x512x128.Idx) : lastP x4 (runSt x2 x3 x4 X8 (S0 x2 x3) 18) x
    = outG x2 x3 x4 ((Rect.unit (s := S1x4096x128) ![0, 3584, 0] S1x512x128.size inb_S1x4096x128_S1x512x128_0_3584_0).emb x) := by
  obtain ⟨g0, g1, f⟩ := run_good x2 x3 x4 hr 18 (by omega)
  rw [lastP_eq]
  have e7 : (![0, 7, 0, 0] : Fin 4 → ℕ) = ![0, (Soft.pos 35).2, 64 * 0, 0] := by decide
  have e7' : (![0, 7, 64, 0] : Fin 4 → ℕ) = ![0, (Soft.pos 35).2, 64 * 1, 0] := by decide
  exact fin_tile x2 x3 x4 36 _ _ g0 g1 (by omega) (by decide) _ _
    (fun d a => ldv x4 _ _ _ 0 e7 (by decide) (by omega) d a) (fun d a => ldv x4 _ _ _ 1 e7' (by decide) (by omega) d a) _ _ (by decide) x

/-- The block of results. -/
theorem outOf_eq : outOf x2 x3 x4 = outG x2 x3 x4 := by
  funext y
  have h := View.canon_append_of_pieces (outG x2 x3 x4) [] (allP x2 x3 x4) (by
    intro p hp
    unfold allP at hp
    rcases List.mem_cons.mp hp with h | h
    · subst h; exact last_mem x2 x3 x4 hr
    · exact pcs_mem x2 x3 x4 hr 18 p h) y (allP_cover x2 x3 x4 y)
  rw [List.append_nil] at h
  exact h

end

end Cert.KernelIdeal.Mla
-- ==== Proof.Final.lean ====
/-
  The result array after the run, as one function of the argument arrays.
-/
module

public import proofs.«01_k».proof.Proof.Tiles
public import proofs.«01_k».proof.Proof.LaunchIdeal
public import Idealize.ShloMosaic.Lib.Pipeline.ValueKit

@[expose] public section

set_option maxRecDepth 16384

noncomputable section

namespace Cert.KernelIdeal.Mla

open Cert.KernelIdeal Cert.KernelIdeal.Gen
open Idealize.ShloMosaic Idealize.ShloMosaic.TcCoe Idealize.SL.Sem
open Idealize.ShloMosaic.Pipeline (Dat)

/-- The blocks of queries, keys and values of batch `b` and head pair `g`. -/
def bq (Q : FVec Ideal S8x8x1024x512 .bf16) (b : Fin 8) (g : Fin 4) : Vec Ideal S1x8x256x512 .bf16 := fun i =>
  Q (ix4 b ⟨(i 1).val, (i 1).isLt⟩ ⟨g.val * 256 + (i 2).val, by have h : (i 2).val < 256 := (i 2).isLt; omega⟩ ⟨(i 3).val, (i 3).isLt⟩)
def bk (K : FVec Ideal S8x4096x1024 .bf16) (b : Fin 8) (g : Fin 4) : Vec Ideal S1x4096x256 .bf16 := fun i =>
  K (ix3 b ⟨(i 1).val, (i 1).isLt⟩ ⟨g.val * 256 + (i 2).val, by have h : (i 2).val < 256 := (i 2).isLt; omega⟩)
def bv (V : FVec Ideal S8x8x512x512 .bf16) (b : Fin 8) (g : Fin 4) : Vec Ideal S1x8x128x512 .bf16 := fun i =>
  V (ix4 b ⟨(i 1).val, (i 1).isLt⟩ ⟨g.val * 128 + (i 2).val, by have h : (i 2).val < 128 := (i 2).isLt; omega⟩ ⟨(i 3).val, (i 3).isLt⟩)

/-- The attention as the kernel computes it. -/
def mla (Q : FVec Ideal S8x8x1024x512 .bf16) (K : FVec Ideal S8x4096x1024 .bf16) (V : FVec Ideal S8x8x512x512 .bf16) : FVec Ideal S8x4096x512 .bf16 := fun y =>
  outG (bq Q ⟨(y 0).val, (y 0).isLt⟩ ⟨(y 2).val / 128, by have h : (y 2).val < 512 := (y 2).isLt; omega⟩)
    (bk K ⟨(y 0).val, (y 0).isLt⟩ ⟨(y 2).val / 128, by have h : (y 2).val < 512 := (y 2).isLt; omega⟩)
    (bv V ⟨(y 0).val, (y 0).isLt⟩ ⟨(y 2).val / 128, by have h : (y 2).val < 512 := (y 2).isLt; omega⟩)
    (ix3 0 ⟨(y 1).val, (y 1).isLt⟩ ⟨(y 2).val % 128, Nat.mod_lt _ (by norm_num)⟩)

variable (m : (ℓ : Loc nD τ sig) → Buf (Elt Ideal) ℓ)

theorem idx : ∀ t : Fin cfg0.N, win0_0.index t = ![t.val / 4, 0, t.val % 4, 0] ∧ win0_1.index t = ![t.val / 4, 0, t.val % 4]
    ∧ win0_2.index t = ![t.val / 4, 0, t.val % 4, 0] ∧ win0_3.index t = ![t.val / 4, 0, t.val % 4] ∧ t.val / 4 < 8 ∧ t.val % 4 < 4 :=
  (by decide +kernel : ∀ t : Fin grid0.N, _)

theorem iq (c : Dev nD) (t : Fin cfg0.N) : iblk m c 0 t = bq (m ((c : Thread nD τ).loc main_arg0)) ⟨t.val / 4, (idx t).2.2.2.2.1⟩ ⟨t.val % 4, (idx t).2.2.2.2.2⟩ := by
  funext i
  unfold bq
  blk_ext [iblk, V, idx t]
theorem ik (c : Dev nD) (t : Fin cfg0.N) : iblk m c 1 t = bk (m ((c : Thread nD τ).loc main_arg1)) ⟨t.val / 4, (idx t).2.2.2.2.1⟩ ⟨t.val % 4, (idx t).2.2.2.2.2⟩ := by
  funext i
  unfold bk
  blk_ext [iblk, V, idx t]
theorem iv (c : Dev nD) (t : Fin cfg0.N) : iblk m c 2 t = bv (m ((c : Thread nD τ).loc main_arg2)) ⟨t.val / 4, (idx t).2.2.2.2.1⟩ ⟨t.val % 4, (idx t).2.2.2.2.2⟩ := by
  funext i
  unfold bv
  blk_ext [iblk, V, idx t]

theorem mla_at (Q : FVec Ideal S8x8x1024x512 .bf16) (K : FVec Ideal S8x4096x1024 .bf16) (V : FVec Ideal S8x8x512x512 .bf16)
    (z : S8x4096x512.Idx) (b : Fin 8) (g : Fin 4) (y : S1x4096x128.Idx) (h0 : (z 0).val = b.val) (h1 : (z 1).val = (y 1).val)
    (h2 : (z 2).val = g.val * 128 + (y 2).val) : outG (bq Q b g) (bk K b g) (bv V b g) y = mla Q K V z := by
  have hy : (y 2).val < 128 := (y 2).isLt
  have e0 : (⟨(z 0).val, (z 0).isLt⟩ : Fin 8) = b := Fin.ext h0
  have e2 : (⟨(z 2).val / 128, by have h : (z 2).val < 512 := (z 2).isLt; omega⟩ : Fin 4) = g := Fin.ext (by show (z 2).val / 128 = g.val; omega)
  have ey : y = (ix3 0 ⟨(z 1).val, (z 1).isLt⟩ ⟨(z 2).val % 128, Nat.mod_lt _ (by norm_num)⟩ : S1x4096x128.Idx) := by
    rw [eq_ix3 y]
    have h0' : (show Fin 1 from y 0) = 0 := Subsingleton.elim _ _
    have h1' : y 1 = ⟨(z 1).val, (z 1).isLt⟩ := Fin.ext h1.symm
    have h2' : y 2 = ⟨(z 2).val % 128, Nat.mod_lt _ (by norm_num)⟩ := Fin.ext (by show (y 2).val = (z 2).val % 128; omega)
    exact congr (congr (congrArg ix3 h0') h1') h2'
  unfold mla
  rw [e0, e2]
  exact congrArg _ ey

/-- Every score of every block is a real number. -/
def AllReal (Q : FVec Ideal S8x8x1024x512 .bf16) (K : FVec Ideal S8x4096x1024 .bf16) : Prop := ∀ b g, RealScores (bq Q b g) (bk K b g)

theorem final (c : Dev nD) (hr : AllReal (m ((c : Thread nD τ).loc main_arg0)) (m ((c : Thread nD τ).loc main_arg1))) :
    (dats m 0 c).arrAt 3 (cfgs 0).N = mla (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after_3, outAt, iq, ik, iv, outOf_eq _ _ _ (hr _ _)]
  refine mla_at _ _ _ _ _ _ _ ?_ ?_ ?_
  · have h : (y 0).val < 1 := (y 0).isLt
    blk_simp [idx t]
  · blk_simp [idx t]
  · blk_simp [idx t]

end Cert.KernelIdeal.Mla
-- ==== Proof.Rows.lean ====
/-
  One row of attention: the textbook softmax of a masked row, divided weight by weight, is the quotient of the weighted sum by
  the sum of weights taken over any prefix that holds every key the mask keeps.
-/
module

public import proofs.«01_k».proof.Proof.Soft

@[expose] public section

noncomputable section

namespace Cert.Soft

open Idealize.ShloMosaic

/-- Keys past the prefix are masked. -/
theorem M_ext (x : ℕ → EReal) (N n : ℕ) (h : N ≤ n) (hm : ∀ κ, N ≤ κ → x κ = ⊥) : M x n = M x N := by
  apply le_antisymm
  · refine Finset.sup_le fun κ _ => ?_
    by_cases hk : κ < N
    · exact Finset.le_sup (f := x) (Finset.mem_range.mpr hk)
    · rw [hm κ (by omega)]; exact bot_le
  · exact Finset.sup_mono (Finset.range_mono h)
theorem L_ext {c : ℝ} (hc : 0 < c) (x : ℕ → EReal) (N n : ℕ) (h : N ≤ n) (hm : ∀ κ, N ≤ κ → x κ = ⊥) : L c x n = L c x N := by
  unfold L
  rw [M_ext x N n h hm]
  refine (Finset.sum_subset (Finset.range_mono h) fun κ _ hk => ?_).symm
  rw [Finset.mem_range] at hk
  rw [hm κ (by omega), ex_bot hc]
theorem A_ext {c : ℝ} (hc : 0 < c) (x v : ℕ → EReal) (N n : ℕ) (h : N ≤ n) (hm : ∀ κ, N ≤ κ → x κ = ⊥) : A c x v n = A c x v N := by
  unfold A
  rw [M_ext x N n h hm]
  refine (Finset.sum_subset (Finset.range_mono h) fun κ _ hk => ?_).symm
  rw [Finset.mem_range] at hk
  rw [hm κ (by omega), ex_bot hc, mul_zero]

section
variable {c t : ℝ} (hc : 0 < c) (ht : 0 < t) (hct : Real.log 2 * c = t) {x : ℕ → EReal} (hx : ∀ κ, x κ ≠ ⊤) (h0 : x 0 ≠ ⊥)
include hc ht hct

/-- A weight to base e is a weight to base 2. -/
theorem ex_exp (a : EReal) (ha : a ≠ ⊤) (μ : ℝ) : Ideal.exp (a * (t : EReal) - (μ : EReal) * (t : EReal)) = ex c a μ := by
  induction a using EReal.rec with
  | bot => rw [ex_bot hc, EReal.bot_mul_coe_of_pos ht, EReal.bot_sub, Ideal.exp_bot]
  | top => exact absurd rfl ha
  | coe a =>
    rw [ex_coe, ← EReal.coe_mul, ← EReal.coe_mul, ← EReal.coe_sub, Ideal.exp_coe]
    refine congrArg _ ?_
    change Real.exp (a * t - μ * t) = (2 : ℝ) ^ ((a - μ) * c)
    rw [Real.rpow_def_of_pos two_pos, ← hct]
    congr 1; ring

/-- A weight is a nonnegative real, positive where the score is real. -/
theorem ex_real (a : EReal) (ha : a ≠ ⊤) (μ : ℝ) : ∃ r : ℝ, 0 ≤ r ∧ (a ≠ ⊥ → 0 < r) ∧ ex c a μ = r := by
  induction a using EReal.rec with
  | bot => exact ⟨0, le_refl _, fun h => absurd rfl h, by rw [ex_bot hc]; rfl⟩
  | top => exact absurd rfl ha
  | coe a =>
    have hp : 0 < (2 : ℝ) ^ ((a - μ) * c) := Real.rpow_pos_of_pos two_pos _
    exact ⟨_, hp.le, fun _ => hp, ex_coe c a μ⟩

include hx h0

theorem L_real (n : ℕ) (hn : 0 < n) : ∃ l : ℝ, 0 < l ∧ L c x n = l := by
  obtain ⟨μ, hμ⟩ := M_real hx h0 n hn
  choose r r0 rp re using fun κ => ex_real hc ht hct (x κ) (hx κ) μ
  refine ⟨∑ κ ∈ Finset.range n, r κ, ?_, ?_⟩
  · exact Finset.sum_pos' (fun κ _ => r0 κ) ⟨0, Finset.mem_range.mpr hn, rp 0 h0⟩
  · unfold L
    rw [hμ, Finset.sum_congr rfl fun κ _ => re κ]
    exact (map_sum (⟨⟨Real.toEReal, rfl⟩, EReal.coe_add⟩ : ℝ →+ EReal) r _).symm

/-- The largest scaled score. -/
theorem fold_eq (n : ℕ) (hn : 0 < n) : max ⊥ (Finset.fold max ⊥ (fun κ : Fin n => x κ.val * (t : EReal)) Finset.univ) = M x n * (t : EReal) := by
  rw [max_eq_right bot_le]
  change Finset.univ.sup (fun κ : Fin n => x κ.val * (t : EReal)) = _
  have ht' : (0 : EReal) ≤ (t : EReal) := EReal.coe_nonneg.mpr ht.le
  apply le_antisymm
  · exact Finset.sup_le fun κ _ => mul_le_mul_of_nonneg_right (Finset.le_sup (f := x) (Finset.mem_range.mpr κ.isLt)) ht'
  · obtain ⟨κ, hk, e⟩ := Finset.exists_mem_eq_sup (Finset.range n) ⟨0, Finset.mem_range.mpr hn⟩ x
    rw [M, e]
    exact Finset.le_sup (f := fun κ : Fin n => x κ.val * (t : EReal)) (Finset.mem_univ ⟨κ, Finset.mem_range.mp hk⟩)

theorem row_eq (v : ℕ → EReal) (N n : ℕ) (hN : 0 < N) (h : N ≤ n) (hm : ∀ κ, N ≤ κ → x κ = ⊥) (z : Fin n → EReal)
    (hz : ∀ κ, z κ = x κ.val * (t : EReal)) :
    ∑ κ : Fin n, Ideal.div (Ideal.exp (z κ - max ⊥ (Finset.fold max ⊥ z Finset.univ)))
        (∑ j : Fin n, Ideal.exp (z j - max ⊥ (Finset.fold max ⊥ z Finset.univ))) * v κ.val
      = Ideal.div (A c x v N) (L c x N) := by
  obtain rfl : z = fun κ => x κ.val * (t : EReal) := funext hz
  rw [fold_eq hc ht hct hx h0 n (by omega)]
  obtain ⟨μ, hμ⟩ := M_real hx h0 n (by omega)
  obtain ⟨l, l0, hl⟩ := L_real hc ht hct hx h0 n (by omega)
  have hL : ∑ j : Fin n, Ideal.exp (x j.val * (t : EReal) - M x n * (t : EReal)) = (l : EReal) := by
    rw [← hl, L, Finset.sum_range]
    refine Finset.sum_congr rfl fun κ _ => ?_
    rw [hμ, ex_exp hc ht hct _ (hx _)]
  rw [← A_ext hc x v N n h hm, ← L_ext hc x N n h hm, hl, Ideal.div_coe l0.ne']
  simp only [hL]
  rw [A, Finset.sum_range, mul_comm (∑ _, _) ((1 / l : ℝ) : EReal), mul_sum_coe _ _ _ (by positivity)]
  refine Finset.sum_congr rfl fun κ _ => ?_
  rw [Ideal.div_coe l0.ne', hμ, ex_exp hc ht hct _ (hx _), mul_comm (ex c _ _), mul_assoc, mul_comm (ex c _ _)]

end

end Cert.Soft
-- ==== Proof.RefAt.lean ====
/-
  The reference's result at an index.
-/
module

public import proofs.«01_k».proof.Defs
public import proofs.«01_k».proof.Proof.Gen.ReferenceIdeal.Run
public import Idealize.ShloMosaic.Lib.Pointwise

@[expose] public section

set_option maxRecDepth 16384

noncomputable section

namespace Cert.ReferenceIdeal.Mla

open Cert.ReferenceIdeal Cert.ReferenceIdeal.Gen Cert.ReferenceIdeal.Value
open Idealize.ShloMosaic Idealize.ShloMosaic.TcCoe Idealize.SL.Sem Idealize.ShloMosaic.StableHlo

/-- The reference's stages. -/
def qh (Q : FVec Ideal S8x8x1024x512 .bf16) : FVec Ideal S8x8x4096x128 .f32 :=
  transpose S8x8x4096x128 [0, 2, 1, 3] (shapeCast _ (extf .f32 (shapeCast _ (transpose S8x8x512x1024 [0, 1, 3, 2] Q transposes_S8x8x1024x512_S8x8x512x1024_0_1_3_2) shapeCasts_S8x8x512x1024_S8x4096x1024) bitsLt_bf16_f32) shapeCasts_S8x4096x1024_S8x4096x8x128) transposes_S8x4096x8x128_S8x8x4096x128_0_2_1_3
def kh (K : FVec Ideal S8x4096x1024 .bf16) : FVec Ideal S8x8x4096x128 .f32 :=
  transpose S8x8x4096x128 [0, 2, 1, 3] (shapeCast _ (extf .f32 K bitsLt_bf16_f32) shapeCasts_S8x4096x1024_S8x4096x8x128) transposes_S8x4096x8x128_S8x8x4096x128_0_2_1_3
def vh (V : FVec Ideal S8x8x512x512 .bf16) : FVec Ideal S8x8x4096x64 .f32 :=
  transpose S8x8x4096x64 [0, 2, 1, 3] (shapeCast _ (extf .f32 (shapeCast _ (transpose S8x8x512x512 [0, 1, 3, 2] V transposes_S8x8x512x512_S8x8x512x512_0_1_3_2) shapeCasts_S8x8x512x512_S8x4096x512) bitsLt_bf16_f32) shapeCasts_S8x4096x512_S8x4096x8x64) transposes_S8x4096x8x64_S8x8x4096x64_0_2_1_3
def kept : IVec S8x8x4096x4096 1 :=
  broadcastInDim S8x8x4096x4096 ![2, 3] bcast_S4096x4096_S8x8x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))
def dots (q k : FVec Ideal S8x8x4096x128 .f32) : FVec Ideal S8x8x4096x4096 .f32 :=
  Host.dotGeneral dot_S8x8x4096x128_S8x8x4096x128_S8x8x4096x4096_3_3_2_2_01_01 none q k
def masked (w : IVec S8x8x4096x4096 1) (s : FVec Ideal S8x8x4096x4096 .f32) : FVec Ideal S8x8x4096x4096 .f32 :=
  select w (mulf s (broadcastInDim S8x8x4096x4096 ![] bcast_S_S8x8x4096x4096 (Host.divf (constant S_ .f32 0x3F800000#32) (Host.sqrt (constant S_ .f32 0x42C00000#32))))) (broadcastInDim S8x8x4096x4096 ![] bcast_S_S8x8x4096x4096 (id (constant S_ .f32 0xFF800000#32)))
def top (z : FVec Ideal S8x8x4096x4096 .f32) : FVec Ideal S8x8x4096 .f32 :=
  maximumf (broadcastInDim S8x8x4096 ![] bcast_S_S8x8x4096 (constant S_ .f32 0xFF800000#32)) (Host.reduce FloatOps.maximumf z (constant S_ .f32 0xFF800000#32) reducesTo_S8x8x4096x4096_S8x8x4096_d3 h_S_)
def spread (a : FVec Ideal S8x8x4096 .f32) : FVec Ideal S8x8x4096x4096 .f32 :=
  broadcastInDim S8x8x4096x4096 ![0, 1, 2, 3] bcast_S8x8x4096x1_S8x8x4096x4096_0_1_2_3 (broadcastInDim S8x8x4096x1 ![0, 1, 2] bcast_S8x8x4096_S8x8x4096x1_0_1_2 a)
def expo (z a : FVec Ideal S8x8x4096x4096 .f32) : FVec Ideal S8x8x4096x4096 .f32 := Host.exp (subf z a)
def total (w : FVec Ideal S8x8x4096x4096 .f32) : FVec Ideal S8x8x4096 .f32 :=
  Host.reduceAdd w (constant S_ .f32 0x00000000#32) reducesTo_S8x8x4096x4096_S8x8x4096_d3 h_S_
def out (w d : FVec Ideal S8x8x4096x4096 .f32) (v : FVec Ideal S8x8x4096x64 .f32) : FVec Ideal S8x4096x512 .bf16 :=
  truncf .bf16 (shapeCast _ (transpose S8x4096x8x64 [0, 2, 1, 3] (Host.dotGeneral dot_S8x8x4096x4096_S8x8x4096x64_S8x8x4096x64_3_2_2_3_01_01 none (Host.divf w d) v) transposes_S8x8x4096x64_S8x4096x8x64_0_2_1_3) shapeCasts_S8x4096x8x64_S8x4096x512) bitsLt_bf16_f32

theorem qh_at (Q : FVec Ideal S8x8x1024x512 .bf16) (b h : Fin 8) (r : Fin 4096) (d : Fin 128) :
    qh Q (ix4 b h r d) = Q (ix4 b ⟨r.val / 512, by omega⟩ ⟨h.val * 128 + d.val, by omega⟩ ⟨r.val % 512, by omega⟩) := by
  pointwise [qh]

theorem kh_at (K : FVec Ideal S8x4096x1024 .bf16) (b h : Fin 8) (r : Fin 4096) (d : Fin 128) :
    kh K (ix4 b h r d) = K (ix3 b r ⟨h.val * 128 + d.val, by omega⟩) := by
  pointwise [kh]

theorem vh_at (V : FVec Ideal S8x8x512x512 .bf16) (b h : Fin 8) (r : Fin 4096) (d : Fin 64) :
    vh V (ix4 b h r d) = V (ix4 b ⟨r.val / 512, by omega⟩ ⟨h.val * 64 + d.val, by omega⟩ ⟨r.val % 512, by omega⟩) := by
  pointwise [vh]

theorem kept_at (b h : Fin 8) (r κ : Fin 4096) :
    kept (ix4 b h r κ) = IntOp.cmpi CmpIPredicate.sle (BitVec.ofNat 32 κ.val) (BitVec.ofNat 32 r.val) := by
  pointwise [kept]

theorem dots_at (q k : FVec Ideal S8x8x4096x128 .f32) (b h : Fin 8) (r κ : Fin 4096) :
    dots q k (ix4 b h r κ) = ∑ d : Fin 128, q (ix4 b h r d) * k (ix4 b h κ d) := by
  pointwise [dots]

theorem masked_at (w : IVec S8x8x4096x4096 1) (s : FVec Ideal S8x8x4096x4096 .f32) (j : S8x8x4096x4096.Idx) :
    masked w s j = Scalar.select (w j) (s j * Ideal.div 1 (Ideal.sqrt (Ideal.ofBits FTy.f32 1119879168#32))) (Ideal.ofBits FTy.f32 4286578688#32) := by
  pointwise [masked]
  rfl

theorem redmax {n0 n1 n2 n3 : ℕ} (z : FVec Ideal ⟨4, ![n0, n1, n2, n3]⟩ .f32) (init : FVec Ideal S_ .f32)
    (h : (⟨4, ![n0, n1, n2, n3]⟩ : Shape).ReducesTo [3] ⟨3, ![n0, n1, n2]⟩) (hu : 0 < S_.numel) (a : Fin n0) (b : Fin n1) (r : Fin n2) :
    Host.reduce FloatOps.maximumf z init h hu (ix3 a b r) = Finset.fold max (init (Shape.Idx.first hu)) (fun κ : Fin n3 => z (ix4 a b r κ)) Finset.univ := by
  rw [Ideal.maximumf_eq_max, Host.reduce_eq_fold, Shape.ReducesTo.fold_fiber_r4_a3]
  rfl
theorem max_at {s : Shape} (u v : FVec Ideal s .f32) (j : s.Idx) : maximumf u v j = max (u j : EReal) (v j) := rfl
theorem flat_at (w : BitVec 32) (j : S8x8x4096.Idx) : broadcastInDim S8x8x4096 ![] bcast_S_S8x8x4096 (constant (F := Ideal) S_ .f32 w) j = Ideal.ofBits FTy.f32 w := rfl
theorem const_at (w : BitVec 32) (j : S_.Idx) : constant (F := Ideal) S_ .f32 w j = Ideal.ofBits FTy.f32 w := rfl
theorem top_at (z : FVec Ideal S8x8x4096x4096 .f32) (b h : Fin 8) (r : Fin 4096) :
    top z (ix3 b h r) = max (Ideal.ofBits FTy.f32 4286578688#32) (Finset.fold max (Ideal.ofBits FTy.f32 4286578688#32) (fun κ : Fin 4096 => z (ix4 b h r κ)) Finset.univ) := by
  have e := redmax z (constant S_ .f32 0xFF800000#32) reducesTo_S8x8x4096x4096_S8x8x4096_d3 h_S_ b h r
  rw [const_at] at e
  unfold top
  rw [max_at, flat_at]
  exact congrArg _ e

theorem spread_at (a : FVec Ideal S8x8x4096 .f32) (b h : Fin 8) (r κ : Fin 4096) : spread a (ix4 b h r κ) = a (ix3 b h r) := by
  pointwise [spread]

theorem expo_at (z a : FVec Ideal S8x8x4096x4096 .f32) (j : S8x8x4096x4096.Idx) : expo z a j = Ideal.exp (z j - a j) := by
  pointwise [expo]

theorem total_at (w : FVec Ideal S8x8x4096x4096 .f32) (b h : Fin 8) (r : Fin 4096) :
    total w (ix3 b h r) = ∑ κ : Fin 4096, w (ix4 b h r κ) := by
  pointwise [total]

theorem out_at (w d : FVec Ideal S8x8x4096x4096 .f32) (v : FVec Ideal S8x8x4096x64 .f32) (b : Fin 8) (r : Fin 4096) (e : Fin 512) :
    out w d v (ix3 b r e) = ∑ κ : Fin 4096, Ideal.div (w (ix4 b ⟨e.val / 64, by omega⟩ r κ)) (d (ix4 b ⟨e.val / 64, by omega⟩ r κ))
      * v (ix4 b ⟨e.val / 64, by omega⟩ κ ⟨e.val % 64, by omega⟩) := by
  pointwise [out]
/-- A masked score of the reference, and one result. -/
def zz (Q : FVec Ideal S8x8x1024x512 .bf16) (K : FVec Ideal S8x4096x1024 .bf16) (b : Fin 8) (r : Fin 4096) (e : Fin 512) (κ : Fin 4096) : EReal :=
  Scalar.select (IntOp.cmpi CmpIPredicate.sle (BitVec.ofNat 32 κ.val) (BitVec.ofNat 32 r.val))
      ((∑ x : Fin 128, Q (ix4 b ⟨r.val / 512, by omega⟩ ⟨e.val / 64 * 128 + x.val, by omega⟩ ⟨r.val % 512, by omega⟩) *
          K (ix3 b κ ⟨e.val / 64 * 128 + x.val, by omega⟩)) * Ideal.div 1 (Ideal.sqrt (Ideal.ofBits FTy.f32 1119879168#32)))
      (Ideal.ofBits FTy.f32 4286578688#32)

def zt (Q : FVec Ideal S8x8x1024x512 .bf16) (K : FVec Ideal S8x4096x1024 .bf16) : FVec Ideal S8x8x4096x4096 .f32 := masked kept (dots (qh Q) (kh K))
def et (Q : FVec Ideal S8x8x1024x512 .bf16) (K : FVec Ideal S8x4096x1024 .bf16) : FVec Ideal S8x8x4096x4096 .f32 := expo (zt Q K) (spread (top (zt Q K)))

theorem zt_at (Q : FVec Ideal S8x8x1024x512 .bf16) (K : FVec Ideal S8x4096x1024 .bf16) (b : Fin 8) (r : Fin 4096) (e : Fin 512) (κ : Fin 4096) :
    zt Q K (ix4 b ⟨e.val / 64, by omega⟩ r κ) = zz Q K b r e κ := by
  rw [zt, masked_at, kept_at, dots_at]
  unfold zz
  refine congrArg (fun a => Scalar.select _ (a * _) _) (Finset.sum_congr rfl fun d _ => ?_)
  rw [qh_at, kh_at]

variable (m : (ℓ : Loc nD τ sig) → Buf (Elt Ideal) ℓ)

theorem ref_at (c : Dev nD)
    (Q : FVec Ideal S8x8x1024x512 .bf16) (K : FVec Ideal S8x4096x1024 .bf16) (V : FVec Ideal S8x8x512x512 .bf16)
    (hQ : m ((c.tc : Thread nD τ).loc main_arg0) = Q) (hK : m ((c.tc : Thread nD τ).loc main_arg1) = K) (hV : m ((c.tc : Thread nD τ).loc main_arg2) = V) :
    res_main_v40 (F := Ideal) m c = out (et Q K) (spread (total (et Q K))) (vh V) := by
  subst hQ hK hV
  unfold res_main_v40
  rfl

theorem row_at (Q : FVec Ideal S8x8x1024x512 .bf16) (K : FVec Ideal S8x4096x1024 .bf16) (V : FVec Ideal S8x8x512x512 .bf16)
    (b : Fin 8) (r : Fin 4096) (e : Fin 512) : out (et Q K) (spread (total (et Q K))) (vh V) (ix3 b r e) = ∑ κ : Fin 4096, Ideal.div
      (Ideal.exp (zz Q K b r e κ - max (Ideal.ofBits FTy.f32 4286578688#32) (Finset.fold max (Ideal.ofBits FTy.f32 4286578688#32) (zz Q K b r e) Finset.univ)))
      (∑ j : Fin 4096, Ideal.exp (zz Q K b r e j - max (Ideal.ofBits FTy.f32 4286578688#32) (Finset.fold max (Ideal.ofBits FTy.f32 4286578688#32) (zz Q K b r e) Finset.univ)))
    * V (ix4 b ⟨κ.val / 512, by omega⟩ e ⟨κ.val % 512, by omega⟩) := by
  have het : ∀ κ : Fin 4096, et Q K (ix4 b ⟨e.val / 64, by omega⟩ r κ) = Ideal.exp (zz Q K b r e κ - max (Ideal.ofBits FTy.f32 4286578688#32) (Finset.fold max (Ideal.ofBits FTy.f32 4286578688#32) (zz Q K b r e) Finset.univ)) := by
    intro κ
    rw [et, expo_at, spread_at, top_at, zt_at]
    simp only [zt_at]
  rw [out_at]
  refine Finset.sum_congr rfl fun κ _ => ?_
  rw [het, spread_at, total_at, vh_at]
  simp only [het]
  have he : (⟨e.val / 64 * 64 + e.val % 64, by omega⟩ : Fin 512) = e := Fin.ext (by show e.val / 64 * 64 + e.val % 64 = e.val; omega)
  rw [he]

end Cert.ReferenceIdeal.Mla
-- ==== Proof.Same.lean ====
/-
  The reference's result is the attention as the kernel computes it.
-/
module

public import proofs.«01_k».proof.Proof.Final
public import proofs.«01_k».proof.Proof.Rows
public import proofs.«01_k».proof.Proof.RefAt
public import Idealize.ShloMosaic.Lib.Pointwise

@[expose] public section

set_option maxRecDepth 16384

noncomputable section

namespace Cert.Same

open Cert.KernelIdeal.Mla
open Idealize.ShloMosaic Idealize.ShloMosaic.TcCoe Idealize.SL.Sem

/-- The factor on the scores. -/
def tt : ℝ := (Real.sqrt 96)⁻¹
theorem tt_pos : 0 < tt := by unfold tt; positivity
theorem log_sc : Real.log 2 * sc = tt := by
  have h : Real.log 2 ≠ 0 := (Real.log_pos (by norm_num)).ne'
  unfold sc tt
  field_simp
theorem of96 : Ideal.ofBits FTy.f32 1119879168#32 = ((96 : ℝ) : EReal) := by
  simp [Ideal.ofBits, Ideal.ieee]
  norm_cast
  norm_num
theorem factor : Ideal.div 1 (Ideal.sqrt (Ideal.ofBits FTy.f32 1119879168#32)) = (tt : EReal) := by
  have h : Real.sqrt 96 ≠ 0 := by positivity
  rw [of96, Ideal.sqrt_coe, if_neg (by norm_num), Ideal.div_coe h, one_mul, one_div]; rfl

/-- Every element is a real number. -/
def IsReal {ι : Type} (f : ι → EReal) : Prop := ∀ i, ∃ r : ℝ, f i = r

theorem sum_real {n : ℕ} (f : Fin n → EReal) (h : IsReal f) : ∃ r : ℝ, ∑ i, f i = r := by
  choose r e using h
  refine ⟨∑ i, r i, ?_⟩
  rw [Finset.sum_congr rfl fun κ _ => e κ]
  exact (map_sum (⟨⟨Real.toEReal, rfl⟩, EReal.coe_add⟩ : ℝ →+ EReal) r _).symm

theorem allReal (Q : FVec Ideal Cert.KernelIdeal.S8x8x1024x512 .bf16) (K : FVec Ideal Cert.KernelIdeal.S8x4096x1024 .bf16)
    (hQ : IsReal Q) (hK : IsReal K) : AllReal Q K := by
  intro b g h c i κ
  refine sum_real _ fun d => ?_
  have h1 : ∃ r : ℝ, kN (bk K b g) κ (128 * h + d.val) = r := by
    unfold kN; split_ifs
    · exact hK _
    · exact ⟨0, rfl⟩
  have h2 : ∃ r : ℝ, qN (bq Q b g) i (128 * h + d.val) c = r := by
    unfold qN; split_ifs
    · exact hQ _
    · exact ⟨0, rfl⟩
  obtain ⟨r, e⟩ := h1
  obtain ⟨s, e'⟩ := h2
  exact ⟨r * s, by rw [e, e', EReal.coe_mul]⟩

theorem mla_ix3 (Q : FVec Ideal Cert.KernelIdeal.S8x8x1024x512 .bf16) (K : FVec Ideal Cert.KernelIdeal.S8x4096x1024 .bf16)
    (V : FVec Ideal Cert.KernelIdeal.S8x8x512x512 .bf16) (b : Fin 8) (r : Fin 4096) (e : Fin 512) (he : e.val / 128 < 4) :
    mla Q K V (ix3 b r e) = resAt (bq Q b ⟨e.val / 128, he⟩) (bk K b ⟨e.val / 128, he⟩) (bv V b ⟨e.val / 128, he⟩)
      (e.val % 128 / 64) ⟨r.val % 512, Nat.mod_lt _ (by norm_num)⟩ (e.val % 128 % 64) (r.val / 512) := by
  unfold mla outG; rfl

/-- The score of the kernel is the score of the reference before its factor. -/
theorem sg_eq (Q : FVec Ideal Cert.KernelIdeal.S8x8x1024x512 .bf16) (K : FVec Ideal Cert.KernelIdeal.S8x4096x1024 .bf16)
    (b : Fin 8) (r κ : Fin 4096) (e : Fin 512) (he : e.val / 128 < 4) :
    sg (bq Q b ⟨e.val / 128, he⟩) (bk K b ⟨e.val / 128, he⟩) (e.val % 128 / 64) ⟨r.val % 512, Nat.mod_lt _ (by norm_num)⟩ (r.val / 512) κ.val
      = ∑ x : Fin 128, Q (ix4 b ⟨r.val / 512, by omega⟩ ⟨e.val / 64 * 128 + x.val, by omega⟩ ⟨r.val % 512, by omega⟩) *
          K (ix3 b κ ⟨e.val / 64 * 128 + x.val, by omega⟩) := by
  refine Finset.sum_congr rfl fun d _ => ?_
  have e1 : (⟨e.val / 128 * 256 + (128 * (e.val % 128 / 64) + d.val), by omega⟩ : Fin 1024) = ⟨e.val / 64 * 128 + d.val, by omega⟩ :=
    Fin.ext (by show e.val / 128 * 256 + (128 * (e.val % 128 / 64) + d.val) = e.val / 64 * 128 + d.val; omega)
  have hk : kN (bk K b ⟨e.val / 128, he⟩) κ.val (128 * (e.val % 128 / 64) + d.val) = K (ix3 b κ ⟨e.val / 64 * 128 + d.val, by omega⟩) := by
    unfold kN
    rw [dif_pos ⟨κ.isLt, by omega⟩, ← e1]
    rfl
  have hq : qN (bq Q b ⟨e.val / 128, he⟩) (r.val / 512) (128 * (e.val % 128 / 64) + d.val) ⟨r.val % 512, Nat.mod_lt _ (by norm_num)⟩
      = Q (ix4 b ⟨r.val / 512, by omega⟩ ⟨e.val / 64 * 128 + d.val, by omega⟩ ⟨r.val % 512, by omega⟩) := by
    unfold qN
    rw [dif_pos ⟨by omega, by omega⟩, ← e1]
    rfl
  rw [hk, hq, mul_comm]

theorem vN_eq (V : FVec Ideal Cert.KernelIdeal.S8x8x512x512 .bf16) (b : Fin 8) (κ : Fin 4096) (e : Fin 512) (he : e.val / 128 < 4) :
    vN (bv V b ⟨e.val / 128, he⟩) (64 * (e.val % 128 / 64) + e.val % 128 % 64) κ.val = V (ix4 b ⟨κ.val / 512, by omega⟩ e ⟨κ.val % 512, by omega⟩) := by
  unfold vN
  rw [dif_pos ⟨by omega, by omega⟩]
  have e1 : (⟨e.val / 128 * 128 + (64 * (e.val % 128 / 64) + e.val % 128 % 64), by omega⟩ : Fin 512) = e :=
    Fin.ext (by show e.val / 128 * 128 + (64 * (e.val % 128 / 64) + e.val % 128 % 64) = e.val; omega)
  conv_rhs => rw [← e1]
  rfl

open Cert.ReferenceIdeal.Mla (zz row_at et spread total vh out)

theorem row_same (Q : FVec Ideal Cert.KernelIdeal.S8x8x1024x512 .bf16) (K : FVec Ideal Cert.KernelIdeal.S8x4096x1024 .bf16)
    (V : FVec Ideal Cert.KernelIdeal.S8x8x512x512 .bf16) (hr : AllReal Q K) (b : Fin 8) (r : Fin 4096) (e : Fin 512) :
    out (et Q K) (spread (total (et Q K))) (vh V) (ix3 b r e) = mla Q K V (ix3 b r e) := by
  have he : e.val / 128 < 4 := by omega
  have hR := hr b ⟨e.val / 128, he⟩
  have key := Soft.row_eq sc_pos tt_pos log_sc (xs_top _ _ hR (e.val % 128 / 64) ⟨r.val % 512, Nat.mod_lt _ (by norm_num)⟩ (r.val / 512))
    (xs_zero _ _ hR (e.val % 128 / 64) ⟨r.val % 512, Nat.mod_lt _ (by norm_num)⟩ (r.val / 512))
    (vN (bv V b ⟨e.val / 128, he⟩) (64 * (e.val % 128 / 64) + e.val % 128 % 64)) (512 * (r.val / 512 + 1)) 4096 (by omega) (by omega)
    (by
      intro κ hκ
      unfold xs
      exact if_neg (by show ¬ κ ≤ 512 * (r.val / 512) + r.val % 512; omega))
    (zz Q K b r e)
    (by
      intro κ
      have hs := Soft.sle_word κ.val r.val (by omega) (by omega)
      unfold xs zz
      rw [hs, factor, ninf, sg_eq Q K b r κ e he]
      by_cases hk : κ.val ≤ r.val
      · rw [if_pos hk, if_pos (show κ.val ≤ 512 * (r.val / 512) + r.val % 512 by omega)]
        rfl
      · rw [if_neg hk, if_neg (show ¬ κ.val ≤ 512 * (r.val / 512) + r.val % 512 by omega), EReal.bot_mul_coe_of_pos tt_pos]
        rfl)
  rw [mla_ix3 Q K V b r e he, resAt, ← key, row_at, ninf]
  refine Finset.sum_congr rfl fun κ _ => ?_
  rw [vN_eq V b κ e he]

theorem out_same (Q : FVec Ideal Cert.KernelIdeal.S8x8x1024x512 .bf16) (K : FVec Ideal Cert.KernelIdeal.S8x4096x1024 .bf16)
    (V : FVec Ideal Cert.KernelIdeal.S8x8x512x512 .bf16) (hr : AllReal Q K) :
    out (et Q K) (spread (total (et Q K))) (vh V) = mla Q K V := by
  funext y
  obtain ⟨b, r, e, rfl⟩ : ∃ (b : Fin 8) (r : Fin 4096) (e : Fin 512), y = ix3 b r e := ⟨y 0, y 1, y 2, eq_ix3 y⟩
  exact row_same Q K V hr b r e

end Cert.Same
-- ==== Proof.Value.lean ====
/-
  The precondition read off, and the equality of the results of both runs.
-/
module

public import proofs.«01_k».proof.Proof.Same
public import proofs.«01_k».proof.Proof.RefRun
public import Idealize.ShloMosaic.Lib.StableHlo

@[expose] public section

noncomputable section

namespace Cert.Same

open Idealize.ShloMosaic Idealize.ShloMosaic.TcCoe Idealize.SL.Sem

theorem preFacts : Cert.Pre_finite_qk.Facts where
  bcast_S_S8x8x1024x512 := by decide
  bcast_S_S8x4096x1024 := by decide

theorem of_inf : Ideal.ofBits FTy.bf16 0x7F80#16 = (⊤ : EReal) := by simp [Ideal.ofBits, Ideal.ieee]

theorem real_of_lt (x : EReal) (h : max x (-x) < ⊤) : ∃ r : ℝ, x = r := by
  rw [max_lt_iff] at h
  induction x using EReal.rec with
  | bot => exact absurd h.2 (by simp)
  | top => exact absurd h.1 (by simp)
  | coe r => exact ⟨r, rfl⟩

theorem real_of_test (x : Ideal .bf16) (h : FloatOps.cmpf .olt (FloatOps.hostAbsf x) (FloatOps.ofBits (F := Ideal) .bf16 0x7F80#16) = 1#1) :
    ∃ r : ℝ, (x : EReal) = r := by
  change Ideal.cmp .olt (max (x : EReal) (-(x : EReal))) (Ideal.ofBits FTy.bf16 0x7F80#16) = 1 at h
  rw [of_inf, Ideal.cmp_olt_eq_one] at h
  exact real_of_lt _ h

theorem real_of_pre [Cert.Pre_finite_qk.Facts] (Q : FVec Ideal Cert.Pre_finite_qk.S8x8x1024x512 .bf16) (K : FVec Ideal Cert.Pre_finite_qk.S8x4096x1024 .bf16)
    (V : FVec Ideal Cert.Pre_finite_qk.S8x8x512x512 .bf16) (h1 : (Cert.Pre_finite_qk.fn (F := Ideal) Q K V).1 = (fun _ => 1#1))
    (h2 : (Cert.Pre_finite_qk.fn (F := Ideal) Q K V).2 = (fun _ => 1#1)) : IsReal Q ∧ IsReal K :=
  ⟨fun i => real_of_test _ (congrFun h1 i), fun i => real_of_test _ (congrFun h2 i)⟩

/-- The kernel's run leaves the attention in the result and the arguments as they were. -/
theorem kernel_run (m : (ℓ : Loc Cert.KernelIdeal.nD Cert.KernelIdeal.τ Cert.KernelIdeal.sig) → Buf (Elt Ideal) ℓ) (g : Dev Cert.KernelIdeal.nD → PrngReg)
    (hr : ∀ c : Dev Cert.KernelIdeal.nD, Cert.KernelIdeal.Mla.AllReal (m ((c.tc : Thread Cert.KernelIdeal.nD Cert.KernelIdeal.τ).loc Cert.KernelIdeal.main_arg0)) (m ((c.tc : Thread Cert.KernelIdeal.nD Cert.KernelIdeal.τ).loc Cert.KernelIdeal.main_arg1))) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0)
            = Cert.KernelIdeal.Mla.mla (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run Cert.KernelIdeal.defs _ _).mono (fun _ h c => ⟨((h.1 c).1 3).trans (Cert.KernelIdeal.Mla.final m c (hr c)),
      ((h.1 c).1 0).trans ((Cert.KernelIdeal.Mla.dats m 0 c).arrAt_in 0 rfl _),
      ((h.1 c).1 1).trans ((Cert.KernelIdeal.Mla.dats m 0 c).arrAt_in 1 rfl _),
      ((h.1 c).1 2).trans ((Cert.KernelIdeal.Mla.dats m 0 c).arrAt_in 2 rfl _)⟩) (Cert.KernelIdeal.Mla.run_main m g)

theorem algebraic [hp : Cert.Pre_finite_qk.Facts] : Cert.algebraic_KernelIdeal_ReferenceIdeal_pre_finite_qk
    (hKernelIdeal := Cert.KernelIdeal.Gen.facts) (hReferenceIdeal := Cert.ReferenceIdeal.Gen.facts) (hPre_finite_qk := hp) := by
  intro m g m' g' hpre hargs
  have hr : ∀ c : Dev Cert.KernelIdeal.nD, Cert.KernelIdeal.Mla.AllReal (m ((c.tc : Thread Cert.KernelIdeal.nD Cert.KernelIdeal.τ).loc Cert.KernelIdeal.main_arg0)) (m ((c.tc : Thread Cert.KernelIdeal.nD Cert.KernelIdeal.τ).loc Cert.KernelIdeal.main_arg1)) := fun c =>
    let h := real_of_pre _ _ _ (hpre c).1 (hpre c).2
    allReal _ _ h.1 h.2
  refine ⟨_, kernel_run m g hr, ?_⟩
  refine (θ_run Cert.ReferenceIdeal.defs _ _).mono (fun _ h c => ⟨(h c).1.trans ?_, (h c).2⟩) (Cert.ReferenceIdeal.Value.run m' g')
  exact (Cert.ReferenceIdeal.Mla.ref_at m' c _ _ _ (hargs c).1 (hargs c).2.1 (hargs c).2.2).trans (out_same _ _ _ (hr c))

end Cert.Same
-- ==== Proof.Ffn.lean ====
/-
  One row of the feed-forward half: the norm, the gate and the split sum over the hidden width.
-/
module

public import Idealize.ShloMosaic.Lib.Pointwise

@[expose] public section

noncomputable section

namespace Cert.Ffn

open Idealize.ShloMosaic

theorem of_half : Ideal.ofBits FTy.f32 0x3F000000#32 = ((1 / 2 : ℝ) : EReal) := by
  simp [Ideal.ofBits, Ideal.ieee]; norm_cast; norm_num

theorem of_kilo : Ideal.ofBits FTy.f32 0x44800000#32 = ((1024 : ℝ) : EReal) := by
  simp [Ideal.ofBits, Ideal.ieee]; norm_cast; norm_num

theorem of_milli : Ideal.ofBits FTy.f32 0x3A800000#32 = ((1 / 1024 : ℝ) : EReal) := by
  simp [Ideal.ofBits, Ideal.ieee]; norm_cast; norm_num

/-- The mean as a product and as a quotient. -/
theorem mean_eq (s : EReal) : Ideal.div s (Ideal.ofBits FTy.f32 0x44800000#32) = s * Ideal.ofBits FTy.f32 0x3A800000#32 := by
  rw [of_kilo, of_milli, Ideal.div_coe (by norm_num)]

/-- The logistic function. -/
def logi (x : EReal) : EReal := Ideal.div 1 (1 + Ideal.exp (-x))

theorem real_gate (r : ℝ) : 1 / 2 * Real.tanh (1 / 2 * r) + 1 / 2 = 1 * (1 + Real.exp (-r))⁻¹ := by
  have e : Real.exp (-r) = Real.exp (-(1 / 2 * r)) * Real.exp (-(1 / 2 * r)) := by
    rw [← Real.exp_add]; congr 1; ring
  have p : Real.exp (1 / 2 * r) * Real.exp (-(1 / 2 * r)) = 1 := by
    rw [← Real.exp_add, add_neg_cancel, Real.exp_zero]
  have h1 := Real.exp_pos (1 / 2 * r)
  have h2 := Real.exp_pos (-(1 / 2 * r))
  rw [Real.tanh_eq_sinh_div_cosh, Real.sinh_eq, Real.cosh_eq, e]
  generalize Real.exp (1 / 2 * r) = a at *
  generalize Real.exp (-(1 / 2 * r)) = b at *
  have hb : a = b⁻¹ := eq_inv_of_mul_eq_one_left p
  subst hb
  field_simp
  ring

/-- The logistic function by the hyperbolic tangent. -/
theorem gate_eq (x : EReal) :
    Ideal.ofBits FTy.f32 0x3F000000#32 * Ideal.tanh (Ideal.ofBits FTy.f32 0x3F000000#32 * x) + Ideal.ofBits FTy.f32 0x3F000000#32
      = logi x := by
  rw [of_half, logi]
  induction x using EReal.rec with
  | bot =>
    rw [EReal.coe_mul_bot_of_pos (by norm_num), EReal.neg_bot]
    show ((1 / 2 : ℝ) : EReal) * ((-1 : ℝ) : EReal) + _ = Ideal.div 1 (1 + ⊤)
    rw [EReal.add_top_of_ne_bot (by decide), Ideal.div, if_neg (by decide), EReal.inv_top, mul_zero]
    norm_cast; norm_num
  | top =>
    rw [EReal.coe_mul_top_of_pos (by norm_num), EReal.neg_top]
    show ((1 / 2 : ℝ) : EReal) * ((1 : ℝ) : EReal) + _ = Ideal.div ((1 : ℝ) : EReal) (((1 : ℝ) : EReal) + ((0 : ℝ) : EReal))
    rw [← EReal.coe_add, Ideal.div_coe (by norm_num)]
    norm_cast; norm_num
  | coe r =>
    show ((1 / 2 : ℝ) : EReal) * ((Real.tanh (1 / 2 * r) : ℝ) : EReal) + _ = Ideal.div ((1 : ℝ) : EReal) (((1 : ℝ) : EReal) + ((Real.exp (-r) : ℝ) : EReal))
    rw [← EReal.coe_add, Ideal.div_coe (by have := Real.exp_pos (-r); positivity), ← EReal.coe_mul, ← EReal.coe_add, ← EReal.coe_mul, real_gate, one_div]

/-- A row after the norm. -/
def nrm (x g : Fin 1024 → EReal) (j : Fin 1024) : EReal :=
  x j * Ideal.rsqrt ((∑ k : Fin 1024, x k * x k) * Ideal.ofBits FTy.f32 0x3A800000#32 + Ideal.ofBits FTy.f32 0x358637BD#32) * g j

/-- A row times a column. -/
def dot {n : ℕ} (u w : Fin n → EReal) : EReal := ∑ k : Fin n, u k * w k

/-- The hidden layer at one unit, of a normed row. -/
def hid (u : Fin 1024 → EReal) (W : Fin 1024 → Fin 5632 → EReal) (f : Fin 2816) : EReal :=
  dot u (fun k => W k ⟨f.val, by omega⟩) * logi (dot u (fun k => W k ⟨f.val, by omega⟩)) * dot u (fun k => W k ⟨2816 + f.val, by omega⟩)

/-- A row after the feed-forward half. -/
def ffn (x g : Fin 1024 → EReal) (W : Fin 1024 → Fin 5632 → EReal) (O : Fin 2816 → Fin 1024 → EReal) (j : Fin 1024) : EReal :=
  x j + Ideal.ofBits FTy.f32 0x3F000000#32 * ∑ f : Fin 2816, hid (nrm x g) W f * O f j

/-- The two branches of a row, each under its gate. -/
def mixed (u : Fin 1024 → EReal) (G : Fin 1024 → Fin 2048 → EReal) (a b : Fin 512 → EReal) (A B : Fin 512 → Fin 1024 → EReal) (k : Fin 1024) : EReal :=
  logi (dot u fun l => G l ⟨k.val, by omega⟩) * dot a (fun l => A l k) + logi (dot u fun l => G l ⟨1024 + k.val, by omega⟩) * dot b (fun l => B l k)

/-- A row after the merge of both branches. -/
def merge (x gm : Fin 1024 → EReal) (G : Fin 1024 → Fin 2048 → EReal) (a b : Fin 512 → EReal) (A B : Fin 512 → Fin 1024 → EReal)
    (P : Fin 1024 → Fin 1024 → EReal) (j : Fin 1024) : EReal :=
  x j + dot (mixed (nrm x gm) G a b A B) (fun k => P k j)

/-- A row after the gated embedding of its layer. -/
def embed (x g : Fin 1024 → EReal) (G : Fin 1024 → Fin 1024 → EReal) (p : Fin 256 → EReal) (E : Fin 256 → Fin 1024 → EReal) (j : Fin 1024) : EReal :=
  x j + logi (dot (nrm x g) fun k => G k j) * dot p (fun k => E k j)

/-- The sum over the hidden width, in the three chunks. -/
theorem chunks (F : Fin 2816 → EReal) :
    ∑ f : Fin 2816, F f = ∑ f : Fin 1024, F ⟨f.val, by omega⟩ + ∑ f : Fin 1024, F ⟨1024 + f.val, by omega⟩ + ∑ f : Fin 768, F ⟨2048 + f.val, by omega⟩ := by
  have h1 := Fin.sum_univ_add (a := 2048) (b := 768) F
  have h2 := Fin.sum_univ_add (a := 1024) (b := 1024) fun i => F (Fin.castAdd 768 i)
  exact h1.trans (congrArg (· + _) h2)

end Cert.Ffn

end
-- ==== Proof.FfnTile.lean ====
/-
  The feed-forward kernel's tile at an index, and its result array after the run.
-/
module

public import proofs.«01_k».proof.Proof.Gen.Kernel2Ideal.Value
public import proofs.«01_k».proof.Proof.Ffn
public import Idealize.ShloMosaic.Lib.Pointwise
public import Idealize.ShloMosaic.Lib.Pipeline.ValueKit

@[expose] public section

set_option maxRecDepth 16384

noncomputable section

namespace Cert.Kernel2Ideal.Tile

open Cert.Kernel2Ideal Cert.Kernel2Ideal.Gen Cert.Ffn
open Idealize.ShloMosaic Idealize.ShloMosaic.TcCoe Idealize.SL.Sem
open Idealize.ShloMosaic.Pipeline (Dat)

/-- The normed tile. -/
theorem norm_at (x : FVec Ideal S512x1024 .f32) (g : FVec Ideal S1x1024 .f32) (i : Fin 512) (j : Fin 1024) :
    k0_pay2 (F := Ideal) x g (ix2 i j) = nrm (fun k => x (ix2 i k)) (fun k => g (ix2 0 k)) j := by
  pointwise [k0_pay2, nrm]

/-- The gated product of a wide chunk. -/
def act (a b : FVec Ideal S512x1024 .f32) : FVec Ideal S512x1024 .bf16 :=
  truncf .bf16 (mulf (mulf a (addf (mulf (broadcast S512x1024 (Scalar.ofBits .f32 0x3F000000#32)) (tanh (mulf (broadcast S512x1024 (Scalar.ofBits .f32 0x3F000000#32)) a))) (broadcast S512x1024 (Scalar.ofBits .f32 0x3F000000#32)))) b) bitsLt_bf16_f32

theorem act_at (a b : FVec Ideal S512x1024 .f32) (i : Fin 512) (j : Fin 1024) :
    act a b (ix2 i j) = a (ix2 i j) * logi (a (ix2 i j)) * b (ix2 i j) := by
  rw [← gate_eq]
  pointwise [act]

/-- The same of the narrow chunk. -/
def act' (a b : FVec Ideal S512x768 .f32) : FVec Ideal S512x768 .bf16 :=
  truncf .bf16 (mulf (mulf a (addf (mulf (broadcast S512x768 (Scalar.ofBits .f32 0x3F000000#32)) (tanh (mulf (broadcast S512x768 (Scalar.ofBits .f32 0x3F000000#32)) a))) (broadcast S512x768 (Scalar.ofBits .f32 0x3F000000#32)))) b) bitsLt_bf16_f32

theorem act'_at (a b : FVec Ideal S512x768 .f32) (i : Fin 512) (j : Fin 768) :
    act' a b (ix2 i j) = a (ix2 i j) * logi (a (ix2 i j)) * b (ix2 i j) := by
  rw [← gate_eq]
  pointwise [act']

/-- The products of a tile with a block of weights. -/
def mm (u : FVec Ideal S512x1024 .bf16) (w : FVec Ideal S1024x1024 .bf16) : FVec Ideal S512x1024 .f32 :=
  matmul dot_S512x1024_S1024x1024_S512x1024_1_0_0_1_n_n none u w (constant S512x1024 .f32 0x00000000#32)

theorem mm_at (u : FVec Ideal S512x1024 .bf16) (w : FVec Ideal S1024x1024 .bf16) (i : Fin 512) (j : Fin 1024) :
    mm u w (ix2 i j) = dot (fun k => u (ix2 i k)) (fun k => w (ix2 k j)) := by
  pointwise [mm, dot]

def mmIn (u : FVec Ideal S512x1024 .bf16) (w : FVec Ideal S1024x768 .bf16) : FVec Ideal S512x768 .f32 :=
  matmul dot_S512x1024_S1024x768_S512x768_1_0_0_1_n_n none u w (constant S512x768 .f32 0x00000000#32)

theorem mmIn_at (u : FVec Ideal S512x1024 .bf16) (w : FVec Ideal S1024x768 .bf16) (i : Fin 512) (j : Fin 768) :
    mmIn u w (ix2 i j) = dot (fun k => u (ix2 i k)) (fun k => w (ix2 k j)) := by
  pointwise [mmIn, dot]

def mmOut (u : FVec Ideal S512x768 .bf16) (w : FVec Ideal S768x1024 .bf16) : FVec Ideal S512x1024 .f32 :=
  matmul dot_S512x768_S768x1024_S512x1024_1_0_0_1_n_n none u w (constant S512x1024 .f32 0x00000000#32)

theorem mmOut_at (u : FVec Ideal S512x768 .bf16) (w : FVec Ideal S768x1024 .bf16) (i : Fin 512) (j : Fin 1024) :
    mmOut u w (ix2 i j) = dot (fun k => u (ix2 i k)) (fun k => w (ix2 k j)) := by
  pointwise [mmOut, dot]

/-- The three chunks' sum, added to the tile. -/
def fin (x a b c : FVec Ideal S512x1024 .f32) : FVec Ideal S512x1024 .f32 :=
  addf x (mulf (broadcast S512x1024 (Scalar.ofBits .f32 0x3F000000#32)) (addf (addf a b) c))

theorem fin_at (x a b c : FVec Ideal S512x1024 .f32) (y : S512x1024.Idx) :
    fin x a b c y = x y + Ideal.ofBits FTy.f32 0x3F000000#32 * (a y + b y + c y) := by
  pointwise [fin]

theorem pay_eq (x : FVec Ideal S512x1024 .f32) (g : FVec Ideal S1x1024 .f32) (wa wb wo : FVec Ideal S1024x1024 .bf16)
    (wa' wb' wo' : FVec Ideal S1024x1024 .bf16) (wa'' wb'' : FVec Ideal S1024x768 .bf16) (wo'' : FVec Ideal S768x1024 .bf16) :
    k0_pay1 (F := Ideal) x (k0_pay2 x g) (k0_pay3 x g wa wb wo) (k0_pay4 x g wa') wb' (constant S512x1024 .f32 0x00000000#32) wo' wa'' wb'' wo''
      = fin x (mm (act (mm (k0_pay2 x g) wa) (mm (k0_pay2 x g) wb)) wo)
          (mm (act (mm (k0_pay2 x g) wa') (mm (k0_pay2 x g) wb')) wo')
          (mmOut (act' (mmIn (k0_pay2 x g) wa'') (mmIn (k0_pay2 x g) wb'')) wo'') := rfl

theorem chunk_at (u : FVec Ideal S512x1024 .bf16) (wa wb wo : FVec Ideal S1024x1024 .bf16) (i : Fin 512) (j : Fin 1024) :
    mm (act (mm u wa) (mm u wb)) wo (ix2 i j)
      = ∑ f : Fin 1024, dot (fun k => u (ix2 i k)) (fun k => wa (ix2 k f)) * logi (dot (fun k => u (ix2 i k)) (fun k => wa (ix2 k f))) * dot (fun k => u (ix2 i k)) (fun k => wb (ix2 k f)) * wo (ix2 f j) := by
  rw [mm_at]
  exact Finset.sum_congr rfl fun f _ => by beta_reduce; rw [act_at, mm_at, mm_at]

theorem chunk'_at (u : FVec Ideal S512x1024 .bf16) (wa wb : FVec Ideal S1024x768 .bf16) (wo : FVec Ideal S768x1024 .bf16) (i : Fin 512) (j : Fin 1024) :
    mmOut (act' (mmIn u wa) (mmIn u wb)) wo (ix2 i j)
      = ∑ f : Fin 768, dot (fun k => u (ix2 i k)) (fun k => wa (ix2 k f)) * logi (dot (fun k => u (ix2 i k)) (fun k => wa (ix2 k f))) * dot (fun k => u (ix2 i k)) (fun k => wb (ix2 k f)) * wo (ix2 f j) := by
  rw [mmOut_at]
  exact Finset.sum_congr rfl fun f _ => by beta_reduce; rw [act'_at, mmIn_at, mmIn_at]

/-- The chunks of a normed tile, over the whole weights. -/
theorem fin_rows (x : FVec Ideal S512x1024 .f32) (g : FVec Ideal S1x1024 .f32) (W : FVec Ideal S1024x5632 .bf16) (O : FVec Ideal S2816x1024 .bf16)
    (wa wb wo wa' wb' wo' : FVec Ideal S1024x1024 .bf16) (wa'' wb'' : FVec Ideal S1024x768 .bf16) (wo'' : FVec Ideal S768x1024 .bf16)
    (ha : ∀ k f : Fin 1024, wa (ix2 k f) = W (ix2 k ⟨f.val, by omega⟩)) (hb : ∀ k f : Fin 1024, wb (ix2 k f) = W (ix2 k ⟨2816 + f.val, by omega⟩))
    (ho : ∀ f j : Fin 1024, wo (ix2 f j) = O (ix2 ⟨f.val, by omega⟩ j))
    (ha' : ∀ k f : Fin 1024, wa' (ix2 k f) = W (ix2 k ⟨1024 + f.val, by omega⟩)) (hb' : ∀ k f : Fin 1024, wb' (ix2 k f) = W (ix2 k ⟨2816 + (1024 + f.val), by omega⟩))
    (ho' : ∀ f j : Fin 1024, wo' (ix2 f j) = O (ix2 ⟨1024 + f.val, by omega⟩ j))
    (ha'' : ∀ (k : Fin 1024) (f : Fin 768), wa'' (ix2 k f) = W (ix2 k ⟨2048 + f.val, by omega⟩)) (hb'' : ∀ (k : Fin 1024) (f : Fin 768), wb'' (ix2 k f) = W (ix2 k ⟨2816 + (2048 + f.val), by omega⟩))
    (ho'' : ∀ (f : Fin 768) (j : Fin 1024), wo'' (ix2 f j) = O (ix2 ⟨2048 + f.val, by omega⟩ j)) (i : Fin 512) (j : Fin 1024) :
    fin x (mm (act (mm (k0_pay2 x g) wa) (mm (k0_pay2 x g) wb)) wo)
        (mm (act (mm (k0_pay2 x g) wa') (mm (k0_pay2 x g) wb')) wo')
        (mmOut (act' (mmIn (k0_pay2 x g) wa'') (mmIn (k0_pay2 x g) wb'')) wo'') (ix2 i j)
      = ffn (fun k => x (ix2 i k)) (fun k => g (ix2 0 k)) (fun k f => W (ix2 k f)) (fun f k => O (ix2 f k)) j := by
  rw [fin_at, chunk_at, chunk_at, chunk'_at, ffn, chunks]
  have hu : (fun k => k0_pay2 (F := Ideal) x g (ix2 i k)) = nrm (fun k => x (ix2 i k)) (fun k => g (ix2 0 k)) := funext fun k => norm_at x g i k
  simp only [hu, hid, ha, hb, ho, ha', hb', ho', ha'', hb'', ho'']

end Cert.Kernel2Ideal.Tile

end
-- ==== Proof.FfnFinal.lean ====
/-
  The feed-forward kernel's result array after the run.
-/
module

public import proofs.«01_k».proof.Proof.FfnTile

@[expose] public section

set_option maxRecDepth 16384

noncomputable section

namespace Cert.Kernel2Ideal.Tile

open Cert.Kernel2Ideal Cert.Kernel2Ideal.Gen Cert.Ffn
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![0, 0] ∧ win0_4.index t = ![t.val, 0] :=
  (by decide +kernel : ∀ t : Fin grid0.N, _)

/-- Every row of the result. -/
def rows (x : FVec Ideal S32768x1024 .f32) (g : FVec Ideal S1x1024 .f32) (W : FVec Ideal S1024x5632 .bf16) (O : FVec Ideal S2816x1024 .bf16) : FVec Ideal S32768x1024 .f32 :=
  fun y => ffn (fun k => x (ix2 (y 0) k)) (fun k => g (ix2 0 k)) (fun k f => W (ix2 k f)) (fun f k => O (ix2 f k)) (y 1)

/-- A block of columns of the first weights, and of rows of the second. -/
theorem cols_at {n : ℕ} (x : Vec Ideal S1024x5632 .bf16) (o : ℕ) (inb : ∀ a : Fin 2, (![0, o] : Fin 2 → ℕ) a + (![1024, n] : Fin 2 → ℕ) a ≤ S1024x5632.size a)
    (k : Fin 1024) (f : Fin n) (p : Fin 5632) (h : p.val = o + f.val) :
    (View.ld x (Rect.unit (s := S1024x5632) ![0, o] ![1024, n] inb)) (ix2 k f) = x (ix2 k p) := by
  refine View.ld_unit_apply_of _ _ _ _ _ _ fun b => ?_
  fin_cases b <;> simp [h]

theorem rows_at {n : ℕ} (x : Vec Ideal S2816x1024 .bf16) (o : ℕ) (inb : ∀ a : Fin 2, (![o, 0] : Fin 2 → ℕ) a + (![n, 1024] : Fin 2 → ℕ) a ≤ S2816x1024.size a)
    (f : Fin n) (j : Fin 1024) (p : Fin 2816) (h : p.val = o + f.val) :
    (View.ld x (Rect.unit (s := S2816x1024) ![o, 0] ![n, 1024] inb)) (ix2 f j) = x (ix2 p j) := by
  refine View.ld_unit_apply_of _ _ _ _ _ _ fun b => ?_
  fin_cases b <;> simp [h]

theorem point (c : Dev nD) (t : Fin cfg0.N) (i : Fin 512) (j : Fin 1024) :
    ffn (fun k => iblk m c 0 t (ix2 i k)) (fun k => iblk m c 1 t (ix2 0 k)) (fun k f => iblk m c 2 t (ix2 k f)) (fun f k => iblk m c 3 t (ix2 f k)) j
      = rows (m ((c : Thread nD τ).loc main_arg0)) (m ((c : Thread nD τ).loc main_arg1)) (m ((c : Thread nD τ).loc main_arg2)) (m ((c : Thread nD τ).loc main_arg3)) (((cfg0.win 4).blk t).view.emb (ix2 i j)) := by
  have e0 : (fun k : Fin 1024 => (show FVec Ideal S512x1024 .f32 from iblk m c 0 t) (ix2 i k)) = fun k => (m ((c : Thread nD τ).loc main_arg0) : FVec Ideal S32768x1024 .f32) (ix2 ((((cfg0.win 4).blk t).view.emb (ix2 i j)) 0) k) := funext fun k => by
    blk_ext [iblk, V, idx t]
  have e1 : (fun k : Fin 1024 => (show FVec Ideal S1x1024 .f32 from iblk m c 1 t) (ix2 0 k)) = fun k => (m ((c : Thread nD τ).loc main_arg1) : FVec Ideal S1x1024 .f32) (ix2 0 k) := funext fun k => by
    blk_ext [iblk, V, idx t]
  have e2 : (fun (k : Fin 1024) (f : Fin 5632) => (show FVec Ideal S1024x5632 .bf16 from iblk m c 2 t) (ix2 k f)) = fun k f => (m ((c : Thread nD τ).loc main_arg2) : FVec Ideal S1024x5632 .bf16) (ix2 k f) := funext fun k => funext fun f => by
    blk_ext [iblk, V, idx t]
  have e3 : (fun (f : Fin 2816) (k : Fin 1024) => (show FVec Ideal S2816x1024 .bf16 from iblk m c 3 t) (ix2 f k)) = fun f k => (m ((c : Thread nD τ).loc main_arg3) : FVec Ideal S2816x1024 .bf16) (ix2 f k) := funext fun f => funext fun k => by
    blk_ext [iblk, V, idx t]
  have e4 : (show Fin 1024 from (((cfg0.win 4).blk t).view.emb (ix2 i j)) 1) = j := Fin.ext (by blk_simp [idx t])
  refine (congrArg (fun q => ffn q _ _ _ j) e0).trans ((congrArg (fun q => ffn _ q _ _ j) e1).trans ((congrArg (fun q => ffn _ _ q _ j) e2).trans ((congrArg (fun q => ffn _ _ _ q j) e3).trans (congrArg (ffn _ _ _ _) e4.symm))))

theorem final (c : Dev nD) : (dats m 0 c).arrAt 4 cfg0.N
    = rows (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  rw [eq_ix2 y]
  refine (congrFun (pay_eq _ _ _ _ _ _ _ _ _ _ _) _).trans ((fin_rows (iblk m c 0 t) (iblk m c 1 t) (iblk m c 2 t) (iblk m c 3 t) _ _ _ _ _ _ _ _ _
    (fun k f => cols_at _ _ _ k f _ (by simp)) (fun k f => cols_at _ _ _ k f _ rfl) (fun f j => rows_at _ _ _ f j _ (by simp))
    (fun k f => cols_at _ _ _ k f _ rfl) (fun k f => cols_at _ _ _ k f _ (by simp; omega)) (fun f j => rows_at _ _ _ f j _ rfl)
    (fun k f => cols_at _ _ _ k f _ rfl) (fun k f => cols_at _ _ _ k f _ (by simp; omega)) (fun f j => rows_at _ _ _ f j _ rfl)
    (y 0) (y 1)).trans (point m c t (y 0) (y 1)))

end Cert.Kernel2Ideal.Tile

end
-- ==== Proof.FfnRef.lean ====
/-
  The feed-forward reference at an index.
-/
module

public import proofs.«01_k».proof.Proof.Gen.Reference2Ideal.Run
public import proofs.«01_k».proof.Proof.Ffn
public import Idealize.ShloMosaic.Lib.Pointwise

@[expose] public section

set_option maxRecDepth 16384

noncomputable section

namespace Cert.Reference2Ideal.Ref

open Cert.Reference2Ideal Cert.Reference2Ideal.Gen Cert.Ffn
open Idealize.ShloMosaic Idealize.ShloMosaic.TcCoe Idealize.SL.Sem

/-- The reference's stages. -/
def norm (x : FVec Ideal S32768x1024 .f32) (g : FVec Ideal S1x1024 .f32) : FVec Ideal S32768x1024 .f32 :=
  mulf (mulf x (broadcastInDim S32768x1024 ![0, 1] bcast_S32768x1_S32768x1024_0_1 (Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 g)
def up (u : FVec Ideal S32768x1024 .f32) (W : FVec Ideal S1024x5632 .bf16) : FVec Ideal S32768x5632 .f32 :=
  Host.dotGeneral dot_S32768x1024_S1024x5632_S32768x5632_1_0_0_1_n_n none u (extf .f32 W bitsLt_bf16_f32)
def act (s : FVec Ideal S32768x5632 .f32) : FVec Ideal S32768x2816 .f32 :=
  mulf (mulf (extractStridedSlice S32768x2816 ![0, 0] s slices_S32768x5632_S32768x2816_0_0) (Host.divf (broadcastInDim S32768x2816 ![] bcast_S_S32768x2816 (constant S_ .f32 0x3F800000#32)) (addf (broadcastInDim S32768x2816 ![] bcast_S_S32768x2816 (constant S_ .f32 0x3F800000#32)) (Host.exp (Host.negf (extractStridedSlice S32768x2816 ![0, 0] s slices_S32768x5632_S32768x2816_0_0)))))) (extractStridedSlice S32768x2816 ![0, 2816] s slices_S32768x5632_S32768x2816_0_2816)
def down (x : FVec Ideal S32768x1024 .f32) (h : FVec Ideal S32768x2816 .f32) (O : FVec Ideal S2816x1024 .bf16) : FVec Ideal S32768x1024 .f32 :=
  addf x (mulf (broadcastInDim S32768x1024 ![] bcast_S_S32768x1024 (constant S_ .f32 0x3F000000#32)) (Host.dotGeneral dot_S32768x2816_S2816x1024_S32768x1024_1_0_0_1_n_n none h (extf .f32 O bitsLt_bf16_f32)))

theorem norm_at (x : FVec Ideal S32768x1024 .f32) (g : FVec Ideal S1x1024 .f32) (i : Fin 32768) (j : Fin 1024) :
    norm x g (ix2 i j) = nrm (fun k => x (ix2 i k)) (fun k => g (ix2 0 k)) j := by
  rw [nrm, ← mean_eq]
  pointwise [norm]

theorem up_at (u : FVec Ideal S32768x1024 .f32) (W : FVec Ideal S1024x5632 .bf16) (i : Fin 32768) (j : Fin 5632) :
    up u W (ix2 i j) = dot (fun k => u (ix2 i k)) (fun k => W (ix2 k j)) := by
  pointwise [up, dot]

theorem act_at (s : FVec Ideal S32768x5632 .f32) (i : Fin 32768) (j : Fin 2816) :
    act s (ix2 i j) = s (ix2 i ⟨j.val, by omega⟩) * logi (s (ix2 i ⟨j.val, by omega⟩)) * s (ix2 i ⟨2816 + j.val, by omega⟩) := by
  pointwise [act, logi]

theorem down_at (x : FVec Ideal S32768x1024 .f32) (h : FVec Ideal S32768x2816 .f32) (O : FVec Ideal S2816x1024 .bf16) (i : Fin 32768) (j : Fin 1024) :
    down x h O (ix2 i j) = x (ix2 i j) + Ideal.ofBits FTy.f32 0x3F000000#32 * ∑ f : Fin 2816, h (ix2 i f) * O (ix2 f j) := by
  pointwise [down]

/-- The reference's result, row by row. -/
theorem ref_at (x : FVec Ideal S32768x1024 .f32) (g : FVec Ideal S1x1024 .f32) (W : FVec Ideal S1024x5632 .bf16) (O : FVec Ideal S2816x1024 .bf16) (i : Fin 32768) (j : Fin 1024) :
    down x (act (up (norm x g) W)) O (ix2 i j) = ffn (fun k => x (ix2 i k)) (fun k => g (ix2 0 k)) (fun k f => W (ix2 k f)) (fun f k => O (ix2 f k)) j := by
  have hu : (fun k => norm x g (ix2 i k)) = nrm (fun k => x (ix2 i k)) (fun k => g (ix2 0 k)) := funext fun k => norm_at x g i k
  rw [down_at, ffn]
  simp only [act_at, up_at, hu, hid]

variable (m : (ℓ : Loc nD τ sig) → Buf (Elt Ideal) ℓ) (ρ : Dev nD → PrngReg)

/-- The reference's run, in stages. -/
theorem run_stages : θ_run defs (onTc (τ := τ) (main (F := Ideal))) ⟨m, fun _ => 0, ρ⟩ fun r => ∀ c : Dev nD,
      r.2.mem ((c.tc : Thread nD τ).loc main_v22) = down (m ((c.tc : Thread nD τ).loc main_arg0)) (act (up (norm (m ((c.tc : Thread nD τ).loc main_arg0)) (m ((c.tc : Thread nD τ).loc main_arg1))) (m ((c.tc : Thread nD τ).loc main_arg2)))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans rfl, (h c).2⟩) (Value.run m ρ)

theorem no_sems (s : SemLoc sig) : False := by
  rcases s with ⟨⟨_, h⟩⟩ | ⟨⟨_, h⟩⟩ <;> exact absurd h (Nat.not_lt_zero _)

theorem quiet : θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun _ h => ⟨fun c => (h c).2, funext fun g => (no_sems g.2).elim⟩) (Value.run m ρ)

end Cert.Reference2Ideal.Ref

end
-- ==== Proof.FfnValue.lean ====
/-
  The feed-forward kernel and its reference end with the same result.
-/
module

public import proofs.«01_k».proof.Defs
public import proofs.«01_k».proof.Proof.FfnFinal
public import proofs.«01_k».proof.Proof.FfnRef
public import Idealize.ShloMosaic.Lib.StableHlo

@[expose] public section

noncomputable section

namespace Cert.FfnSame

open Idealize.ShloMosaic Idealize.ShloMosaic.TcCoe Idealize.SL.Sem

theorem same (x : FVec Ideal Cert.Reference2Ideal.S32768x1024 .f32) (g : FVec Ideal Cert.Reference2Ideal.S1x1024 .f32)
    (W : FVec Ideal Cert.Reference2Ideal.S1024x5632 .bf16) (O : FVec Ideal Cert.Reference2Ideal.S2816x1024 .bf16) :
    Cert.Reference2Ideal.Ref.down x (Cert.Reference2Ideal.Ref.act (Cert.Reference2Ideal.Ref.up (Cert.Reference2Ideal.Ref.norm x g) W)) O = Cert.Kernel2Ideal.Tile.rows x g W O := by
  funext y
  exact (congrArg _ (eq_ix2 y)).trans (Cert.Reference2Ideal.Ref.ref_at x g W O (y 0) (y 1))

theorem algebraic : Cert.algebraic_Kernel2Ideal_Reference2Ideal
    (hKernel2Ideal := Cert.Kernel2Ideal.Gen.facts) (hReference2Ideal := Cert.Reference2Ideal.Gen.facts) := by
  intro m g m' g' _ hargs
  refine ⟨_, Cert.Kernel2Ideal.Value.run_blocks m g, ?_⟩
  refine (θ_run Cert.Reference2Ideal.defs _ _).mono (fun _ h c => ⟨(h c).1.trans ?_, (h c).2⟩) (Cert.Reference2Ideal.Ref.run_stages m' g')
  obtain ⟨h0, h1, h2, h3⟩ := hargs c
  refine (same _ _ _ _).trans ?_
  rw [h0, h1, h2, h3]
  exact (Cert.Kernel2Ideal.Tile.final m c).symm

end Cert.FfnSame

end
-- ==== Proof.MergeTile.lean ====
/-
  The merge kernel's tile at an index.
-/
module

public import proofs.«01_k».proof.Proof.Gen.Kernel3Ideal.Value
public import proofs.«01_k».proof.Proof.FfnFinal

@[expose] public section

set_option maxRecDepth 16384

noncomputable section

namespace Cert.Kernel3Ideal.Tile

open Cert.Kernel3Ideal Cert.Kernel3Ideal.Gen Cert.Ffn
open Idealize.ShloMosaic Idealize.ShloMosaic.TcCoe Idealize.SL.Sem
open Cert.Kernel2Ideal.Tile (mm mm_at fin act act' mmIn mmOut fin_rows norm_at)

/-- The normed tile, as the feed-forward kernel's. -/
abbrev norm (x : FVec Ideal S512x1024 .f32) (g : FVec Ideal S1x1024 .f32) : FVec Ideal S512x1024 .bf16 :=
  Cert.Kernel2Ideal.Gen.k0_pay2 (F := Ideal) x g

/-- The stages before and after the feed-forward half. -/
def gates (u : FVec Ideal S512x1024 .bf16) (G : FVec Ideal S1024x2048 .bf16) : FVec Ideal S512x2048 .f32 :=
  addf (mulf (broadcast S512x2048 (Scalar.ofBits .f32 0x3F000000#32)) (tanh (mulf (broadcast S512x2048 (Scalar.ofBits .f32 0x3F000000#32))
    (matmul dot_S512x1024_S1024x2048_S512x2048_1_0_0_1_n_n none u G (constant S512x2048 .f32 0x00000000#32))))) (broadcast S512x2048 (Scalar.ofBits .f32 0x3F000000#32))
def branch (a : FVec Ideal S512x512 .bf16) (A : FVec Ideal S512x1024 .bf16) : FVec Ideal S512x1024 .f32 :=
  matmul dot_S512x512_S512x1024_S512x1024_1_0_0_1_n_n none a A (constant S512x1024 .f32 0x00000000#32)
def both (s : FVec Ideal S512x2048 .f32) (a b : FVec Ideal S512x1024 .f32) : FVec Ideal S512x1024 .bf16 :=
  truncf .bf16 (addf (mulf (extractStridedSlice S512x1024 ![0, 0] s slices_S512x2048_o0_0_S512x1024) a) (mulf (extractStridedSlice S512x1024 ![0, 1024] s slices_S512x2048_o0_1024_S512x1024) b)) bitsLt_bf16_f32
def gated (x s e : FVec Ideal S512x1024 .f32) : FVec Ideal S512x1024 .f32 :=
  addf x (mulf (addf (mulf (broadcast S512x1024 (Scalar.ofBits .f32 0x3F000000#32)) (tanh (mulf (broadcast S512x1024 (Scalar.ofBits .f32 0x3F000000#32)) s))) (broadcast S512x1024 (Scalar.ofBits .f32 0x3F000000#32))) e)
def side (p : FVec Ideal S512x256 .f32) (E : FVec Ideal S256x1024 .bf16) : FVec Ideal S512x1024 .f32 :=
  matmul dot_S512x256_S256x1024_S512x1024_1_0_0_1_n_n none (truncf .bf16 p bitsLt_bf16_f32) E (constant S512x1024 .f32 0x00000000#32)

theorem gates_at (u : FVec Ideal S512x1024 .bf16) (G : FVec Ideal S1024x2048 .bf16) (i : Fin 512) (j : Fin 2048) :
    gates u G (ix2 i j) = logi (dot (fun k => u (ix2 i k)) (fun k => G (ix2 k j))) := by
  rw [← gate_eq]
  pointwise [gates, dot]

theorem branch_at (a : FVec Ideal S512x512 .bf16) (A : FVec Ideal S512x1024 .bf16) (i : Fin 512) (j : Fin 1024) :
    branch a A (ix2 i j) = dot (fun k => a (ix2 i k)) (fun k => A (ix2 k j)) := by
  pointwise [branch, dot]

theorem both_at (s : FVec Ideal S512x2048 .f32) (a b : FVec Ideal S512x1024 .f32) (i : Fin 512) (j : Fin 1024) :
    both s a b (ix2 i j) = s (ix2 i ⟨j.val, by omega⟩) * a (ix2 i j) + s (ix2 i ⟨1024 + j.val, by omega⟩) * b (ix2 i j) := by
  pointwise [both]

theorem gated_at (x s e : FVec Ideal S512x1024 .f32) (y : S512x1024.Idx) :
    gated x s e y = x y + logi (s y) * e y := by
  rw [← gate_eq]
  pointwise [gated]

theorem side_at (p : FVec Ideal S512x256 .f32) (E : FVec Ideal S256x1024 .bf16) (i : Fin 512) (j : Fin 1024) :
    side p E (ix2 i j) = dot (fun k => p (ix2 i k)) (fun k => E (ix2 k j)) := by
  pointwise [side, dot]

/-- The tile after the merge, and after the embedding. -/
def merged (x : FVec Ideal S512x1024 .f32) (gm : FVec Ideal S1x1024 .f32) (G : FVec Ideal S1024x2048 .bf16) (a b : FVec Ideal S512x512 .bf16) (A B : FVec Ideal S512x1024 .bf16)
    (P : FVec Ideal S1024x1024 .bf16) : FVec Ideal S512x1024 .f32 :=
  addf x (mm (both (gates (norm x gm) G) (branch a A) (branch b B)) P)
def embedded (x : FVec Ideal S512x1024 .f32) (g : FVec Ideal S1x1024 .f32) (G : FVec Ideal S1024x1024 .bf16) (p : FVec Ideal S512x256 .f32) (E : FVec Ideal S256x1024 .bf16) : FVec Ideal S512x1024 .f32 :=
  gated x (mm (norm x g) G) (side p E)

theorem row_norm (x : FVec Ideal S512x1024 .f32) (g : FVec Ideal S1x1024 .f32) (i : Fin 512) :
    (fun k => norm x g (ix2 i k)) = nrm (fun k => x (ix2 i k)) (fun k => g (ix2 0 k)) := funext fun k => norm_at x g i k

theorem both_rows (x : FVec Ideal S512x1024 .f32) (gm : FVec Ideal S1x1024 .f32) (G : FVec Ideal S1024x2048 .bf16) (a b : FVec Ideal S512x512 .bf16) (A B : FVec Ideal S512x1024 .bf16) (i : Fin 512) (k : Fin 1024) :
    both (gates (norm x gm) G) (branch a A) (branch b B) (ix2 i k)
      = mixed (nrm (fun k => x (ix2 i k)) (fun k => gm (ix2 0 k))) (fun k l => G (ix2 k l)) (fun k => a (ix2 i k)) (fun k => b (ix2 i k)) (fun k l => A (ix2 k l)) (fun k l => B (ix2 k l)) k := by
  rw [both_at, gates_at, gates_at, branch_at, branch_at, row_norm, mixed]

theorem merged_at (x : FVec Ideal S512x1024 .f32) (gm : FVec Ideal S1x1024 .f32) (G : FVec Ideal S1024x2048 .bf16) (a b : FVec Ideal S512x512 .bf16) (A B : FVec Ideal S512x1024 .bf16)
    (P : FVec Ideal S1024x1024 .bf16) (i : Fin 512) (j : Fin 1024) :
    merged x gm G a b A B P (ix2 i j)
      = merge (fun k => x (ix2 i k)) (fun k => gm (ix2 0 k)) (fun k l => G (ix2 k l)) (fun k => a (ix2 i k)) (fun k => b (ix2 i k)) (fun k l => A (ix2 k l)) (fun k l => B (ix2 k l)) (fun k l => P (ix2 k l)) j := by
  have h : (fun k => both (gates (norm x gm) G) (branch a A) (branch b B) (ix2 i k)) = _ := funext fun k => both_rows x gm G a b A B i k
  have e : mm (both (gates (norm x gm) G) (branch a A) (branch b B)) P (ix2 i j) = _ := mm_at _ _ i j
  rw [h] at e
  exact congrArg (x (ix2 i j) + ·) e

theorem embedded_at (x : FVec Ideal S512x1024 .f32) (g : FVec Ideal S1x1024 .f32) (G : FVec Ideal S1024x1024 .bf16) (p : FVec Ideal S512x256 .f32) (E : FVec Ideal S256x1024 .bf16) (i : Fin 512) (j : Fin 1024) :
    embedded x g G p E (ix2 i j) = embed (fun k => x (ix2 i k)) (fun k => g (ix2 0 k)) (fun k l => G (ix2 k l)) (fun k => p (ix2 i k)) (fun k l => E (ix2 k l)) j := by
  have e : mm (norm x g) G (ix2 i j) = _ := mm_at _ _ i j
  rw [row_norm] at e
  rw [embedded, gated_at, side_at, e, embed]

/-- The store's payload, in these stages. -/
theorem pay_eq (x : FVec Ideal S512x1024 .f32) (gm : FVec Ideal S1x1024 .f32) (G : FVec Ideal S1024x2048 .bf16) (a b : FVec Ideal S512x512 .bf16) (A B : FVec Ideal S512x1024 .bf16)
    (P : FVec Ideal S1024x1024 .bf16) (g : FVec Ideal S1x1024 .f32) (wa wb wo wa' wb' wo' : FVec Ideal S1024x1024 .bf16) (wa'' wb'' : FVec Ideal S1024x768 .bf16) (wo'' : FVec Ideal S768x1024 .bf16)
    (ge : FVec Ideal S1x1024 .f32) (Ge : FVec Ideal S1024x1024 .bf16) (p : FVec Ideal S512x256 .f32) (E : FVec Ideal S256x1024 .bf16)
    (v35 : FVec Ideal S512x1024 .bf16) (h35 : v35 = k0_pay2 (F := Ideal) x gm G a A b B) :
    k0_pay1 (F := Ideal)
        (k0_pay7 (k0_pay3 x v35 P) (k0_pay4 x v35 P g) (k0_pay5 x v35 P g wa wb wo) (k0_pay6 x v35 P g wa') wb' wo' wa'' wb'' wo'') ge
        (k0_pay8 (k0_pay3 x v35 P) (k0_pay4 x v35 P g) (k0_pay5 x v35 P g wa wb wo) (k0_pay6 x v35 P g wa') wb' wo' wa'' wb'' wo'') Ge p E
      = embedded (fin (merged x gm G a b A B P) (mm (act (mm (norm (merged x gm G a b A B P) g) wa) (mm (norm (merged x gm G a b A B P) g) wb)) wo)
          (mm (act (mm (norm (merged x gm G a b A B P) g) wa') (mm (norm (merged x gm G a b A B P) g) wb')) wo')
          (mmOut (act' (mmIn (norm (merged x gm G a b A B P) g) wa'') (mmIn (norm (merged x gm G a b A B P) g) wb'')) wo'')) ge Ge p E := by
  subst h35
  rfl

end Cert.Kernel3Ideal.Tile

end
-- ==== Proof.MergeFinal.lean ====
/-
  The merge kernel's result array after the run.
-/
module

public import proofs.«01_k».proof.Proof.MergeTile

@[expose] public section

set_option maxRecDepth 16384

noncomputable section

namespace Cert.Kernel3Ideal.Tile

open Cert.Kernel3Ideal Cert.Kernel3Ideal.Gen Cert.Ffn
open Idealize.ShloMosaic Idealize.ShloMosaic.TcCoe Idealize.SL.Sem
open Idealize.ShloMosaic.Pipeline (Dat)
open Cert.Kernel2Ideal.Tile (mm fin act act' mmIn mmOut fin_rows cols_at rows_at)

/-- Every row of the result. -/
def rows (x : FVec Ideal S32768x1024 .f32) (gm : FVec Ideal S1x1024 .f32) (G : FVec Ideal S1024x2048 .bf16) (a b : FVec Ideal S32768x512 .bf16) (A B : FVec Ideal S512x1024 .bf16)
    (P : FVec Ideal S1024x1024 .bf16) (g : FVec Ideal S1x1024 .f32) (W : FVec Ideal S1024x5632 .bf16) (O : FVec Ideal S2816x1024 .bf16) (p : FVec Ideal S32768x256 .f32)
    (ge : FVec Ideal S1x1024 .f32) (Ge : FVec Ideal S1024x1024 .bf16) (E : FVec Ideal S256x1024 .bf16) : FVec Ideal S32768x1024 .f32 := fun y =>
  embed (ffn (merge (fun k => x (ix2 (y 0) k)) (fun k => gm (ix2 0 k)) (fun k l => G (ix2 k l)) (fun k => a (ix2 (y 0) k)) (fun k => b (ix2 (y 0) k)) (fun k l => A (ix2 k l)) (fun k l => B (ix2 k l)) (fun k l => P (ix2 k l)))
    (fun k => g (ix2 0 k)) (fun k f => W (ix2 k f)) (fun f k => O (ix2 f k))) (fun k => ge (ix2 0 k)) (fun k l => Ge (ix2 k l)) (fun k => p (ix2 (y 0) k)) (fun k l => E (ix2 k l)) (y 1)

/-- A tile's rows are the result's, where the tile holds the rows of the arguments. -/
theorem tile_rows (x : FVec Ideal S512x1024 .f32) (gm : FVec Ideal S1x1024 .f32) (G : FVec Ideal S1024x2048 .bf16) (a b : FVec Ideal S512x512 .bf16) (A B : FVec Ideal S512x1024 .bf16)
    (P : FVec Ideal S1024x1024 .bf16) (g : FVec Ideal S1x1024 .f32) (W : Vec Ideal S1024x5632 .bf16) (O : Vec Ideal S2816x1024 .bf16)
    (ge : FVec Ideal S1x1024 .f32) (Ge : FVec Ideal S1024x1024 .bf16) (p : FVec Ideal S512x256 .f32) (E : FVec Ideal S256x1024 .bf16)
    (X : FVec Ideal S32768x1024 .f32) (a' b' : FVec Ideal S32768x512 .bf16) (p' : FVec Ideal S32768x256 .f32) (i : Fin 512) (r : Fin 32768) (j : Fin 1024)
    (hx : ∀ k : Fin 1024, x (ix2 i k) = X (ix2 r k)) (ha : ∀ k : Fin 512, a (ix2 i k) = a' (ix2 r k)) (hb : ∀ k : Fin 512, b (ix2 i k) = b' (ix2 r k))
    (hp : ∀ k : Fin 256, p (ix2 i k) = p' (ix2 r k)) :
    embedded (fin (merged x gm G a b A B P) (mm (act (mm (norm (merged x gm G a b A B P) g) (View.ld W r0_5)) (mm (norm (merged x gm G a b A B P) g) (View.ld W r0_6))) (View.ld O r0_7))
          (mm (act (mm (norm (merged x gm G a b A B P) g) (View.ld W r0_8)) (mm (norm (merged x gm G a b A B P) g) (View.ld W r0_9))) (View.ld O r0_10))
          (mmOut (act' (mmIn (norm (merged x gm G a b A B P) g) (View.ld W r0_11)) (mmIn (norm (merged x gm G a b A B P) g) (View.ld W r0_12))) (View.ld O r0_13))) ge Ge p E (ix2 i j)
      = rows X gm G a' b' A B P g W O p' ge Ge E (ix2 r j) := by
  have h1 : (fun k => merged x gm G a b A B P (ix2 i k)) = _ := funext fun k => merged_at x gm G a b A B P i k
  have h2 := fun k : Fin 1024 => fin_rows (merged x gm G a b A B P) g W O _ _ _ _ _ _ _ _ _
    (fun k f => cols_at W 0 inb_S1024x5632_S1024x1024_0_0 k f _ (by simp)) (fun k f => cols_at W 2816 inb_S1024x5632_S1024x1024_0_2816 k f _ rfl) (fun f j => rows_at O 0 inb_S2816x1024_S1024x1024_0_0 f j _ (by simp))
    (fun k f => cols_at W 1024 inb_S1024x5632_S1024x1024_0_1024 k f _ rfl) (fun k f => cols_at W 3840 inb_S1024x5632_S1024x1024_0_3840 k f _ (by simp; omega)) (fun f j => rows_at O 1024 inb_S2816x1024_S1024x1024_1024_0 f j _ rfl)
    (fun k f => cols_at W 2048 inb_S1024x5632_S1024x768_0_2048 k f _ rfl) (fun k f => cols_at W 4864 inb_S1024x5632_S1024x768_0_4864 k f _ (by simp; omega)) (fun f j => rows_at O 2048 inb_S2816x1024_S768x1024_2048_0 f j _ rfl) i k
  refine (embedded_at _ ge Ge p E i j).trans ?_
  rw [funext h2]
  simp only [h1, hx, ha, hb, hp]
  rfl

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![t.val, 0] ∧ win0_4.index t = ![t.val, 0]
    ∧ win0_5.index t = ![0, 0] ∧ win0_6.index t = ![0, 0] ∧ win0_7.index t = ![0, 0] ∧ win0_8.index t = ![0, 0] ∧ win0_9.index t = ![0, 0] ∧ win0_10.index t = ![0, 0]
    ∧ win0_11.index t = ![t.val, 0] ∧ win0_12.index t = ![0, 0] ∧ win0_13.index t = ![0, 0] ∧ win0_14.index t = ![0, 0] ∧ win0_15.index t = ![t.val, 0] :=
  (by decide +kernel : ∀ t : Fin grid0.N, _)

/-- The windows that are their whole arrays. -/
theorem whole1 (c : Dev nD) (t : Fin cfg0.N) : iblk m c 1 t = m ((c : Thread nD τ).loc main_arg1) := by blk_ext! [iblk, V, idx t]
theorem whole2 (c : Dev nD) (t : Fin cfg0.N) : iblk m c 2 t = m ((c : Thread nD τ).loc main_arg2) := by blk_ext! [iblk, V, idx t]
theorem whole5 (c : Dev nD) (t : Fin cfg0.N) : iblk m c 5 t = m ((c : Thread nD τ).loc main_arg5) := by blk_ext! [iblk, V, idx t]
theorem whole6 (c : Dev nD) (t : Fin cfg0.N) : iblk m c 6 t = m ((c : Thread nD τ).loc main_arg6) := by blk_ext! [iblk, V, idx t]
theorem whole7 (c : Dev nD) (t : Fin cfg0.N) : iblk m c 7 t = m ((c : Thread nD τ).loc main_arg7) := by blk_ext! [iblk, V, idx t]
theorem whole8 (c : Dev nD) (t : Fin cfg0.N) : iblk m c 8 t = m ((c : Thread nD τ).loc main_arg8) := by blk_ext! [iblk, V, idx t]
theorem whole9 (c : Dev nD) (t : Fin cfg0.N) : iblk m c 9 t = m ((c : Thread nD τ).loc main_arg9) := by blk_ext! [iblk, V, idx t]
theorem whole10 (c : Dev nD) (t : Fin cfg0.N) : iblk m c 10 t = m ((c : Thread nD τ).loc main_arg10) := by blk_ext! [iblk, V, idx t]
theorem whole12 (c : Dev nD) (t : Fin cfg0.N) : iblk m c 12 t = m ((c : Thread nD τ).loc main_arg12) := by blk_ext! [iblk, V, idx t]
theorem whole13 (c : Dev nD) (t : Fin cfg0.N) : iblk m c 13 t = m ((c : Thread nD τ).loc main_arg13) := by blk_ext! [iblk, V, idx t]
theorem whole14 (c : Dev nD) (t : Fin cfg0.N) : iblk m c 14 t = m ((c : Thread nD τ).loc main_arg14) := by blk_ext! [iblk, V, idx t]

/-- The windows that are tiles of rows. -/
theorem row0 (c : Dev nD) (t : Fin cfg0.N) (i : Fin 512) (j k : Fin 1024) : (show FVec Ideal S512x1024 .f32 from iblk m c 0 t) (ix2 i k)
    = (m ((c : Thread nD τ).loc main_arg0) : FVec Ideal S32768x1024 .f32) (ix2 ((((cfg0.win 15).blk t).view.emb (ix2 i j)) 0) k) := by blk_ext [iblk, V, idx t]
theorem row3 (c : Dev nD) (t : Fin cfg0.N) (i : Fin 512) (j : Fin 1024) (k : Fin 512) : (show FVec Ideal S512x512 .bf16 from iblk m c 3 t) (ix2 i k)
    = (m ((c : Thread nD τ).loc main_arg3) : FVec Ideal S32768x512 .bf16) (ix2 ((((cfg0.win 15).blk t).view.emb (ix2 i j)) 0) k) := by blk_ext [iblk, V, idx t]
theorem row4 (c : Dev nD) (t : Fin cfg0.N) (i : Fin 512) (j : Fin 1024) (k : Fin 512) : (show FVec Ideal S512x512 .bf16 from iblk m c 4 t) (ix2 i k)
    = (m ((c : Thread nD τ).loc main_arg4) : FVec Ideal S32768x512 .bf16) (ix2 ((((cfg0.win 15).blk t).view.emb (ix2 i j)) 0) k) := by blk_ext [iblk, V, idx t]
theorem row11 (c : Dev nD) (t : Fin cfg0.N) (i : Fin 512) (j : Fin 1024) (k : Fin 256) : (show FVec Ideal S512x256 .f32 from iblk m c 11 t) (ix2 i k)
    = (m ((c : Thread nD τ).loc main_arg11) : FVec Ideal S32768x256 .f32) (ix2 ((((cfg0.win 15).blk t).view.emb (ix2 i j)) 0) k) := by blk_ext [iblk, V, idx t]

theorem final (c : Dev nD) : (dats m 0 c).arrAt 15 cfg0.N
    = rows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (dats m 0 c).arrAt_eq_of_covers 15 _ (by decide +kernel) fun t _ y => ?_
  blk_simp
  rw [after0_15]
  unfold_out out0_15
  frame_out
  rw [eq_ix2 y]
  refine (congrFun (pay_eq (iblk m c 0 t) (iblk m c 1 t) (iblk m c 2 t) (iblk m c 3 t) (iblk m c 4 t) (iblk m c 5 t) (iblk m c 6 t) (iblk m c 7 t) (iblk m c 8 t) _ _ _ _ _ _ _ _ _ (iblk m c 12 t) (iblk m c 13 t) (iblk m c 11 t) (iblk m c 14 t) _ rfl) _).trans ?_
  refine (tile_rows (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 12 t) (iblk m c 13 t) (iblk m c 11 t) (iblk m c 14 t)
    (m ((c : Thread nD τ).loc main_arg0)) (m ((c : Thread nD τ).loc main_arg3)) (m ((c : Thread nD τ).loc main_arg4)) (m ((c : Thread nD τ).loc main_arg11)) (y 0) ((((cfg0.win 15).blk t).view.emb (ix2 (y 0) (y 1))) 0) (y 1)
    (row0 m c t (y 0) (y 1)) (row3 m c t (y 0) (y 1)) (row4 m c t (y 0) (y 1)) (row11 m c t (y 0) (y 1))).trans ?_
  rw [whole1, whole2, whole5, whole6, whole7, whole8, whole9, whole10, whole12, whole13, whole14]
  refine congrArg (rows _ _ _ _ _ _ _ _ _ _ _ _ _ _ _) ?_
  blk_ext [idx t]

end Cert.Kernel3Ideal.Tile

end
-- ==== Proof.MergeRef.lean ====
/-
  The merge reference at an index.
-/
module

public import proofs.«01_k».proof.Proof.Gen.Reference3Ideal.Run
public import proofs.«01_k».proof.Proof.FfnRef

@[expose] public section

set_option maxRecDepth 16384

noncomputable section

namespace Cert.Reference3Ideal.Ref

open Cert.Reference3Ideal Cert.Reference3Ideal.Gen Cert.Ffn
open Idealize.ShloMosaic Idealize.ShloMosaic.TcCoe Idealize.SL.Sem
open Idealize.ShloMosaic.StableHlo (launchContents)
open Cert.Reference2Ideal.Ref (norm norm_at up act down ref_at)

/-- The reference's stages before and after the feed-forward half. -/
def gates (u : FVec Ideal S32768x1024 .f32) (G : FVec Ideal S1024x2048 .bf16) : FVec Ideal S32768x2048 .f32 :=
  Host.divf (broadcastInDim S32768x2048 ![] bcast_S_S32768x2048 (constant S_ .f32 0x3F800000#32)) (addf (broadcastInDim S32768x2048 ![] bcast_S_S32768x2048 (constant S_ .f32 0x3F800000#32)) (Host.exp (Host.negf (Host.dotGeneral dot_S32768x1024_S1024x2048_S32768x2048_1_0_0_1_n_n none u (extf .f32 G bitsLt_bf16_f32)))))
def branch (a : FVec Ideal S32768x512 .bf16) (A : FVec Ideal S512x1024 .bf16) : FVec Ideal S32768x1024 .f32 :=
  Host.dotGeneral dot_S32768x512_S512x1024_S32768x1024_1_0_0_1_n_n none (extf .f32 a bitsLt_bf16_f32) (extf .f32 A bitsLt_bf16_f32)
def both (s : FVec Ideal S32768x2048 .f32) (a b : FVec Ideal S32768x1024 .f32) : FVec Ideal S32768x1024 .f32 :=
  addf (mulf (extractStridedSlice S32768x1024 ![0, 0] s slices_S32768x2048_S32768x1024_0_0) a) (mulf (extractStridedSlice S32768x1024 ![0, 1024] s slices_S32768x2048_S32768x1024_0_1024) b)
def mm (u : FVec Ideal S32768x1024 .f32) (w : FVec Ideal S1024x1024 .bf16) : FVec Ideal S32768x1024 .f32 :=
  Host.dotGeneral dot_S32768x1024_S1024x1024_S32768x1024_1_0_0_1_n_n none u (extf .f32 w bitsLt_bf16_f32)
def gated (x s e : FVec Ideal S32768x1024 .f32) : FVec Ideal S32768x1024 .f32 :=
  addf x (mulf (Host.divf (broadcastInDim S32768x1024 ![] bcast_S_S32768x1024 (constant S_ .f32 0x3F800000#32)) (addf (broadcastInDim S32768x1024 ![] bcast_S_S32768x1024 (constant S_ .f32 0x3F800000#32)) (Host.exp (Host.negf s)))) e)
def side (p : FVec Ideal S32768x256 .f32) (E : FVec Ideal S256x1024 .bf16) : FVec Ideal S32768x1024 .f32 :=
  Host.dotGeneral dot_S32768x256_S256x1024_S32768x1024_1_0_0_1_n_n none p (extf .f32 E bitsLt_bf16_f32)

theorem gates_at (u : FVec Ideal S32768x1024 .f32) (G : FVec Ideal S1024x2048 .bf16) (i : Fin 32768) (j : Fin 2048) :
    gates u G (ix2 i j) = logi (dot (fun k => u (ix2 i k)) (fun k => G (ix2 k j))) := by
  pointwise [gates, dot, logi]

theorem branch_at (a : FVec Ideal S32768x512 .bf16) (A : FVec Ideal S512x1024 .bf16) (i : Fin 32768) (j : Fin 1024) :
    branch a A (ix2 i j) = dot (fun k => a (ix2 i k)) (fun k => A (ix2 k j)) := by
  pointwise [branch, dot]

theorem both_at (s : FVec Ideal S32768x2048 .f32) (a b : FVec Ideal S32768x1024 .f32) (i : Fin 32768) (j : Fin 1024) :
    both s a b (ix2 i j) = s (ix2 i ⟨j.val, by omega⟩) * a (ix2 i j) + s (ix2 i ⟨1024 + j.val, by omega⟩) * b (ix2 i j) := by
  pointwise [both]

theorem mm_at (u : FVec Ideal S32768x1024 .f32) (w : FVec Ideal S1024x1024 .bf16) (i : Fin 32768) (j : Fin 1024) :
    mm u w (ix2 i j) = dot (fun k => u (ix2 i k)) (fun k => w (ix2 k j)) := by
  pointwise [mm, dot]

theorem gated_at (x s e : FVec Ideal S32768x1024 .f32) (y : S32768x1024.Idx) :
    gated x s e y = x y + logi (s y) * e y := by
  pointwise [gated, logi]

theorem side_at (p : FVec Ideal S32768x256 .f32) (E : FVec Ideal S256x1024 .bf16) (i : Fin 32768) (j : Fin 1024) :
    side p E (ix2 i j) = dot (fun k => p (ix2 i k)) (fun k => E (ix2 k j)) := by
  pointwise [side, dot]

/-- The rows after the merge, after the feed-forward half and after the embedding. -/
def merged (x : FVec Ideal S32768x1024 .f32) (gm : FVec Ideal S1x1024 .f32) (G : FVec Ideal S1024x2048 .bf16) (a b : FVec Ideal S32768x512 .bf16) (A B : FVec Ideal S512x1024 .bf16)
    (P : FVec Ideal S1024x1024 .bf16) : FVec Ideal S32768x1024 .f32 :=
  addf x (mm (both (gates (norm x gm) G) (branch a A) (branch b B)) P)
def forward (x : FVec Ideal S32768x1024 .f32) (g : FVec Ideal S1x1024 .f32) (W : FVec Ideal S1024x5632 .bf16) (O : FVec Ideal S2816x1024 .bf16) : FVec Ideal S32768x1024 .f32 :=
  down x (act (up (norm x g) W)) O
def embedded (x : FVec Ideal S32768x1024 .f32) (g : FVec Ideal S1x1024 .f32) (G : FVec Ideal S1024x1024 .bf16) (p : FVec Ideal S32768x256 .f32) (E : FVec Ideal S256x1024 .bf16) : FVec Ideal S32768x1024 .f32 :=
  gated x (mm (norm x g) G) (side p E)

theorem row_norm (x : FVec Ideal S32768x1024 .f32) (g : FVec Ideal S1x1024 .f32) (i : Fin 32768) :
    (fun k => norm x g (ix2 i k)) = nrm (fun k => x (ix2 i k)) (fun k => g (ix2 0 k)) := funext fun k => norm_at x g i k

theorem both_rows (x : FVec Ideal S32768x1024 .f32) (gm : FVec Ideal S1x1024 .f32) (G : FVec Ideal S1024x2048 .bf16) (a b : FVec Ideal S32768x512 .bf16) (A B : FVec Ideal S512x1024 .bf16) (i : Fin 32768) (k : Fin 1024) :
    both (gates (norm x gm) G) (branch a A) (branch b B) (ix2 i k)
      = mixed (nrm (fun k => x (ix2 i k)) (fun k => gm (ix2 0 k))) (fun k l => G (ix2 k l)) (fun k => a (ix2 i k)) (fun k => b (ix2 i k)) (fun k l => A (ix2 k l)) (fun k l => B (ix2 k l)) k := by
  rw [both_at, gates_at, gates_at, branch_at, branch_at, row_norm, mixed]

theorem merged_at (x : FVec Ideal S32768x1024 .f32) (gm : FVec Ideal S1x1024 .f32) (G : FVec Ideal S1024x2048 .bf16) (a b : FVec Ideal S32768x512 .bf16) (A B : FVec Ideal S512x1024 .bf16)
    (P : FVec Ideal S1024x1024 .bf16) (i : Fin 32768) (j : Fin 1024) :
    merged x gm G a b A B P (ix2 i j)
      = merge (fun k => x (ix2 i k)) (fun k => gm (ix2 0 k)) (fun k l => G (ix2 k l)) (fun k => a (ix2 i k)) (fun k => b (ix2 i k)) (fun k l => A (ix2 k l)) (fun k l => B (ix2 k l)) (fun k l => P (ix2 k l)) j := by
  have h : (fun k => both (gates (norm x gm) G) (branch a A) (branch b B) (ix2 i k)) = _ := funext fun k => both_rows x gm G a b A B i k
  have e : mm (both (gates (norm x gm) G) (branch a A) (branch b B)) P (ix2 i j) = _ := mm_at _ _ i j
  rw [h] at e
  exact congrArg (x (ix2 i j) + ·) e

theorem embedded_at (x : FVec Ideal S32768x1024 .f32) (g : FVec Ideal S1x1024 .f32) (G : FVec Ideal S1024x1024 .bf16) (p : FVec Ideal S32768x256 .f32) (E : FVec Ideal S256x1024 .bf16) (i : Fin 32768) (j : Fin 1024) :
    embedded x g G p E (ix2 i j) = embed (fun k => x (ix2 i k)) (fun k => g (ix2 0 k)) (fun k l => G (ix2 k l)) (fun k => p (ix2 i k)) (fun k l => E (ix2 k l)) j := by
  have e : mm (norm x g) G (ix2 i j) = _ := mm_at _ _ i j
  rw [row_norm] at e
  rw [embedded, gated_at, side_at, e, embed]

/-- The reference's result, row by row. -/
theorem rows_at (x : FVec Ideal S32768x1024 .f32) (gm : FVec Ideal S1x1024 .f32) (G : FVec Ideal S1024x2048 .bf16) (a b : FVec Ideal S32768x512 .bf16) (A B : FVec Ideal S512x1024 .bf16)
    (P : FVec Ideal S1024x1024 .bf16) (g : FVec Ideal S1x1024 .f32) (W : FVec Ideal S1024x5632 .bf16) (O : FVec Ideal S2816x1024 .bf16) (p : FVec Ideal S32768x256 .f32)
    (ge : FVec Ideal S1x1024 .f32) (Ge : FVec Ideal S1024x1024 .bf16) (E : FVec Ideal S256x1024 .bf16) (i : Fin 32768) (j : Fin 1024) :
    embedded (forward (merged x gm G a b A B P) g W O) ge Ge p E (ix2 i j)
      = embed (ffn (merge (fun k => x (ix2 i k)) (fun k => gm (ix2 0 k)) (fun k l => G (ix2 k l)) (fun k => a (ix2 i k)) (fun k => b (ix2 i k)) (fun k l => A (ix2 k l)) (fun k l => B (ix2 k l)) (fun k l => P (ix2 k l)))
          (fun k => g (ix2 0 k)) (fun k f => W (ix2 k f)) (fun f k => O (ix2 f k))) (fun k => ge (ix2 0 k)) (fun k l => Ge (ix2 k l)) (fun k => p (ix2 i k)) (fun k l => E (ix2 k l)) j := by
  have h1 : (fun k => merged x gm G a b A B P (ix2 i k)) = _ := funext fun k => merged_at x gm G a b A B P i k
  have h2 : (fun k => forward (merged x gm G a b A B P) g W O (ix2 i k)) = _ := funext fun k => ref_at (merged x gm G a b A B P) g W O i k
  rw [embedded_at, h2, h1]

variable (m : (ℓ : Loc nD τ sig) → Buf (Elt Ideal) ℓ) (ρ : Dev nD → PrngReg)

/-- The reference's run, in stages. -/
theorem at19 (c : Dev nD) : Value.res_main_v19 (F := Ideal) (launchContents m c) = gates (norm (m ((c.tc : Thread nD τ).loc main_arg0)) (m ((c.tc : Thread nD τ).loc main_arg1))) (m ((c.tc : Thread nD τ).loc main_arg2)) := rfl

theorem at33 (c : Dev nD) : Value.res_main_v33 (F := Ideal) (launchContents m c) = merged (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold Value.res_main_v33
  rw [at19]
  rfl

theorem at47 (c : Dev nD) : Value.res_main_v47 (F := Ideal) (launchContents m c) = up (norm (merged (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8))) (m ((c.tc : Thread nD τ).loc main_arg9)) := by
  unfold Value.res_main_v47
  rw [at33]
  rfl

theorem at56 (c : Dev nD) : Value.res_main_v56 (F := Ideal) (launchContents m c) = forward (merged (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8)) (m ((c.tc : Thread nD τ).loc main_arg9)) (m ((c.tc : Thread nD τ).loc main_arg10)) := by
  unfold Value.res_main_v56 Value.res_main_v48
  rw [at33, at47]
  rfl

theorem run_stages : θ_run defs (onTc (τ := τ) (main (F := Ideal))) ⟨m, fun _ => 0, ρ⟩ fun r => ∀ c : Dev nD,
      r.2.mem ((c.tc : Thread nD τ).loc main_v80) = embedded (forward (merged (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8)) (m ((c.tc : Thread nD τ).loc main_arg9)) (m ((c.tc : Thread nD τ).loc main_arg10))) (m ((c.tc : Thread nD τ).loc main_arg12)) (m ((c.tc : Thread nD τ).loc main_arg13)) (m ((c.tc : Thread nD τ).loc main_arg11)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c).1.trans (by rw [at56]; rfl), (h c).2⟩) (Value.run m ρ)

theorem no_sems (s : SemLoc sig) : False := by
  rcases s with ⟨⟨_, h⟩⟩ | ⟨⟨_, h⟩⟩ <;> exact absurd h (Nat.not_lt_zero _)

theorem quiet : θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) ∧ r.2.sem = fun _ => 0 :=
  (θ_run defs _ _).mono (fun _ h => ⟨fun c => (h c).2, funext fun g => (no_sems g.2).elim⟩) (Value.run m ρ)

end Cert.Reference3Ideal.Ref

end
-- ==== Proof.MergeValue.lean ====
/-
  The merge kernel and its reference end with the same result.
-/
module

public import proofs.«01_k».proof.Defs
public import proofs.«01_k».proof.Proof.MergeFinal
public import proofs.«01_k».proof.Proof.MergeRef
public import Idealize.ShloMosaic.Lib.StableHlo

@[expose] public section

noncomputable section

namespace Cert.MergeSame

open Idealize.ShloMosaic Idealize.ShloMosaic.TcCoe Idealize.SL.Sem Cert.Reference3Ideal

theorem same (x : FVec Ideal S32768x1024 .f32) (gm : FVec Ideal S1x1024 .f32) (G : FVec Ideal S1024x2048 .bf16) (a b : FVec Ideal S32768x512 .bf16) (A B : FVec Ideal S512x1024 .bf16)
    (P : FVec Ideal S1024x1024 .bf16) (g : FVec Ideal S1x1024 .f32) (W : FVec Ideal S1024x5632 .bf16) (O : FVec Ideal S2816x1024 .bf16) (p : FVec Ideal S32768x256 .f32)
    (ge : FVec Ideal S1x1024 .f32) (Ge : FVec Ideal S1024x1024 .bf16) (E : FVec Ideal S256x1024 .bf16) :
    Ref.embedded (Ref.forward (Ref.merged x gm G a b A B P) g W O) ge Ge p E = Cert.Kernel3Ideal.Tile.rows x gm G a b A B P g W O p ge Ge E := by
  funext y
  exact (congrArg _ (eq_ix2 y)).trans (Ref.rows_at x gm G a b A B P g W O p ge Ge E (y 0) (y 1))

theorem algebraic : Cert.algebraic_Kernel3Ideal_Reference3Ideal
    (hKernel3Ideal := Cert.Kernel3Ideal.Gen.facts) (hReference3Ideal := Cert.Reference3Ideal.Gen.facts) := by
  intro m g m' g' _ hargs
  refine ⟨_, Cert.Kernel3Ideal.Value.run_blocks m g, ?_⟩
  refine (θ_run Cert.Reference3Ideal.defs _ _).mono (fun _ h c => ⟨(h c).1.trans ?_, (h c).2⟩) (Ref.run_stages m' g')
  obtain ⟨h0, h1, h2, h3, h4, h5, h6, h7, h8, h9, h10, h11, h12, h13, h14⟩ := hargs c
  refine (same _ _ _ _ _ _ _ _ _ _ _ _ _ _ _).trans ?_
  rw [h0, h1, h2, h3, h4, h5, h6, h7, h8, h9, h10, h11, h12, h13, h14]
  exact (Cert.Kernel3Ideal.Tile.final m c).symm

end Cert.MergeSame

end
-- ==== Proof.Proj.lean ====
/-
  One row of the projections: the norms, the latent rows and the turned heads.
-/
module

public import proofs.«01_k».proof.Proof.Ffn

@[expose] public section

noncomputable section

namespace Cert.Proj

open Idealize.ShloMosaic Cert.Ffn

/-- A row after a norm whose mean is a product with `r`. -/
def normed {n : ℕ} (r : EReal) (x g : Fin n → EReal) (j : Fin n) : EReal :=
  x j * Ideal.rsqrt ((∑ k : Fin n, x k * x k) * r + Ideal.ofBits FTy.f32 0x358637BD#32) * g j

def r384 : EReal := ((384⁻¹ : ℝ) : EReal)
def r96 : EReal := ((96⁻¹ : ℝ) : EReal)

theorem of_384 : Ideal.ofBits FTy.f32 0x43C00000#32 = ((384 : ℝ) : EReal) := by
  simp [Ideal.ofBits, Ideal.ieee]; norm_cast; norm_num
theorem of_96 : Ideal.ofBits FTy.f32 0x42C00000#32 = ((96 : ℝ) : EReal) := by
  simp [Ideal.ofBits, Ideal.ieee]; norm_cast; norm_num
theorem of_256 : Ideal.ofBits FTy.f32 0x43800000#32 = ((256 : ℝ) : EReal) := by
  simp [Ideal.ofBits, Ideal.ieee]; norm_cast; norm_num
theorem of_inv256 : Ideal.ofBits FTy.f32 0x3B800000#32 = ((1 / 256 : ℝ) : EReal) := by
  simp [Ideal.ofBits, Ideal.ieee]; norm_cast; norm_num
theorem of_8 : Ideal.ofBits FTy.f32 0x41000000#32 = ((8 : ℝ) : EReal) := by
  simp [Ideal.ofBits, Ideal.ieee]; norm_cast; norm_num
theorem of_inv8 : Ideal.ofBits FTy.f32 0x3E000000#32 = ((1 / 8 : ℝ) : EReal) := by
  simp [Ideal.ofBits, Ideal.ieee]; norm_cast; norm_num

/-- The means as products and as quotients, and the scale of the queries. -/
theorem mean384 (s : EReal) : Ideal.div s (Ideal.ofBits FTy.f32 0x43C00000#32) = s * r384 := by
  rw [of_384, r384, Ideal.div_coe (by norm_num), one_div]
theorem mean96 (s : EReal) : Ideal.div s (Ideal.ofBits FTy.f32 0x42C00000#32) = s * r96 := by
  rw [of_96, r96, Ideal.div_coe (by norm_num), one_div]
theorem mean256 (s : EReal) : Ideal.div s (Ideal.ofBits FTy.f32 0x43800000#32) = s * Ideal.ofBits FTy.f32 0x3B800000#32 := by
  rw [of_256, of_inv256, Ideal.div_coe (by norm_num)]
theorem eighth (s : EReal) : Ideal.div s (Ideal.ofBits FTy.f32 0x41000000#32) = s * Ideal.ofBits FTy.f32 0x3E000000#32 := by
  rw [of_8, of_inv8, Ideal.div_coe (by norm_num)]

/-- A normed head of a row with its rotary part turned. -/
def turn (x g : Fin 128 → EReal) (c s : Fin 16 → EReal) (d : Fin 128) : EReal :=
  if h : d.val < 64 then normed r96 x g ⟨d.val, by omega⟩
  else if h' : d.val - 64 < 16 then
    normed r96 x g ⟨64 + (d.val - 64), by omega⟩ * c ⟨d.val - 64, h'⟩ - normed r96 x g ⟨80 + (d.val - 64), by omega⟩ * s ⟨d.val - 64, h'⟩
  else if h'' : d.val - 64 - 16 < 16 then
    normed r96 x g ⟨80 + (d.val - 64 - 16), by omega⟩ * c ⟨d.val - 64 - 16, h''⟩ + normed r96 x g ⟨64 + (d.val - 64 - 16), by omega⟩ * s ⟨d.val - 64 - 16, h''⟩
  else normed r96 x g ⟨96 + (d.val - 64 - 16 - 16), by omega⟩

/-- The latent row, and the rows projected from it. -/
def lat (x gm : Fin 1024 → EReal) (L : Fin 1024 → Fin 768 → EReal) (j : Fin 768) : EReal := dot (nrm x gm) fun k => L k j
def stick (x gm : Fin 1024 → EReal) (S : Fin 1024 → Fin 1536 → EReal) (j : Fin 1536) : EReal := dot (nrm x gm) fun k => S k j
def query (l : Fin 768 → EReal) (g : Fin 384 → EReal) (Q : Fin 384 → Fin 1024 → EReal) (j : Fin 1024) : EReal :=
  dot (normed r384 (fun k => l ⟨k.val, by omega⟩) g) fun k => Q k j
def keyval (l : Fin 768 → EReal) (g : Fin 256 → EReal) (K : Fin 256 → Fin 1536 → EReal) (j : Fin 1536) : EReal :=
  dot (normed (Ideal.ofBits FTy.f32 0x3B800000#32) (fun k => l ⟨384 + k.val, by omega⟩) g) fun k => K k j
/-- The keys: each head's own part, and the part that all heads share. -/
def keys (l : Fin 768 → EReal) (g : Fin 256 → EReal) (K : Fin 256 → Fin 1536 → EReal) (j : Fin 1024) : EReal :=
  keyval l g K ⟨j.val, by omega⟩ + l ⟨640 + j.val % 128, by omega⟩

/-- The head of a row that holds column `j`, turned. -/
def headOf (x : Fin 1024 → EReal) (g : Fin 128 → EReal) (c s : Fin 16 → EReal) (j : Fin 1024) : EReal :=
  turn (fun e => x ⟨j.val / 128 * 128 + e.val, by omega⟩) g c s ⟨j.val % 128, Nat.mod_lt _ (by norm_num)⟩

theorem headOf_eq (x : Fin 1024 → EReal) (g : Fin 128 → EReal) (c s : Fin 16 → EReal) (j : Fin 1024) (z : Fin 128 → EReal) (h : ℕ) (d : Fin 128)
    (hj : j.val = h * 128 + d.val) (hz : ∀ (e : Fin 128) (p : Fin 1024), p.val = h * 128 + e.val → z e = x p) :
    turn z g c s d = headOf x g c s j := by
  have hd := d.isLt
  have e1 : j.val / 128 = h := by omega
  have e2 : (⟨j.val % 128, Nat.mod_lt _ (by norm_num)⟩ : Fin 128) = d := Fin.ext (by show j.val % 128 = d.val; omega)
  have e3 : z = fun e => x ⟨j.val / 128 * 128 + e.val, by omega⟩ := funext fun e => hz e _ (by show j.val / 128 * 128 + e.val = _; rw [e1])
  rw [headOf, e2, ← e3]

end Cert.Proj

end
-- ==== Proof.ProjTile.lean ====
/-
  The projection kernel's tile at an index.
-/
module

public import proofs.«01_k».proof.Proof.Gen.Kernel4Ideal.Skeleton
public import proofs.«01_k».proof.Proof.Proj
public import Idealize.ShloMosaic.Lib.Pointwise
public import Idealize.ShloMosaic.Lib.Pipeline.ValueKit

@[expose] public section

set_option maxRecDepth 16384

noncomputable section

namespace Cert.Kernel4Ideal.Tile

open Cert.Kernel4Ideal Cert.Kernel4Ideal.Gen Cert.Ffn Cert.Proj
open Idealize.ShloMosaic Idealize.ShloMosaic.TcCoe

theorem named384 : (Named.named κ "inv384" 0x3B2AAAAB#32 : Ideal .f32) = r384 :=
  IdealRules.named_const.ideal_named_scalar _ _ _ _ rfl
theorem named96 : (Named.named κ "inv96" 0x3C2AAAAB#32 : Ideal .f32) = r96 :=
  IdealRules.named_const.ideal_named_scalar _ _ _ _ rfl

/-- The normed tile, and its two products. -/
theorem norm_at (x : FVec Ideal S1024x1024 .f32) (g : FVec Ideal S1x1024 .f32) (i j : Fin 1024) :
    k0_pay2 (F := Ideal) x g (ix2 i j) = nrm (fun k => x (ix2 i k)) (fun k => g (ix2 0 k)) j := by
  pointwise [k0_pay2, nrm]

theorem lat_at (x : FVec Ideal S1024x1024 .f32) (g : FVec Ideal S1x1024 .f32) (L : FVec Ideal S1024x768 .bf16) (i : Fin 1024) (j : Fin 768) :
    k0_pay3 (F := Ideal) x g L (ix2 i j) = lat (fun k => x (ix2 i k)) (fun k => g (ix2 0 k)) (fun k f => L (ix2 k f)) j := by
  have e : k0_pay3 (F := Ideal) x g L (ix2 i j) = dot (fun k => k0_pay2 (F := Ideal) x g (ix2 i k)) fun k => L (ix2 k j) := by
    pointwise [k0_pay3, dot]
  rw [e, lat]
  exact congrArg (fun q => dot q _) (funext fun k => norm_at x g i k)

theorem stick_at (x : FVec Ideal S1024x1024 .f32) (g : FVec Ideal S1x1024 .f32) (L : FVec Ideal S1024x1536 .bf16) (i : Fin 1024) (j : Fin 1536) :
    k0_pay4 (F := Ideal) x g L (ix2 i j) = stick (fun k => x (ix2 i k)) (fun k => g (ix2 0 k)) (fun k f => L (ix2 k f)) j := by
  have e : k0_pay4 (F := Ideal) x g L (ix2 i j) = dot (fun k => k0_pay2 (F := Ideal) x g (ix2 i k)) fun k => L (ix2 k j) := by
    pointwise [k0_pay4, dot]
  rw [e, stick]
  exact congrArg (fun q => dot q _) (funext fun k => norm_at x g i k)

theorem query_at (l : FVec Ideal S1024x768 .f32) (g : FVec Ideal S1x384 .f32) (Q : FVec Ideal S384x1024 .bf16) (i j : Fin 1024) :
    k0_pay19 (F := Ideal) l g Q (ix2 i j) = query (fun k => l (ix2 i k)) (fun k => g (ix2 0 k)) (fun k f => Q (ix2 k f)) j := by
  pointwise [k0_pay19, query, normed, dot]
  rw [named384]

theorem keyval_at (l : FVec Ideal S1024x768 .f32) (g : FVec Ideal S1x256 .f32) (K : FVec Ideal S256x1536 .bf16) (i : Fin 1024) (j : Fin 1536) :
    k0_pay20 (F := Ideal) l g K (ix2 i j) = keyval (fun k => l (ix2 i k)) (fun k => g (ix2 0 k)) (fun k f => K (ix2 k f)) j := by
  pointwise [k0_pay20, keyval, normed, dot]

/-- A half of a head's columns, on its side; its norm; its rotary part turned. -/
def top (w : FVec Ideal S1024x128 .f32) : FVec Ideal S128x512 .f32 :=
  transpose S128x512 [1, 0] (extractStridedSlice S512x128 ![0, 0] w slices_S1024x128_o0_0_S512x128) transposes_S512x128_p1_0_S128x512
def low (w : FVec Ideal S1024x128 .f32) : FVec Ideal S128x512 .f32 :=
  transpose S128x512 [1, 0] (extractStridedSlice S512x128 ![512, 0] w slices_S1024x128_o512_0_S512x128) transposes_S512x128_p1_0_S128x512
def unit (z : FVec Ideal S128x512 .f32) (g : FVec Ideal S128x1 .f32) : FVec Ideal S128x512 .f32 :=
  mulf (mulf z (broadcastTo S128x512 (rsqrt (addf (mulf (shapeCast S1x512 (multiReduction .add [0] S512 (mulf z z) 0x00000000#32 reduces_S128x512_S512 (.inl rfl) rfl) shapeCasts_S512_S1x512) (broadcast S1x512 (Named.named κ "inv96" 0x3C2AAAAB#32))) (broadcast S1x512 (Scalar.ofBits .f32 0x358637BD#32)))) broadcasts_S1x512_S128x512)) (broadcastTo S128x512 g broadcasts_S128x1_S128x512)
def swing (n : FVec Ideal S128x512 .f32) (c s : FVec Ideal S1x16x512 .f32) : FVec Ideal S128x512 .f32 :=
  concatenate S128x512 0 [⟨S64x512, extractStridedSlice S64x512 ![0, 0] n slices_S128x512_o0_0_S64x512⟩,
    ⟨S16x512, subf (mulf (extractStridedSlice S16x512 ![64, 0] n slices_S128x512_o64_0_S16x512) (shapeCast S16x512 c shapeCasts_S1x16x512_S16x512)) (mulf (extractStridedSlice S16x512 ![80, 0] n slices_S128x512_o80_0_S16x512) (shapeCast S16x512 s shapeCasts_S1x16x512_S16x512))⟩,
    ⟨S16x512, addf (mulf (extractStridedSlice S16x512 ![80, 0] n slices_S128x512_o80_0_S16x512) (shapeCast S16x512 c shapeCasts_S1x16x512_S16x512)) (mulf (extractStridedSlice S16x512 ![64, 0] n slices_S128x512_o64_0_S16x512) (shapeCast S16x512 s shapeCasts_S1x16x512_S16x512))⟩,
    ⟨S32x512, extractStridedSlice S32x512 ![96, 0] n slices_S128x512_o96_0_S32x512⟩] concatenates_S64x512_S16x512_S16x512_S32x512_S128x512_d0
def put (z : FVec Ideal S128x512 .f32) : FVec Ideal S1x128x512 .bf16 :=
  shapeCast S1x128x512 (truncf .bf16 z bitsLt_bf16_f32) shapeCasts_S128x512_S1x128x512
def pair (a b : FVec Ideal S128x512 .f32) : FVec Ideal S1024x128 .bf16 :=
  truncf .bf16 (concatenate S1024x128 0 [⟨S512x128, transpose S512x128 [1, 0] a transposes_S128x512_p1_0_S512x128⟩, ⟨S512x128, transpose S512x128 [1, 0] b transposes_S128x512_p1_0_S512x128⟩] concatenates_S512x128_S512x128_S1024x128_d0) bitsLt_bf16_f32

theorem top_at (w : FVec Ideal S1024x128 .f32) (e : Fin 128) (l : Fin 512) : top w (ix2 e l) = w (ix2 ⟨l.val, by omega⟩ e) := by
  pointwise [top]
theorem low_at (w : FVec Ideal S1024x128 .f32) (e : Fin 128) (l : Fin 512) : low w (ix2 e l) = w (ix2 ⟨512 + l.val, by omega⟩ e) := by
  pointwise [low]
theorem unit_at (z : FVec Ideal S128x512 .f32) (g : FVec Ideal S128x1 .f32) (e : Fin 128) (l : Fin 512) :
    unit z g (ix2 e l) = normed r96 (fun k => z (ix2 k l)) (fun k => g (ix2 k 0)) e := by
  pointwise [unit, normed]
  rw [named96]
theorem swing_at (z : FVec Ideal S128x512 .f32) (g : FVec Ideal S128x1 .f32) (c s : FVec Ideal S1x16x512 .f32) (d : Fin 128) (l : Fin 512) :
    swing (unit z g) c s (ix2 d l) = turn (fun k => z (ix2 k l)) (fun k => g (ix2 k 0)) (fun a => c (ix3 0 a l)) (fun a => s (ix3 0 a l)) d := by
  rw [turn]
  simp only [← unit_at]
  generalize unit z g = n
  pointwise [swing]
theorem put_at (z : FVec Ideal S128x512 .f32) (d : Fin 128) (l : Fin 512) : put z (ix3 0 d l) = z (ix2 d l) := by
  pointwise [put]
theorem pair_at (a b : FVec Ideal S128x512 .f32) (i : Fin 1024) (d : Fin 128) :
    pair a b (ix2 i d) = if h : i.val < 512 then a (ix2 d ⟨i.val, h⟩) else b (ix2 d ⟨i.val - 512, by omega⟩) := by
  pointwise [pair]

end Cert.Kernel4Ideal.Tile

end
-- ==== Proof.ProjPieces.lean ====
/-
  The pieces of the projection kernel's turned heads.
-/
module

public import proofs.«01_k».proof.Proof.Gen.Kernel4Ideal.Frame
public import proofs.«01_k».proof.Proof.ProjTile

@[expose] public section

set_option maxRecDepth 16384

noncomputable section

namespace Cert.Kernel4Ideal.Tile

open Cert.Kernel4Ideal Cert.Kernel4Ideal.Gen Cert.Ffn Cert.Proj
open Idealize.ShloMosaic Idealize.ShloMosaic.TcCoe

/-- The turned queries of a tile, by blocks of 512 rows. -/
def turnedQ (q : Fin 1024 → Fin 1024 → EReal) (g : FVec Ideal S128x1 .f32) (c s : FVec Ideal S2x16x512 .f32) : Vec Ideal S2x1024x512 .bf16 := fun y =>
  headOf (q ⟨(y 0).val * 512 + (y 2).val, by have := (y 0).isLt; have := (y 2).isLt; simp [S2x1024x512] at *; omega⟩) (fun e => g (ix2 e 0)) (fun a => c (ix3 (y 0) a (y 2))) (fun a => s (ix3 (y 0) a (y 2))) (y 1)

/-- The turned keys of a tile. -/
def turnedK (k : Fin 1024 → Fin 1024 → EReal) (g : FVec Ideal S128x1 .f32) (c s : FVec Ideal S2x16x512 .f32) : Vec Ideal S1024x1024 .bf16 := fun y =>
  headOf (k (y 0)) (fun e => g (ix2 e 0)) (fun a => c (ix3 ⟨(y 0).val / 512, by have : (y 0).val < 1024 := (y 0).isLt; omega⟩ a ⟨(y 0).val % 512, by omega⟩))
    (fun a => s (ix3 ⟨(y 0).val / 512, by have : (y 0).val < 1024 := (y 0).isLt; omega⟩ a ⟨(y 0).val % 512, by omega⟩)) (y 1)

theorem ld_lo (c : Vec Ideal S2x16x512 .f32) (a : Fin 16) (l : Fin 512) : View.ld c r0_16 (ix3 0 a l) = c (ix3 0 a l) := by
  refine View.ld_unit_apply_of c _ _ _ _ _ fun b => ?_
  fin_cases b <;> simp [ix3]
theorem ld_hi (c : Vec Ideal S2x16x512 .f32) (a : Fin 16) (l : Fin 512) : View.ld c r0_18 (ix3 0 a l) = c (ix3 1 a l) := by
  refine View.ld_unit_apply_of c _ _ _ _ _ fun b => ?_
  fin_cases b <;> simp [ix3]

theorem turn_congr {x x' g : Fin 128 → EReal} {c c' s s' : Fin 16 → EReal} {d : Fin 128} (hx : x = x') (hc : c = c') (hs : s = s') : turn x g c s d = turn x' g c' s' d := by
  rw [hx, hc, hs]

theorem q_lo (q : Fin 1024 → Fin 1024 → EReal) (g : FVec Ideal S128x1 .f32) (c s : Vec Ideal S2x16x512 .f32) (w : FVec Ideal S1024x128 .f32) (h : ℕ)
    (hw : ∀ (i : Fin 1024) (e : Fin 128) (p : Fin 1024), p.val = h * 128 + e.val → w (ix2 i e) = q i p)
    (x : S1x128x512.Idx) (y : S2x1024x512.Idx) (h0 : (y 0).val = 0 + (x 0).val) (h1 : (y 1).val = h * 128 + (x 1).val) (h2 : (y 2).val = 0 + (x 2).val) :
    put (swing (unit (top w) g) (View.ld c r0_16) (View.ld s r0_16)) x = turnedQ q g c s y := by
  obtain ⟨a, b, l, rfl⟩ : ∃ a b l, x = ix3 a b l := ⟨_, _, _, eq_ix3 x⟩
  obtain ⟨a', b', l', rfl⟩ : ∃ a b l, y = ix3 a b l := ⟨_, _, _, eq_ix3 y⟩
  obtain rfl : a = 0 := Subsingleton.elim _ _
  obtain rfl : a' = 0 := Fin.ext (by simpa using h0)
  obtain rfl : l' = l := Fin.ext (by simpa using h2)
  rw [put_at, swing_at]
  refine (turn_congr (funext fun e => top_at w e l') (funext fun a => ld_lo c a l') (funext fun a => ld_lo s a l')).trans ?_
  exact headOf_eq (q ⟨0 * 512 + l'.val, by omega⟩) _ _ _ b' _ h b (by simpa using h1) fun e p hp => (hw _ e p hp).trans (congrFun (congrArg q (Fin.ext (by simp))) p)

theorem q_hi (q : Fin 1024 → Fin 1024 → EReal) (g : FVec Ideal S128x1 .f32) (c s : Vec Ideal S2x16x512 .f32) (w : FVec Ideal S1024x128 .f32) (h : ℕ)
    (hw : ∀ (i : Fin 1024) (e : Fin 128) (p : Fin 1024), p.val = h * 128 + e.val → w (ix2 i e) = q i p)
    (x : S1x128x512.Idx) (y : S2x1024x512.Idx) (h0 : (y 0).val = 1 + (x 0).val) (h1 : (y 1).val = h * 128 + (x 1).val) (h2 : (y 2).val = 0 + (x 2).val) :
    put (swing (unit (low w) g) (View.ld c r0_18) (View.ld s r0_18)) x = turnedQ q g c s y := by
  obtain ⟨a, b, l, rfl⟩ : ∃ a b l, x = ix3 a b l := ⟨_, _, _, eq_ix3 x⟩
  obtain ⟨a', b', l', rfl⟩ : ∃ a b l, y = ix3 a b l := ⟨_, _, _, eq_ix3 y⟩
  obtain rfl : a = 0 := Subsingleton.elim _ _
  obtain rfl : a' = 1 := Fin.ext (by simpa using h0)
  obtain rfl : l' = l := Fin.ext (by simpa using h2)
  rw [put_at, swing_at]
  refine (turn_congr (funext fun e => low_at w e l') (funext fun a => ld_hi c a l') (funext fun a => ld_hi s a l')).trans ?_
  exact headOf_eq (q ⟨1 * 512 + l'.val, by omega⟩) _ _ _ b' _ h b (by simpa using h1) fun e p hp => (hw _ e p hp).trans (congrFun (congrArg q (Fin.ext (by simp))) p)

theorem k_at (k : Fin 1024 → Fin 1024 → EReal) (g : FVec Ideal S128x1 .f32) (c s : Vec Ideal S2x16x512 .f32) (w : FVec Ideal S1024x128 .f32) (h : ℕ)
    (hw : ∀ (i : Fin 1024) (e : Fin 128) (p : Fin 1024), p.val = h * 128 + e.val → w (ix2 i e) = k i p)
    (x : S1024x128.Idx) (y : S1024x1024.Idx) (h0 : (y 0).val = 0 + (x 0).val) (h1 : (y 1).val = h * 128 + (x 1).val) :
    pair (swing (unit (top w) g) (View.ld c r0_16) (View.ld s r0_16)) (swing (unit (low w) g) (View.ld c r0_18) (View.ld s r0_18)) x = turnedK k g c s y := by
  obtain ⟨i, b, rfl⟩ : ∃ a b, x = ix2 a b := ⟨_, _, eq_ix2 x⟩
  obtain ⟨i', b', rfl⟩ : ∃ a b, y = ix2 a b := ⟨_, _, eq_ix2 y⟩
  obtain rfl : i' = i := Fin.ext (by simpa using h0)
  have hi := i'.isLt
  rw [pair_at]
  split
  · rename_i hlt
    have e0 : (⟨i'.val / 512, by omega⟩ : Fin 2) = 0 := Fin.ext (by show i'.val / 512 = 0; omega)
    have e1 : (⟨i'.val % 512, by omega⟩ : Fin 512) = ⟨i'.val, hlt⟩ := Fin.ext (by show i'.val % 512 = i'.val; omega)
    rw [swing_at]
    refine (turn_congr (funext fun e => top_at w e _) (funext fun a => ld_lo c a _) (funext fun a => ld_lo s a _)).trans ?_
    refine (headOf_eq _ _ _ _ _ _ h b (by simpa using h1) fun e p hp => hw _ e p hp).trans ?_
    show _ = headOf (k i') _ (fun a => c (ix3 ⟨i'.val / 512, _⟩ a ⟨i'.val % 512, _⟩)) (fun a => s (ix3 ⟨i'.val / 512, _⟩ a ⟨i'.val % 512, _⟩)) b'
    rw [e0, e1]
  · rename_i hlt
    have e0 : (⟨i'.val / 512, by omega⟩ : Fin 2) = 1 := Fin.ext (by show i'.val / 512 = 1; omega)
    have e1 : (⟨i'.val % 512, by omega⟩ : Fin 512) = ⟨i'.val - 512, by omega⟩ := Fin.ext (by show i'.val % 512 = i'.val - 512; omega)
    have e2 : (⟨512 + (i'.val - 512), by omega⟩ : Fin 1024) = i' := Fin.ext (by show 512 + (i'.val - 512) = i'.val; omega)
    rw [swing_at]
    refine (turn_congr (funext fun e => low_at w e _) (funext fun a => ld_hi c a _) (funext fun a => ld_hi s a _)).trans ?_
    simp only [e2]
    refine (headOf_eq _ _ _ _ _ _ h b (by simpa using h1) fun e p hp => hw _ e p hp).trans ?_
    show _ = headOf (k i') _ (fun a => c (ix3 ⟨i'.val / 512, _⟩ a ⟨i'.val % 512, _⟩)) (fun a => s (ix3 ⟨i'.val / 512, _⟩ a ⟨i'.val % 512, _⟩)) b'
    rw [e0, e1]

/-- A head's columns of the queries, and of the keys with the part all heads share. -/
theorem cols_q (q : FVec Ideal S1024x1024 .f32) (o h : ℕ) (hs) (ho : o = h * 128) (i : Fin 1024) (e : Fin 128) (p : Fin 1024) (hp : p.val = h * 128 + e.val) :
    extractStridedSlice S1024x128 ![0, o] q hs (ix2 i e) = q (ix2 i p) := by
  have e1 : p = ⟨o + e.val, by omega⟩ := Fin.ext (by show p.val = o + e.val; omega)
  rw [e1]
  pointwise
theorem cols_k (l : FVec Ideal S1024x768 .f32) (kv : FVec Ideal S1024x1536 .f32) (o h : ℕ) (hs) (ho : o = h * 128) (i : Fin 1024) (e : Fin 128) (p : Fin 1024) (hp : p.val = h * 128 + e.val) :
    addf (extractStridedSlice S1024x128 ![0, o] kv hs) (k0_pay18 (F := Ideal) l) (ix2 i e) = kv (ix2 i ⟨p.val, by omega⟩) + l (ix2 i ⟨640 + p.val % 128, by omega⟩) := by
  have e1 : (⟨640 + p.val % 128, by omega⟩ : Fin 768) = ⟨640 + e.val, by omega⟩ := Fin.ext (by show 640 + p.val % 128 = 640 + e.val; omega)
  have e2 : (⟨p.val, by omega⟩ : Fin 1536) = ⟨o + e.val, by omega⟩ := Fin.ext (by show p.val = o + e.val; omega)
  rw [e1, e2]
  pointwise [k0_pay18]

/-- The stored pieces are these stages. -/
theorem q7_hi (q : FVec Ideal S1024x1024 .f32) (g : FVec Ideal S128x1 .f32) (c' s' : FVec Ideal S1x16x512 .f32) :
    k0_pay124 (F := Ideal) g (k0_pay121 (F := Ideal) q) c' s'
      = put (swing (unit (low (extractStridedSlice S1024x128 ![0, 896] q slices_S1024x1024_o0_896_S1024x128)) g) c' s') := rfl
theorem q7_lo (q : FVec Ideal S1024x1024 .f32) (g : FVec Ideal S128x1 .f32) (c s : FVec Ideal S1x16x512 .f32) :
    k0_pay123 (F := Ideal) (k0_pay122 (F := Ideal) q g c s)
      = put (swing (unit (top (extractStridedSlice S1024x128 ![0, 896] q slices_S1024x1024_o0_896_S1024x128)) g) c s) := rfl
theorem q6_hi (q : FVec Ideal S1024x1024 .f32) (g : FVec Ideal S128x1 .f32) (c' s' : FVec Ideal S1x16x512 .f32) :
    k0_pay109 (F := Ideal) g (k0_pay106 (F := Ideal) q) c' s'
      = put (swing (unit (low (extractStridedSlice S1024x128 ![0, 768] q slices_S1024x1024_o0_768_S1024x128)) g) c' s') := rfl
theorem q6_lo (q : FVec Ideal S1024x1024 .f32) (g : FVec Ideal S128x1 .f32) (c s : FVec Ideal S1x16x512 .f32) :
    k0_pay108 (F := Ideal) (k0_pay107 (F := Ideal) q g c s)
      = put (swing (unit (top (extractStridedSlice S1024x128 ![0, 768] q slices_S1024x1024_o0_768_S1024x128)) g) c s) := rfl
theorem q5_hi (q : FVec Ideal S1024x1024 .f32) (g : FVec Ideal S128x1 .f32) (c' s' : FVec Ideal S1x16x512 .f32) :
    k0_pay95 (F := Ideal) g (k0_pay92 (F := Ideal) q) c' s'
      = put (swing (unit (low (extractStridedSlice S1024x128 ![0, 640] q slices_S1024x1024_o0_640_S1024x128)) g) c' s') := rfl
theorem q5_lo (q : FVec Ideal S1024x1024 .f32) (g : FVec Ideal S128x1 .f32) (c s : FVec Ideal S1x16x512 .f32) :
    k0_pay94 (F := Ideal) (k0_pay93 (F := Ideal) q g c s)
      = put (swing (unit (top (extractStridedSlice S1024x128 ![0, 640] q slices_S1024x1024_o0_640_S1024x128)) g) c s) := rfl
theorem q4_hi (q : FVec Ideal S1024x1024 .f32) (g : FVec Ideal S128x1 .f32) (c' s' : FVec Ideal S1x16x512 .f32) :
    k0_pay82 (F := Ideal) g (k0_pay79 (F := Ideal) q) c' s'
      = put (swing (unit (low (extractStridedSlice S1024x128 ![0, 512] q slices_S1024x1024_o0_512_S1024x128)) g) c' s') := rfl
theorem q4_lo (q : FVec Ideal S1024x1024 .f32) (g : FVec Ideal S128x1 .f32) (c s : FVec Ideal S1x16x512 .f32) :
    k0_pay81 (F := Ideal) (k0_pay80 (F := Ideal) q g c s)
      = put (swing (unit (top (extractStridedSlice S1024x128 ![0, 512] q slices_S1024x1024_o0_512_S1024x128)) g) c s) := rfl
theorem q3_hi (q : FVec Ideal S1024x1024 .f32) (g : FVec Ideal S128x1 .f32) (c' s' : FVec Ideal S1x16x512 .f32) :
    k0_pay71 (F := Ideal) g (k0_pay68 (F := Ideal) q) c' s'
      = put (swing (unit (low (extractStridedSlice S1024x128 ![0, 384] q slices_S1024x1024_o0_384_S1024x128)) g) c' s') := rfl
theorem q3_lo (q : FVec Ideal S1024x1024 .f32) (g : FVec Ideal S128x1 .f32) (c s : FVec Ideal S1x16x512 .f32) :
    k0_pay70 (F := Ideal) (k0_pay69 (F := Ideal) q g c s)
      = put (swing (unit (top (extractStridedSlice S1024x128 ![0, 384] q slices_S1024x1024_o0_384_S1024x128)) g) c s) := rfl
theorem q2_hi (q : FVec Ideal S1024x1024 .f32) (g : FVec Ideal S128x1 .f32) (c' s' : FVec Ideal S1x16x512 .f32) :
    k0_pay59 (F := Ideal) g (k0_pay56 (F := Ideal) q) c' s'
      = put (swing (unit (low (extractStridedSlice S1024x128 ![0, 256] q slices_S1024x1024_o0_256_S1024x128)) g) c' s') := rfl
theorem q2_lo (q : FVec Ideal S1024x1024 .f32) (g : FVec Ideal S128x1 .f32) (c s : FVec Ideal S1x16x512 .f32) :
    k0_pay58 (F := Ideal) (k0_pay57 (F := Ideal) q g c s)
      = put (swing (unit (top (extractStridedSlice S1024x128 ![0, 256] q slices_S1024x1024_o0_256_S1024x128)) g) c s) := rfl
theorem q1_hi (q : FVec Ideal S1024x1024 .f32) (g : FVec Ideal S128x1 .f32) (c' s' : FVec Ideal S1x16x512 .f32) :
    k0_pay48 (F := Ideal) g (k0_pay45 (F := Ideal) q) c' s'
      = put (swing (unit (low (extractStridedSlice S1024x128 ![0, 128] q slices_S1024x1024_o0_128_S1024x128)) g) c' s') := rfl
theorem q1_lo (q : FVec Ideal S1024x1024 .f32) (g : FVec Ideal S128x1 .f32) (c s : FVec Ideal S1x16x512 .f32) :
    k0_pay47 (F := Ideal) (k0_pay46 (F := Ideal) q g c s)
      = put (swing (unit (top (extractStridedSlice S1024x128 ![0, 128] q slices_S1024x1024_o0_128_S1024x128)) g) c s) := rfl
theorem q0_hi (q : FVec Ideal S1024x1024 .f32) (g : FVec Ideal S128x1 .f32) (c' s' : FVec Ideal S1x16x512 .f32) :
    k0_pay36 (F := Ideal) g (k0_pay25 (F := Ideal) q) c' s'
      = put (swing (unit (low (extractStridedSlice S1024x128 ![0, 0] q slices_S1024x1024_o0_0_S1024x128)) g) c' s') := rfl
theorem q0_lo (q : FVec Ideal S1024x1024 .f32) (g : FVec Ideal S128x1 .f32) (c s : FVec Ideal S1x16x512 .f32) :
    k0_pay35 (F := Ideal) (k0_pay31 (F := Ideal) q g) (k0_pay32 (F := Ideal) q g c s) (k0_pay33 (F := Ideal) q g c s) (k0_pay34 (F := Ideal) q g)
      = put (swing (unit (top (extractStridedSlice S1024x128 ![0, 0] q slices_S1024x1024_o0_0_S1024x128)) g) c s) := rfl
theorem k7_eq (l : FVec Ideal S1024x768 .f32) (kv : FVec Ideal S1024x1536 .f32) (g : FVec Ideal S128x1 .f32) (c s c' s' : FVec Ideal S1x16x512 .f32) :
    k0_pay1 (F := Ideal) (k0_pay128 (F := Ideal) g (k0_pay126 (F := Ideal) (k0_pay18 (F := Ideal) l) kv) (k0_pay127 (F := Ideal) c) s) (k0_pay129 (F := Ideal) c') (k0_pay130 (F := Ideal) s') (k0_pay131 (F := Ideal) g (k0_pay125 (F := Ideal) (k0_pay18 (F := Ideal) l) kv)) (k0_pay132 (F := Ideal) g (k0_pay125 (F := Ideal) (k0_pay18 (F := Ideal) l) kv)) (k0_pay133 (F := Ideal) g (k0_pay125 (F := Ideal) (k0_pay18 (F := Ideal) l) kv)) (k0_pay134 (F := Ideal) g (k0_pay125 (F := Ideal) (k0_pay18 (F := Ideal) l) kv)) (k0_pay135 (F := Ideal) g (k0_pay125 (F := Ideal) (k0_pay18 (F := Ideal) l) kv) c')
      = pair (swing (unit (top (addf (extractStridedSlice S1024x128 ![0, 896] kv slices_S1024x1536_o0_896_S1024x128) (k0_pay18 (F := Ideal) l))) g) c s) (swing (unit (low (addf (extractStridedSlice S1024x128 ![0, 896] kv slices_S1024x1536_o0_896_S1024x128) (k0_pay18 (F := Ideal) l))) g) c' s') := rfl
theorem k6_eq (l : FVec Ideal S1024x768 .f32) (kv : FVec Ideal S1024x1536 .f32) (g : FVec Ideal S128x1 .f32) (c s c' s' : FVec Ideal S1x16x512 .f32) :
    k0_pay120 (F := Ideal) (k0_pay113 (F := Ideal) g (k0_pay111 (F := Ideal) (k0_pay18 (F := Ideal) l) kv) (k0_pay112 (F := Ideal) c) s) (k0_pay114 (F := Ideal) c') (k0_pay115 (F := Ideal) s') (k0_pay116 (F := Ideal) g (k0_pay110 (F := Ideal) (k0_pay18 (F := Ideal) l) kv)) (k0_pay117 (F := Ideal) g (k0_pay110 (F := Ideal) (k0_pay18 (F := Ideal) l) kv)) (k0_pay118 (F := Ideal) g (k0_pay110 (F := Ideal) (k0_pay18 (F := Ideal) l) kv)) (k0_pay119 (F := Ideal) g (k0_pay110 (F := Ideal) (k0_pay18 (F := Ideal) l) kv))
      = pair (swing (unit (top (addf (extractStridedSlice S1024x128 ![0, 768] kv slices_S1024x1536_o0_768_S1024x128) (k0_pay18 (F := Ideal) l))) g) c s) (swing (unit (low (addf (extractStridedSlice S1024x128 ![0, 768] kv slices_S1024x1536_o0_768_S1024x128) (k0_pay18 (F := Ideal) l))) g) c' s') := rfl
theorem k5_eq (l : FVec Ideal S1024x768 .f32) (kv : FVec Ideal S1024x1536 .f32) (g : FVec Ideal S128x1 .f32) (c s c' s' : FVec Ideal S1x16x512 .f32) :
    k0_pay105 (F := Ideal) (k0_pay99 (F := Ideal) g (k0_pay97 (F := Ideal) (k0_pay18 (F := Ideal) l) kv) (k0_pay98 (F := Ideal) c) s) (k0_pay100 (F := Ideal) c') (k0_pay101 (F := Ideal) s') (k0_pay102 (F := Ideal) g (k0_pay96 (F := Ideal) (k0_pay18 (F := Ideal) l) kv)) (k0_pay103 (F := Ideal) g (k0_pay96 (F := Ideal) (k0_pay18 (F := Ideal) l) kv)) (k0_pay104 (F := Ideal) g (k0_pay96 (F := Ideal) (k0_pay18 (F := Ideal) l) kv))
      = pair (swing (unit (top (addf (extractStridedSlice S1024x128 ![0, 640] kv slices_S1024x1536_o0_640_S1024x128) (k0_pay18 (F := Ideal) l))) g) c s) (swing (unit (low (addf (extractStridedSlice S1024x128 ![0, 640] kv slices_S1024x1536_o0_640_S1024x128) (k0_pay18 (F := Ideal) l))) g) c' s') := rfl
theorem k4_eq (l : FVec Ideal S1024x768 .f32) (kv : FVec Ideal S1024x1536 .f32) (g : FVec Ideal S128x1 .f32) (c s c' s' : FVec Ideal S1x16x512 .f32) :
    k0_pay91 (F := Ideal) (k0_pay86 (F := Ideal) g (k0_pay84 (F := Ideal) (k0_pay18 (F := Ideal) l) kv) (k0_pay85 (F := Ideal) c) s) (k0_pay87 (F := Ideal) c') (k0_pay88 (F := Ideal) s') (k0_pay89 (F := Ideal) g (k0_pay83 (F := Ideal) (k0_pay18 (F := Ideal) l) kv)) (k0_pay90 (F := Ideal) g (k0_pay83 (F := Ideal) (k0_pay18 (F := Ideal) l) kv))
      = pair (swing (unit (top (addf (extractStridedSlice S1024x128 ![0, 512] kv slices_S1024x1536_o0_512_S1024x128) (k0_pay18 (F := Ideal) l))) g) c s) (swing (unit (low (addf (extractStridedSlice S1024x128 ![0, 512] kv slices_S1024x1536_o0_512_S1024x128) (k0_pay18 (F := Ideal) l))) g) c' s') := rfl
theorem k3_eq (l : FVec Ideal S1024x768 .f32) (kv : FVec Ideal S1024x1536 .f32) (g : FVec Ideal S128x1 .f32) (c s c' s' : FVec Ideal S1x16x512 .f32) :
    k0_pay78 (F := Ideal) (k0_pay74 (F := Ideal) g (k0_pay73 (F := Ideal) (k0_pay18 (F := Ideal) l) kv) c s) (k0_pay75 (F := Ideal) c') (k0_pay76 (F := Ideal) s') (k0_pay77 (F := Ideal) g (k0_pay72 (F := Ideal) (k0_pay18 (F := Ideal) l) kv))
      = pair (swing (unit (top (addf (extractStridedSlice S1024x128 ![0, 384] kv slices_S1024x1536_o0_384_S1024x128) (k0_pay18 (F := Ideal) l))) g) c s) (swing (unit (low (addf (extractStridedSlice S1024x128 ![0, 384] kv slices_S1024x1536_o0_384_S1024x128) (k0_pay18 (F := Ideal) l))) g) c' s') := rfl
theorem k2_eq (l : FVec Ideal S1024x768 .f32) (kv : FVec Ideal S1024x1536 .f32) (g : FVec Ideal S128x1 .f32) (c s c' s' : FVec Ideal S1x16x512 .f32) :
    k0_pay67 (F := Ideal) (k0_pay62 (F := Ideal) g (k0_pay61 (F := Ideal) (k0_pay18 (F := Ideal) l) kv) c s) (k0_pay63 (F := Ideal) c') (k0_pay64 (F := Ideal) s') (k0_pay65 (F := Ideal) (k0_pay60 (F := Ideal) (k0_pay18 (F := Ideal) l) kv)) (k0_pay66 (F := Ideal) g)
      = pair (swing (unit (top (addf (extractStridedSlice S1024x128 ![0, 256] kv slices_S1024x1536_o0_256_S1024x128) (k0_pay18 (F := Ideal) l))) g) c s) (swing (unit (low (addf (extractStridedSlice S1024x128 ![0, 256] kv slices_S1024x1536_o0_256_S1024x128) (k0_pay18 (F := Ideal) l))) g) c' s') := rfl
theorem k1_eq (l : FVec Ideal S1024x768 .f32) (kv : FVec Ideal S1024x1536 .f32) (g : FVec Ideal S128x1 .f32) (c s c' s' : FVec Ideal S1x16x512 .f32) :
    k0_pay55 (F := Ideal) g (k0_pay51 (F := Ideal) g (k0_pay50 (F := Ideal) (k0_pay18 (F := Ideal) l) kv) c s) (k0_pay52 (F := Ideal) c') (k0_pay53 (F := Ideal) s') (k0_pay54 (F := Ideal) (k0_pay49 (F := Ideal) (k0_pay18 (F := Ideal) l) kv))
      = pair (swing (unit (top (addf (extractStridedSlice S1024x128 ![0, 128] kv slices_S1024x1536_o0_128_S1024x128) (k0_pay18 (F := Ideal) l))) g) c s) (swing (unit (low (addf (extractStridedSlice S1024x128 ![0, 128] kv slices_S1024x1536_o0_128_S1024x128) (k0_pay18 (F := Ideal) l))) g) c' s') := rfl
theorem k0_eq (l : FVec Ideal S1024x768 .f32) (kv : FVec Ideal S1024x1536 .f32) (g : FVec Ideal S128x1 .f32) (c s c' s' : FVec Ideal S1x16x512 .f32) :
    k0_pay44 (F := Ideal) g (k0_pay39 (F := Ideal) g (k0_pay38 (F := Ideal) (k0_pay18 (F := Ideal) l) kv) c s) (k0_pay40 (F := Ideal) (k0_pay37 (F := Ideal) (k0_pay18 (F := Ideal) l) kv)) (k0_pay41 (F := Ideal) c') (k0_pay42 (F := Ideal) s') (k0_pay43 (F := Ideal) (k0_pay37 (F := Ideal) (k0_pay18 (F := Ideal) l) kv))
      = pair (swing (unit (top (addf (extractStridedSlice S1024x128 ![0, 0] kv slices_S1024x1536_o0_0_S1024x128) (k0_pay18 (F := Ideal) l))) g) c s) (swing (unit (low (addf (extractStridedSlice S1024x128 ![0, 0] kv slices_S1024x1536_o0_0_S1024x128) (k0_pay18 (F := Ideal) l))) g) c' s') := rfl

theorem hz : (![0, 0] : Fin 2 → ℕ) = fun _ => 0 := by funext i; fin_cases i <;> rfl

variable (x0 : Vec Ideal S1024x1024 .f32) (x1 : Vec Ideal S1x1024 .f32) (x2 : Vec Ideal S1024x768 .bf16) (x3 : Vec Ideal S1024x1536 .bf16) (x4 : Vec Ideal S1x384 .f32) (x5 : Vec Ideal S384x1024 .bf16)
  (x6 : Vec Ideal S1x256 .f32) (x7 : Vec Ideal S256x1536 .bf16) (x8 : Vec Ideal S128x1 .f32) (x9 : Vec Ideal S128x1 .f32) (x10 : Vec Ideal S2x16x512 .f32) (x11 : Vec Ideal S2x16x512 .f32)

theorem out12 (y : S2x1024x512.Idx) : out0_12 x0 x1 x2 x3 x4 x5 x6 x7 x8 x9 x10 x11 y
    = turnedQ (fun i j => k0_pay19 (F := Ideal) (k0_pay3 (F := Ideal) x0 x1 x2) x4 x5 (ix2 i j)) x8 x10 x11 y := by
  unfold_out out0_12
  rw [View.ld_unit_zero (S := S1024x1024) hz inb_S1024x1024_S1024x1024_0_0, View.ld_unit_zero (S := S1x1024) hz inb_S1x1024_S1x1024_0_0, View.ld_unit_zero (S := S1024x768) hz inb_S1024x768_S1024x768_0_0,
    View.ld_unit_zero (S := S1x384) hz inb_S1x384_S1x384_0_0, View.ld_unit_zero (S := S384x1024) hz inb_S384x1024_S384x1024_0_0, View.ld_unit_zero (S := S128x1) hz inb_S128x1_S128x1_0_0]
  generalize k0_pay19 (F := Ideal) (k0_pay3 (F := Ideal) x0 x1 x2) x4 x5 = q
  refine View.canon_apply_of_pieces (turnedQ (fun i j => q (ix2 i j)) x8 x10 x11) _ ?_ y (cover0_12 _ _ _ _ _ _ _ _ _ _ _ _ _ _ _ _ y)
  intro pc hpc
  rcases List.mem_cons.mp hpc with rfl | hpc
  · exact fun x => (congrFun (q7_hi q x8 (View.ld x10 r0_18) (View.ld x11 r0_18)) x).trans (q_hi (fun i j => q (ix2 i j)) x8 x10 x11 _ 7 (cols_q q 896 7 _ rfl) x (r0_40.idx x) (Rect.idx_unit_val _ _ inb_S2x1024x512_S1x128x512_1_896_0 x 0) (Rect.idx_unit_val _ _ inb_S2x1024x512_S1x128x512_1_896_0 x 1) (Rect.idx_unit_val _ _ inb_S2x1024x512_S1x128x512_1_896_0 x 2))
  rcases List.mem_cons.mp hpc with rfl | hpc
  · exact fun x => (congrFun (q7_lo q x8 (View.ld x10 r0_16) (View.ld x11 r0_16)) x).trans (q_lo (fun i j => q (ix2 i j)) x8 x10 x11 _ 7 (cols_q q 896 7 _ rfl) x (r0_39.idx x) (Rect.idx_unit_val _ _ inb_S2x1024x512_S1x128x512_0_896_0 x 0) (Rect.idx_unit_val _ _ inb_S2x1024x512_S1x128x512_0_896_0 x 1) (Rect.idx_unit_val _ _ inb_S2x1024x512_S1x128x512_0_896_0 x 2))
  rcases List.mem_cons.mp hpc with rfl | hpc
  · exact fun x => (congrFun (q6_hi q x8 (View.ld x10 r0_18) (View.ld x11 r0_18)) x).trans (q_hi (fun i j => q (ix2 i j)) x8 x10 x11 _ 6 (cols_q q 768 6 _ rfl) x (r0_37.idx x) (Rect.idx_unit_val _ _ inb_S2x1024x512_S1x128x512_1_768_0 x 0) (Rect.idx_unit_val _ _ inb_S2x1024x512_S1x128x512_1_768_0 x 1) (Rect.idx_unit_val _ _ inb_S2x1024x512_S1x128x512_1_768_0 x 2))
  rcases List.mem_cons.mp hpc with rfl | hpc
  · exact fun x => (congrFun (q6_lo q x8 (View.ld x10 r0_16) (View.ld x11 r0_16)) x).trans (q_lo (fun i j => q (ix2 i j)) x8 x10 x11 _ 6 (cols_q q 768 6 _ rfl) x (r0_36.idx x) (Rect.idx_unit_val _ _ inb_S2x1024x512_S1x128x512_0_768_0 x 0) (Rect.idx_unit_val _ _ inb_S2x1024x512_S1x128x512_0_768_0 x 1) (Rect.idx_unit_val _ _ inb_S2x1024x512_S1x128x512_0_768_0 x 2))
  rcases List.mem_cons.mp hpc with rfl | hpc
  · exact fun x => (congrFun (q5_hi q x8 (View.ld x10 r0_18) (View.ld x11 r0_18)) x).trans (q_hi (fun i j => q (ix2 i j)) x8 x10 x11 _ 5 (cols_q q 640 5 _ rfl) x (r0_34.idx x) (Rect.idx_unit_val _ _ inb_S2x1024x512_S1x128x512_1_640_0 x 0) (Rect.idx_unit_val _ _ inb_S2x1024x512_S1x128x512_1_640_0 x 1) (Rect.idx_unit_val _ _ inb_S2x1024x512_S1x128x512_1_640_0 x 2))
  rcases List.mem_cons.mp hpc with rfl | hpc
  · exact fun x => (congrFun (q5_lo q x8 (View.ld x10 r0_16) (View.ld x11 r0_16)) x).trans (q_lo (fun i j => q (ix2 i j)) x8 x10 x11 _ 5 (cols_q q 640 5 _ rfl) x (r0_33.idx x) (Rect.idx_unit_val _ _ inb_S2x1024x512_S1x128x512_0_640_0 x 0) (Rect.idx_unit_val _ _ inb_S2x1024x512_S1x128x512_0_640_0 x 1) (Rect.idx_unit_val _ _ inb_S2x1024x512_S1x128x512_0_640_0 x 2))
  rcases List.mem_cons.mp hpc with rfl | hpc
  · exact fun x => (congrFun (q4_hi q x8 (View.ld x10 r0_18) (View.ld x11 r0_18)) x).trans (q_hi (fun i j => q (ix2 i j)) x8 x10 x11 _ 4 (cols_q q 512 4 _ rfl) x (r0_31.idx x) (Rect.idx_unit_val _ _ inb_S2x1024x512_S1x128x512_1_512_0 x 0) (Rect.idx_unit_val _ _ inb_S2x1024x512_S1x128x512_1_512_0 x 1) (Rect.idx_unit_val _ _ inb_S2x1024x512_S1x128x512_1_512_0 x 2))
  rcases List.mem_cons.mp hpc with rfl | hpc
  · exact fun x => (congrFun (q4_lo q x8 (View.ld x10 r0_16) (View.ld x11 r0_16)) x).trans (q_lo (fun i j => q (ix2 i j)) x8 x10 x11 _ 4 (cols_q q 512 4 _ rfl) x (r0_30.idx x) (Rect.idx_unit_val _ _ inb_S2x1024x512_S1x128x512_0_512_0 x 0) (Rect.idx_unit_val _ _ inb_S2x1024x512_S1x128x512_0_512_0 x 1) (Rect.idx_unit_val _ _ inb_S2x1024x512_S1x128x512_0_512_0 x 2))
  rcases List.mem_cons.mp hpc with rfl | hpc
  · exact fun x => (congrFun (q3_hi q x8 (View.ld x10 r0_18) (View.ld x11 r0_18)) x).trans (q_hi (fun i j => q (ix2 i j)) x8 x10 x11 _ 3 (cols_q q 384 3 _ rfl) x (r0_28.idx x) (Rect.idx_unit_val _ _ inb_S2x1024x512_S1x128x512_1_384_0 x 0) (Rect.idx_unit_val _ _ inb_S2x1024x512_S1x128x512_1_384_0 x 1) (Rect.idx_unit_val _ _ inb_S2x1024x512_S1x128x512_1_384_0 x 2))
  rcases List.mem_cons.mp hpc with rfl | hpc
  · exact fun x => (congrFun (q3_lo q x8 (View.ld x10 r0_16) (View.ld x11 r0_16)) x).trans (q_lo (fun i j => q (ix2 i j)) x8 x10 x11 _ 3 (cols_q q 384 3 _ rfl) x (r0_27.idx x) (Rect.idx_unit_val _ _ inb_S2x1024x512_S1x128x512_0_384_0 x 0) (Rect.idx_unit_val _ _ inb_S2x1024x512_S1x128x512_0_384_0 x 1) (Rect.idx_unit_val _ _ inb_S2x1024x512_S1x128x512_0_384_0 x 2))
  rcases List.mem_cons.mp hpc with rfl | hpc
  · exact fun x => (congrFun (q2_hi q x8 (View.ld x10 r0_18) (View.ld x11 r0_18)) x).trans (q_hi (fun i j => q (ix2 i j)) x8 x10 x11 _ 2 (cols_q q 256 2 _ rfl) x (r0_25.idx x) (Rect.idx_unit_val _ _ inb_S2x1024x512_S1x128x512_1_256_0 x 0) (Rect.idx_unit_val _ _ inb_S2x1024x512_S1x128x512_1_256_0 x 1) (Rect.idx_unit_val _ _ inb_S2x1024x512_S1x128x512_1_256_0 x 2))
  rcases List.mem_cons.mp hpc with rfl | hpc
  · exact fun x => (congrFun (q2_lo q x8 (View.ld x10 r0_16) (View.ld x11 r0_16)) x).trans (q_lo (fun i j => q (ix2 i j)) x8 x10 x11 _ 2 (cols_q q 256 2 _ rfl) x (r0_24.idx x) (Rect.idx_unit_val _ _ inb_S2x1024x512_S1x128x512_0_256_0 x 0) (Rect.idx_unit_val _ _ inb_S2x1024x512_S1x128x512_0_256_0 x 1) (Rect.idx_unit_val _ _ inb_S2x1024x512_S1x128x512_0_256_0 x 2))
  rcases List.mem_cons.mp hpc with rfl | hpc
  · exact fun x => (congrFun (q1_hi q x8 (View.ld x10 r0_18) (View.ld x11 r0_18)) x).trans (q_hi (fun i j => q (ix2 i j)) x8 x10 x11 _ 1 (cols_q q 128 1 _ rfl) x (r0_22.idx x) (Rect.idx_unit_val _ _ inb_S2x1024x512_S1x128x512_1_128_0 x 0) (Rect.idx_unit_val _ _ inb_S2x1024x512_S1x128x512_1_128_0 x 1) (Rect.idx_unit_val _ _ inb_S2x1024x512_S1x128x512_1_128_0 x 2))
  rcases List.mem_cons.mp hpc with rfl | hpc
  · exact fun x => (congrFun (q1_lo q x8 (View.ld x10 r0_16) (View.ld x11 r0_16)) x).trans (q_lo (fun i j => q (ix2 i j)) x8 x10 x11 _ 1 (cols_q q 128 1 _ rfl) x (r0_21.idx x) (Rect.idx_unit_val _ _ inb_S2x1024x512_S1x128x512_0_128_0 x 0) (Rect.idx_unit_val _ _ inb_S2x1024x512_S1x128x512_0_128_0 x 1) (Rect.idx_unit_val _ _ inb_S2x1024x512_S1x128x512_0_128_0 x 2))
  rcases List.mem_cons.mp hpc with rfl | hpc
  · exact fun x => (congrFun (q0_hi q x8 (View.ld x10 r0_18) (View.ld x11 r0_18)) x).trans (q_hi (fun i j => q (ix2 i j)) x8 x10 x11 _ 0 (cols_q q 0 0 _ rfl) x (r0_19.idx x) (Rect.idx_unit_val _ _ inb_S2x1024x512_S1x128x512_1_0_0 x 0) (Rect.idx_unit_val _ _ inb_S2x1024x512_S1x128x512_1_0_0 x 1) (Rect.idx_unit_val _ _ inb_S2x1024x512_S1x128x512_1_0_0 x 2))
  rcases List.mem_cons.mp hpc with rfl | hpc
  · exact fun x => (congrFun (q0_lo q x8 (View.ld x10 r0_16) (View.ld x11 r0_16)) x).trans (q_lo (fun i j => q (ix2 i j)) x8 x10 x11 _ 0 (cols_q q 0 0 _ rfl) x (r0_17.idx x) (Rect.idx_unit_val _ _ inb_S2x1024x512_S1x128x512_0_0_0 x 0) (Rect.idx_unit_val _ _ inb_S2x1024x512_S1x128x512_0_0_0 x 1) (Rect.idx_unit_val _ _ inb_S2x1024x512_S1x128x512_0_0_0 x 2))
  nomatch hpc

theorem out13 (y : S1024x1024.Idx) : out0_13 x0 x1 x2 x3 x4 x5 x6 x7 x8 x9 x10 x11 y
    = turnedK (fun i j => k0_pay20 (F := Ideal) (k0_pay3 (F := Ideal) x0 x1 x2) x6 x7 (ix2 i ⟨j.val, by omega⟩) + k0_pay3 (F := Ideal) x0 x1 x2 (ix2 i ⟨640 + j.val % 128, by omega⟩)) x9 x10 x11 y := by
  unfold_out out0_13
  rw [View.ld_unit_zero (S := S1024x1024) hz inb_S1024x1024_S1024x1024_0_0, View.ld_unit_zero (S := S1x1024) hz inb_S1x1024_S1x1024_0_0, View.ld_unit_zero (S := S1024x768) hz inb_S1024x768_S1024x768_0_0,
    View.ld_unit_zero (S := S1x256) hz inb_S1x256_S1x256_0_0, View.ld_unit_zero (S := S256x1536) hz inb_S256x1536_S256x1536_0_0, View.ld_unit_zero (S := S128x1) hz inb_S128x1_S128x1_0_0]
  generalize k0_pay3 (F := Ideal) x0 x1 x2 = l
  generalize k0_pay20 (F := Ideal) l x6 x7 = kv
  refine View.canon_apply_of_pieces (turnedK (fun i j => kv (ix2 i ⟨j.val, by omega⟩) + l (ix2 i ⟨640 + j.val % 128, by omega⟩)) x9 x10 x11) _ ?_ y (cover0_13 _ _ _ _ _ _ _ _ y)
  intro pc hpc
  rcases List.mem_cons.mp hpc with rfl | hpc
  · exact fun x => (congrFun (k7_eq l kv x9 (View.ld x10 r0_16) (View.ld x11 r0_16) (View.ld x10 r0_18) (View.ld x11 r0_18)) x).trans (k_at (fun i j => kv (ix2 i ⟨j.val, by omega⟩) + l (ix2 i ⟨640 + j.val % 128, by omega⟩)) x9 x10 x11 _ 7 (cols_k l kv 896 7 _ rfl) x (r0_41.idx x) (Rect.idx_unit_val _ _ inb_S1024x1024_S1024x128_0_896 x 0) (Rect.idx_unit_val _ _ inb_S1024x1024_S1024x128_0_896 x 1))
  rcases List.mem_cons.mp hpc with rfl | hpc
  · exact fun x => (congrFun (k6_eq l kv x9 (View.ld x10 r0_16) (View.ld x11 r0_16) (View.ld x10 r0_18) (View.ld x11 r0_18)) x).trans (k_at (fun i j => kv (ix2 i ⟨j.val, by omega⟩) + l (ix2 i ⟨640 + j.val % 128, by omega⟩)) x9 x10 x11 _ 6 (cols_k l kv 768 6 _ rfl) x (r0_38.idx x) (Rect.idx_unit_val _ _ inb_S1024x1024_S1024x128_0_768 x 0) (Rect.idx_unit_val _ _ inb_S1024x1024_S1024x128_0_768 x 1))
  rcases List.mem_cons.mp hpc with rfl | hpc
  · exact fun x => (congrFun (k5_eq l kv x9 (View.ld x10 r0_16) (View.ld x11 r0_16) (View.ld x10 r0_18) (View.ld x11 r0_18)) x).trans (k_at (fun i j => kv (ix2 i ⟨j.val, by omega⟩) + l (ix2 i ⟨640 + j.val % 128, by omega⟩)) x9 x10 x11 _ 5 (cols_k l kv 640 5 _ rfl) x (r0_35.idx x) (Rect.idx_unit_val _ _ inb_S1024x1024_S1024x128_0_640 x 0) (Rect.idx_unit_val _ _ inb_S1024x1024_S1024x128_0_640 x 1))
  rcases List.mem_cons.mp hpc with rfl | hpc
  · exact fun x => (congrFun (k4_eq l kv x9 (View.ld x10 r0_16) (View.ld x11 r0_16) (View.ld x10 r0_18) (View.ld x11 r0_18)) x).trans (k_at (fun i j => kv (ix2 i ⟨j.val, by omega⟩) + l (ix2 i ⟨640 + j.val % 128, by omega⟩)) x9 x10 x11 _ 4 (cols_k l kv 512 4 _ rfl) x (r0_32.idx x) (Rect.idx_unit_val _ _ inb_S1024x1024_S1024x128_0_512 x 0) (Rect.idx_unit_val _ _ inb_S1024x1024_S1024x128_0_512 x 1))
  rcases List.mem_cons.mp hpc with rfl | hpc
  · exact fun x => (congrFun (k3_eq l kv x9 (View.ld x10 r0_16) (View.ld x11 r0_16) (View.ld x10 r0_18) (View.ld x11 r0_18)) x).trans (k_at (fun i j => kv (ix2 i ⟨j.val, by omega⟩) + l (ix2 i ⟨640 + j.val % 128, by omega⟩)) x9 x10 x11 _ 3 (cols_k l kv 384 3 _ rfl) x (r0_29.idx x) (Rect.idx_unit_val _ _ inb_S1024x1024_S1024x128_0_384 x 0) (Rect.idx_unit_val _ _ inb_S1024x1024_S1024x128_0_384 x 1))
  rcases List.mem_cons.mp hpc with rfl | hpc
  · exact fun x => (congrFun (k2_eq l kv x9 (View.ld x10 r0_16) (View.ld x11 r0_16) (View.ld x10 r0_18) (View.ld x11 r0_18)) x).trans (k_at (fun i j => kv (ix2 i ⟨j.val, by omega⟩) + l (ix2 i ⟨640 + j.val % 128, by omega⟩)) x9 x10 x11 _ 2 (cols_k l kv 256 2 _ rfl) x (r0_26.idx x) (Rect.idx_unit_val _ _ inb_S1024x1024_S1024x128_0_256 x 0) (Rect.idx_unit_val _ _ inb_S1024x1024_S1024x128_0_256 x 1))
  rcases List.mem_cons.mp hpc with rfl | hpc
  · exact fun x => (congrFun (k1_eq l kv x9 (View.ld x10 r0_16) (View.ld x11 r0_16) (View.ld x10 r0_18) (View.ld x11 r0_18)) x).trans (k_at (fun i j => kv (ix2 i ⟨j.val, by omega⟩) + l (ix2 i ⟨640 + j.val % 128, by omega⟩)) x9 x10 x11 _ 1 (cols_k l kv 128 1 _ rfl) x (r0_23.idx x) (Rect.idx_unit_val _ _ inb_S1024x1024_S1024x128_0_128 x 0) (Rect.idx_unit_val _ _ inb_S1024x1024_S1024x128_0_128 x 1))
  rcases List.mem_cons.mp hpc with rfl | hpc
  · exact fun x => (congrFun (k0_eq l kv x9 (View.ld x10 r0_16) (View.ld x11 r0_16) (View.ld x10 r0_18) (View.ld x11 r0_18)) x).trans (k_at (fun i j => kv (ix2 i ⟨j.val, by omega⟩) + l (ix2 i ⟨640 + j.val % 128, by omega⟩)) x9 x10 x11 _ 0 (cols_k l kv 0 0 _ rfl) x (r0_20.idx x) (Rect.idx_unit_val _ _ inb_S1024x1024_S1024x128_0_0 x 0) (Rect.idx_unit_val _ _ inb_S1024x1024_S1024x128_0_0 x 1))
  nomatch hpc

end Cert.Kernel4Ideal.Tile

end
-- ==== Proof.ProjFinal.lean ====
/-
  The projection kernel's result arrays after the run.
-/
module

public import proofs.«01_k».proof.Proof.ProjPieces
public import proofs.«01_k».proof.Proof.Gen.Kernel4Ideal.Value

@[expose] public section

set_option maxRecDepth 16384

noncomputable section

namespace Cert.Kernel4Ideal.Tile

open Cert.Kernel4Ideal Cert.Kernel4Ideal.Gen Cert.Ffn Cert.Proj
open Idealize.ShloMosaic Idealize.ShloMosaic.TcCoe Idealize.SL.Sem
open Idealize.ShloMosaic.Pipeline (Dat)

/-- The latent row and the stick-breaking row of a row of the argument. -/
def latOf {n : ℕ} (x : FVec Ideal ⟨2, ![n, 1024]⟩ .f32) (gm : FVec Ideal S1x1024 .f32) (L : FVec Ideal S1024x768 .bf16) (r : Fin n) : Fin 768 → EReal :=
  lat (fun k => x (ix2 r k)) (fun k => gm (ix2 0 k)) fun k f => L (ix2 k f)
def stickOf {n : ℕ} (x : FVec Ideal ⟨2, ![n, 1024]⟩ .f32) (gm : FVec Ideal S1x1024 .f32) (S : FVec Ideal S1024x1536 .bf16) (r : Fin n) : Fin 1536 → EReal :=
  stick (fun k => x (ix2 r k)) (fun k => gm (ix2 0 k)) fun k f => S (ix2 k f)

/-- Row `l` of block `b`, the blocks holding `n` rows each. -/
abbrev at512 (b : Fin 64) (l : Fin 512) : Fin 32768 := ⟨b.val * 512 + l.val, by omega⟩
abbrev at256 (b : Fin 128) (l : Fin 256) : Fin 32768 := ⟨b.val * 256 + l.val, by omega⟩

/-- The six results. -/
def outQ (x : FVec Ideal S32768x1024 .f32) (gm : FVec Ideal S1x1024 .f32) (L : FVec Ideal S1024x768 .bf16) (gq : FVec Ideal S1x384 .f32) (Q : FVec Ideal S384x1024 .bf16)
    (g : FVec Ideal S128x1 .f32) (c s : FVec Ideal S64x16x512 .f32) : FVec Ideal S64x1024x512 .bf16 := fun y =>
  headOf (query (latOf x gm L (at512 (y 0) (y 2))) (fun k => gq (ix2 0 k)) fun k f => Q (ix2 k f)) (fun e => g (ix2 e 0)) (fun a => c (ix3 (y 0) a (y 2))) (fun a => s (ix3 (y 0) a (y 2))) (y 1)
def outK (x : FVec Ideal S32768x1024 .f32) (gm : FVec Ideal S1x1024 .f32) (L : FVec Ideal S1024x768 .bf16) (gk : FVec Ideal S1x256 .f32) (K : FVec Ideal S256x1536 .bf16)
    (g : FVec Ideal S128x1 .f32) (c s : FVec Ideal S64x16x512 .f32) : FVec Ideal S32768x1024 .bf16 := fun y =>
  headOf (keys (latOf x gm L (y 0)) (fun k => gk (ix2 0 k)) fun k f => K (ix2 k f)) (fun e => g (ix2 e 0))
    (fun a => c (ix3 ⟨(y 0).val / 512, by have : (y 0).val < 32768 := (y 0).isLt; omega⟩ a ⟨(y 0).val % 512, by omega⟩))
    (fun a => s (ix3 ⟨(y 0).val / 512, by have : (y 0).val < 32768 := (y 0).isLt; omega⟩ a ⟨(y 0).val % 512, by omega⟩)) (y 1)
def outV (x : FVec Ideal S32768x1024 .f32) (gm : FVec Ideal S1x1024 .f32) (L : FVec Ideal S1024x768 .bf16) (gk : FVec Ideal S1x256 .f32) (K : FVec Ideal S256x1536 .bf16) :
    FVec Ideal S64x512x512 .bf16 := fun y =>
  keyval (latOf x gm L (at512 (y 0) (y 2))) (fun k => gk (ix2 0 k)) (fun k f => K (ix2 k f)) ⟨(y 1).val + 1024, by have : (y 1).val < 512 := (y 1).isLt; omega⟩
def outSQ (x : FVec Ideal S32768x1024 .f32) (gm : FVec Ideal S1x1024 .f32) (S : FVec Ideal S1024x1536 .bf16) : FVec Ideal S128x512x256 .bf16 := fun y =>
  stickOf x gm S (at256 (y 0) (y 2)) ⟨(y 1).val, by have : (y 1).val < 512 := (y 1).isLt; omega⟩ * Ideal.ofBits FTy.f32 0x3E000000#32
def outSK (x : FVec Ideal S32768x1024 .f32) (gm : FVec Ideal S1x1024 .f32) (S : FVec Ideal S1024x1536 .bf16) : FVec Ideal S32768x512 .bf16 := fun y =>
  stickOf x gm S (y 0) ⟨(y 1).val + 512, by have : (y 1).val < 512 := (y 1).isLt; omega⟩
def outSV (x : FVec Ideal S32768x1024 .f32) (gm : FVec Ideal S1x1024 .f32) (S : FVec Ideal S1024x1536 .bf16) : FVec Ideal S128x512x256 .bf16 := fun y =>
  stickOf x gm S (at256 (y 0) (y 2)) ⟨(y 1).val + 1024, by have : (y 1).val < 512 := (y 1).isLt; omega⟩

section
variable (t : ℕ) (x : FVec Ideal S1024x1024 .f32) (X : FVec Ideal S32768x1024 .f32) (hx : ∀ (i k : Fin 1024) (r : Fin 32768), r.val = t * 1024 + i.val → x (ix2 i k) = X (ix2 r k))
  (c s : FVec Ideal S2x16x512 .f32) (C S : FVec Ideal S64x16x512 .f32) (hc : ∀ (b : Fin 2) (a : Fin 16) (l : Fin 512) (B : Fin 64), B.val = t * 2 + b.val → c (ix3 b a l) = C (ix3 B a l))
  (hs : ∀ (b : Fin 2) (a : Fin 16) (l : Fin 512) (B : Fin 64), B.val = t * 2 + b.val → s (ix3 b a l) = S (ix3 B a l))
  (gm : FVec Ideal S1x1024 .f32) (L : FVec Ideal S1024x768 .bf16) (W : FVec Ideal S1024x1536 .bf16) (gq : FVec Ideal S1x384 .f32) (Q : FVec Ideal S384x1024 .bf16)
  (gk : FVec Ideal S1x256 .f32) (K : FVec Ideal S256x1536 .bf16) (g : FVec Ideal S128x1 .f32)

include hx in
theorem lat_row (i : Fin 1024) (r : Fin 32768) (hr : r.val = t * 1024 + i.val) : (fun k => k0_pay3 (F := Ideal) x gm L (ix2 i k)) = latOf X gm L r := by
  funext k
  rw [lat_at, latOf, funext fun k => hx i k r hr]

include hx in
theorem stick_row (i : Fin 1024) (r : Fin 32768) (hr : r.val = t * 1024 + i.val) (k : Fin 1536) : k0_pay4 (F := Ideal) x gm W (ix2 i k) = stickOf X gm W r k := by
  rw [stick_at, stickOf, funext fun k => hx i k r hr]

include hx hc hs in
theorem tileQ (a : Fin 2) (b : Fin 1024) (l : Fin 512) (A : Fin 64) (hA : A.val = t * 2 + a.val) :
    turnedQ (fun i j => k0_pay19 (F := Ideal) (k0_pay3 (F := Ideal) x gm L) gq Q (ix2 i j)) g c s (ix3 a b l) = outQ X gm L gq Q g C S (ix3 A b l) := by
  show headOf (fun j => k0_pay19 (F := Ideal) (k0_pay3 (F := Ideal) x gm L) gq Q (ix2 ⟨a.val * 512 + l.val, by omega⟩ j)) _ (fun e => c (ix3 a e l)) (fun e => s (ix3 a e l)) b = _
  have e : (fun j => k0_pay19 (F := Ideal) (k0_pay3 (F := Ideal) x gm L) gq Q (ix2 (⟨a.val * 512 + l.val, by omega⟩ : Fin 1024) j)) = _ := funext fun j => query_at _ gq Q _ j
  rw [e, lat_row t x X hx gm L _ (at512 A l) (by show A.val * 512 + l.val = t * 1024 + (a.val * 512 + l.val); omega), funext fun e => hc a e l A hA, funext fun e => hs a e l A hA]
  rfl

include hx hc hs in
theorem tileK (i j : Fin 1024) (r : Fin 32768) (hr : r.val = t * 1024 + i.val) :
    turnedK (fun i j => k0_pay20 (F := Ideal) (k0_pay3 (F := Ideal) x gm L) gk K (ix2 i ⟨j.val, by omega⟩) + k0_pay3 (F := Ideal) x gm L (ix2 i ⟨640 + j.val % 128, by omega⟩)) g c s (ix2 i j) = outK X gm L gk K g C S (ix2 r j) := by
  show headOf (fun j => k0_pay20 (F := Ideal) (k0_pay3 (F := Ideal) x gm L) gk K (ix2 i ⟨j.val, by omega⟩) + k0_pay3 (F := Ideal) x gm L (ix2 i ⟨640 + j.val % 128, by omega⟩)) _ (fun e => c (ix3 ⟨i.val / 512, by omega⟩ e ⟨i.val % 512, by omega⟩)) (fun e => s (ix3 ⟨i.val / 512, by omega⟩ e ⟨i.val % 512, by omega⟩)) j
    = headOf (keys (latOf X gm L r) (fun k => gk (ix2 0 k)) fun k f => K (ix2 k f)) (fun e => g (ix2 e 0)) (fun e => C (ix3 ⟨r.val / 512, by omega⟩ e ⟨r.val % 512, by omega⟩)) (fun e => S (ix3 ⟨r.val / 512, by omega⟩ e ⟨r.val % 512, by omega⟩)) j
  have el := lat_row t x X hx gm L i r hr
  have e : (fun j : Fin 1024 => k0_pay20 (F := Ideal) (k0_pay3 (F := Ideal) x gm L) gk K (ix2 i ⟨j.val, by omega⟩) + k0_pay3 (F := Ideal) x gm L (ix2 i ⟨640 + j.val % 128, by omega⟩)) = keys (latOf X gm L r) (fun k => gk (ix2 0 k)) fun k f => K (ix2 k f) := by
    funext j
    rw [keyval_at, el]
    exact congrArg (_ + ·) (congrFun el _)
  have em : (⟨i.val % 512, by omega⟩ : Fin 512) = ⟨r.val % 512, by omega⟩ := Fin.ext (by show i.val % 512 = r.val % 512; omega)
  have hb : r.val / 512 = t * 2 + i.val / 512 := by omega
  rw [e, em, funext fun e => hc ⟨i.val / 512, by omega⟩ e ⟨r.val % 512, by omega⟩ ⟨r.val / 512, by omega⟩ hb, funext fun e => hs ⟨i.val / 512, by omega⟩ e ⟨r.val % 512, by omega⟩ ⟨r.val / 512, by omega⟩ hb]

include hx in
theorem tileV (a : Fin 2) (b l : Fin 512) (A : Fin 64) (hA : A.val = t * 2 + a.val) :
    Cert.Kernel4Ideal.Value.E14 (F := Ideal) x gm L gk K (ix3 a b l) = outV X gm L gk K (ix3 A b l) := by
  show k0_pay20 (F := Ideal) (k0_pay3 (F := Ideal) x gm L) gk K (Cert.Kernel4Ideal.Value.ix14_0 (ix3 a b l)) = _
  rw [show Cert.Kernel4Ideal.Value.ix14_0 (ix3 a b l) = ix2 (⟨a.val * 512 + l.val, by omega⟩ : Fin 1024) (⟨b.val + 1024, by omega⟩ : Fin 1536) by funext i; fin_cases i <;> rfl]
  refine (keyval_at _ gk K _ _).trans ?_
  rw [lat_row t x X hx gm L _ (at512 A l) (by show A.val * 512 + l.val = t * 1024 + (a.val * 512 + l.val); omega)]
  rfl

include hx in
theorem tileSQ (a : Fin 4) (b : Fin 512) (l : Fin 256) (A : Fin 128) (hA : A.val = t * 4 + a.val) :
    Cert.Kernel4Ideal.Value.E15 (F := Ideal) x gm W (ix3 a b l) = outSQ X gm W (ix3 A b l) := by
  show k0_pay4 (F := Ideal) x gm W (Cert.Kernel4Ideal.Value.ix15_0 (ix3 a b l)) * _ = _
  rw [show Cert.Kernel4Ideal.Value.ix15_0 (ix3 a b l) = ix2 (⟨a.val * 256 + l.val, by omega⟩ : Fin 1024) (⟨b.val, by omega⟩ : Fin 1536) by funext i; fin_cases i <;> rfl]
  rw [stick_row t x X hx gm W _ (at256 A l) (by show A.val * 256 + l.val = t * 1024 + (a.val * 256 + l.val); omega)]
  rfl

include hx in
theorem tileSK (i : Fin 1024) (j : Fin 512) (r : Fin 32768) (hr : r.val = t * 1024 + i.val) :
    Cert.Kernel4Ideal.Value.E16 (F := Ideal) x gm W (ix2 i j) = outSK X gm W (ix2 r j) := by
  show k0_pay4 (F := Ideal) x gm W (Cert.Kernel4Ideal.Value.ix16_0 (ix2 i j)) = _
  rw [show Cert.Kernel4Ideal.Value.ix16_0 (ix2 i j) = ix2 i (⟨j.val + 512, by omega⟩ : Fin 1536) by funext i; fin_cases i <;> rfl]
  rw [stick_row t x X hx gm W _ r hr]
  rfl

include hx in
theorem tileSV (a : Fin 4) (b : Fin 512) (l : Fin 256) (A : Fin 128) (hA : A.val = t * 4 + a.val) :
    Cert.Kernel4Ideal.Value.E17 (F := Ideal) x gm W (ix3 a b l) = outSV X gm W (ix3 A b l) := by
  show k0_pay4 (F := Ideal) x gm W (Cert.Kernel4Ideal.Value.ix17_0 (ix3 a b l)) = _
  rw [show Cert.Kernel4Ideal.Value.ix17_0 (ix3 a b l) = ix2 (⟨a.val * 256 + l.val, by omega⟩ : Fin 1024) (⟨b.val + 1024, by omega⟩ : Fin 1536) by funext i; fin_cases i <;> rfl]
  rw [stick_row t x X hx gm W _ (at256 A l) (by show A.val * 256 + l.val = t * 1024 + (a.val * 256 + l.val); omega)]
  rfl
end

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0] ∧ win0_9.index t = ![0, 0] ∧ win0_10.index t = ![t.val, 0, 0]
    ∧ win0_11.index t = ![t.val, 0, 0] ∧ win0_12.index t = ![t.val, 0, 0] ∧ win0_13.index t = ![t.val, 0] ∧ win0_14.index t = ![t.val, 0, 0] ∧ win0_15.index t = ![t.val, 0, 0]
    ∧ win0_16.index t = ![t.val, 0] ∧ win0_17.index t = ![t.val, 0, 0] :=
  (by decide +kernel : ∀ t : Fin grid0.N, _)

/-- The windows that are their whole arrays. -/
theorem whole1 (c : Dev nD) (t : Fin cfg0.N) : iblk m c 1 t = m ((c : Thread nD τ).loc main_arg1) := by blk_ext! [iblk, V, idx t]
theorem whole2 (c : Dev nD) (t : Fin cfg0.N) : iblk m c 2 t = m ((c : Thread nD τ).loc main_arg2) := by blk_ext! [iblk, V, idx t]
theorem whole3 (c : Dev nD) (t : Fin cfg0.N) : iblk m c 3 t = m ((c : Thread nD τ).loc main_arg3) := by blk_ext! [iblk, V, idx t]
theorem whole4 (c : Dev nD) (t : Fin cfg0.N) : iblk m c 4 t = m ((c : Thread nD τ).loc main_arg4) := by blk_ext! [iblk, V, idx t]
theorem whole5 (c : Dev nD) (t : Fin cfg0.N) : iblk m c 5 t = m ((c : Thread nD τ).loc main_arg5) := by blk_ext! [iblk, V, idx t]
theorem whole6 (c : Dev nD) (t : Fin cfg0.N) : iblk m c 6 t = m ((c : Thread nD τ).loc main_arg6) := by blk_ext! [iblk, V, idx t]
theorem whole7 (c : Dev nD) (t : Fin cfg0.N) : iblk m c 7 t = m ((c : Thread nD τ).loc main_arg7) := by blk_ext! [iblk, V, idx t]
theorem whole8 (c : Dev nD) (t : Fin cfg0.N) : iblk m c 8 t = m ((c : Thread nD τ).loc main_arg8) := by blk_ext! [iblk, V, idx t]
theorem whole9 (c : Dev nD) (t : Fin cfg0.N) : iblk m c 9 t = m ((c : Thread nD τ).loc main_arg9) := by blk_ext! [iblk, V, idx t]

/-- The windows that are tiles. -/
theorem row0 (c : Dev nD) (t : Fin cfg0.N) (i k : Fin 1024) (r : Fin 32768) (hr : r.val = t.val * 1024 + i.val) : (show FVec Ideal S1024x1024 .f32 from iblk m c 0 t) (ix2 i k)
    = (m ((c : Thread nD τ).loc main_arg0) : FVec Ideal S32768x1024 .f32) (ix2 r k) := by blk_ext [iblk, V, idx t, hr]
theorem row10 (c : Dev nD) (t : Fin cfg0.N) (b : Fin 2) (a : Fin 16) (l : Fin 512) (B : Fin 64) (hB : B.val = t.val * 2 + b.val) : (show FVec Ideal S2x16x512 .f32 from iblk m c 10 t) (ix3 b a l)
    = (m ((c : Thread nD τ).loc main_arg10) : FVec Ideal S64x16x512 .f32) (ix3 B a l) := by blk_ext [iblk, V, idx t, hB]
theorem row11 (c : Dev nD) (t : Fin cfg0.N) (b : Fin 2) (a : Fin 16) (l : Fin 512) (B : Fin 64) (hB : B.val = t.val * 2 + b.val) : (show FVec Ideal S2x16x512 .f32 from iblk m c 11 t) (ix3 b a l)
    = (m ((c : Thread nD τ).loc main_arg11) : FVec Ideal S64x16x512 .f32) (ix3 B a l) := by blk_ext [iblk, V, idx t, hB]

theorem final12 (c : Dev nD) : (dats m 0 c).arrAt 12 cfg0.N
    = outQ (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg8)) (m ((c : Thread nD τ).loc main_arg10)) (m ((c : Thread nD τ).loc main_arg11)) := by
  refine (dats m 0 c).arrAt_eq_of_covers 12 _ (by decide +kernel) fun t _ y => ?_
  blk_simp
  rw [after0_12]
  have ht : t.val < 32 := t.isLt
  refine (out12 _ _ _ _ _ _ _ _ _ _ _ _ y).trans ?_
  rw [whole1, whole2, whole4, whole5, whole8, eq_ix3 y]
  refine (tileQ t.val (iblk m c 0 t) _ (row0 m c t) (iblk m c 10 t) (iblk m c 11 t) _ _ (row10 m c t) (row11 m c t) _ _ _ _ _ (y 0) (y 1) (y 2)
    ⟨t.val * 2 + (y 0).val, by have : (y 0).val < 2 := (y 0).isLt; omega⟩ rfl).trans ?_
  refine congrArg (outQ _ _ _ _ _ _ _ _) ?_
  blk_ext [idx t]

theorem final13 (c : Dev nD) : (dats m 0 c).arrAt 13 cfg0.N
    = outK (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg9)) (m ((c : Thread nD τ).loc main_arg10)) (m ((c : Thread nD τ).loc main_arg11)) := by
  refine (dats m 0 c).arrAt_eq_of_covers 13 _ (by decide +kernel) fun t _ y => ?_
  blk_simp
  rw [after0_13]
  have ht : t.val < 32 := t.isLt
  refine (out13 _ _ _ _ _ _ _ _ _ _ _ _ y).trans ?_
  rw [whole1, whole2, whole6, whole7, whole9, eq_ix2 y]
  refine (tileK t.val (iblk m c 0 t) _ (row0 m c t) (iblk m c 10 t) (iblk m c 11 t) _ _ (row10 m c t) (row11 m c t) _ _ _ _ _ (y 0) (y 1)
    ⟨t.val * 1024 + (y 0).val, by have : (y 0).val < 1024 := (y 0).isLt; omega⟩ rfl).trans ?_
  refine congrArg (outK _ _ _ _ _ _ _ _) ?_
  blk_ext [idx t]

theorem final14 (c : Dev nD) : (dats m 0 c).arrAt 14 cfg0.N
    = outV (m ((c : Thread nD τ).loc main_arg0)) (m ((c : Thread nD τ).loc main_arg1)) (m ((c : Thread nD τ).loc main_arg2)) (m ((c : Thread nD τ).loc main_arg6)) (m ((c : Thread nD τ).loc main_arg7)) := by
  refine (dats m 0 c).arrAt_eq_of_covers 14 _ (by decide +kernel) fun t _ y => ?_
  blk_simp
  rw [after0_14]
  have ht : t.val < 32 := t.isLt
  unfold_out out0_14
  frame_out
  refine (Cert.Kernel4Ideal.Value.canon14_eq _ _ _ _ _ y).trans ?_
  rw [whole1, whole2, whole6, whole7, eq_ix3 y]
  refine (tileV t.val (iblk m c 0 t) _ (row0 m c t) _ _ _ _ (y 0) (y 1) (y 2)
    ⟨t.val * 2 + (y 0).val, by have : (y 0).val < 2 := (y 0).isLt; omega⟩ rfl).trans ?_
  refine congrArg (outV _ _ _ _ _) ?_
  blk_ext [idx t]

theorem final15 (c : Dev nD) : (dats m 0 c).arrAt 15 cfg0.N
    = outSQ (m ((c : Thread nD τ).loc main_arg0)) (m ((c : Thread nD τ).loc main_arg1)) (m ((c : Thread nD τ).loc main_arg3)) := by
  refine (dats m 0 c).arrAt_eq_of_covers 15 _ (by decide +kernel) fun t _ y => ?_
  blk_simp
  rw [after0_15]
  have ht : t.val < 32 := t.isLt
  unfold_out out0_15
  frame_out
  refine (Cert.Kernel4Ideal.Value.canon15_eq _ _ _ y).trans ?_
  rw [whole1, whole3, eq_ix3 y]
  refine (tileSQ t.val (iblk m c 0 t) _ (row0 m c t) _ _ (y 0) (y 1) (y 2)
    ⟨t.val * 4 + (y 0).val, by have : (y 0).val < 4 := (y 0).isLt; omega⟩ rfl).trans ?_
  refine congrArg (outSQ _ _ _) ?_
  blk_ext [idx t]

theorem final16 (c : Dev nD) : (dats m 0 c).arrAt 16 cfg0.N
    = outSK (m ((c : Thread nD τ).loc main_arg0)) (m ((c : Thread nD τ).loc main_arg1)) (m ((c : Thread nD τ).loc main_arg3)) := by
  refine (dats m 0 c).arrAt_eq_of_covers 16 _ (by decide +kernel) fun t _ y => ?_
  blk_simp
  rw [after0_16]
  have ht : t.val < 32 := t.isLt
  unfold out0_16 k0_pay137
  rw [View.ld_unit_zero (S := S1024x1024) hz inb_S1024x1024_S1024x1024_0_0, View.ld_unit_zero (S := S1x1024) hz inb_S1x1024_S1x1024_0_0, View.ld_unit_zero (S := S1024x1536) hz inb_S1024x1536_S1024x1536_0_0]
  refine (Cert.Kernel4Ideal.Value.canon16_eq _ _ _ y).trans ?_
  rw [whole1, whole3, eq_ix2 y]
  refine (tileSK t.val (iblk m c 0 t) _ (row0 m c t) _ _ (y 0) (y 1)
    ⟨t.val * 1024 + (y 0).val, by have : (y 0).val < 1024 := (y 0).isLt; omega⟩ rfl).trans ?_
  refine congrArg (outSK _ _ _) ?_
  blk_ext [idx t]

theorem final17 (c : Dev nD) : (dats m 0 c).arrAt 17 cfg0.N
    = outSV (m ((c : Thread nD τ).loc main_arg0)) (m ((c : Thread nD τ).loc main_arg1)) (m ((c : Thread nD τ).loc main_arg3)) := by
  refine (dats m 0 c).arrAt_eq_of_covers 17 _ (by decide +kernel) fun t _ y => ?_
  blk_simp
  rw [after0_17]
  have ht : t.val < 32 := t.isLt
  unfold_out out0_17
  frame_out
  refine (Cert.Kernel4Ideal.Value.canon17_eq _ _ _ y).trans ?_
  rw [whole1, whole3, eq_ix3 y]
  refine (tileSV t.val (iblk m c 0 t) _ (row0 m c t) _ _ (y 0) (y 1) (y 2)
    ⟨t.val * 4 + (y 0).val, by have : (y 0).val < 4 := (y 0).isLt; omega⟩ rfl).trans ?_
  refine congrArg (outSV _ _ _) ?_
  blk_ext [idx t]

end Cert.Kernel4Ideal.Tile

end
-- ==== Proof.ProjRef.lean ====
/-
  The projection reference at an index.
-/
module

public import proofs.«01_k».proof.Proof.Gen.Reference4Ideal.Run
public import proofs.«01_k».proof.Proof.FfnRef
public import proofs.«01_k».proof.Proof.Proj

@[expose] public section

set_option maxRecDepth 16384

noncomputable section

namespace Cert.Reference4Ideal.Ref

open Cert.Reference4Ideal Cert.Reference4Ideal.Gen Cert.Ffn Cert.Proj
open Idealize.ShloMosaic Idealize.ShloMosaic.TcCoe Idealize.SL.Sem
open Idealize.ShloMosaic.StableHlo (launchContents)
open Cert.Reference2Ideal.Ref (norm norm_at)

/-- The reference's stages. -/
def lats (x : FVec Ideal S32768x1024 .f32) (gm : FVec Ideal S1x1024 .f32) (L : FVec Ideal S1024x768 .bf16) : FVec Ideal S32768x768 .f32 :=
  Host.dotGeneral dot_S32768x1024_S1024x768_S32768x768_1_0_0_1_n_n none (norm x gm) (extf .f32 L bitsLt_bf16_f32)
def sticks (x : FVec Ideal S32768x1024 .f32) (gm : FVec Ideal S1x1024 .f32) (S : FVec Ideal S1024x1536 .bf16) : FVec Ideal S32768x1536 .f32 :=
  Host.dotGeneral dot_S32768x1024_S1024x1536_S32768x1536_1_0_0_1_n_n none (norm x gm) (extf .f32 S bitsLt_bf16_f32)
def normQ (v : FVec Ideal S32768x384 .f32) (g : FVec Ideal S1x384 .f32) : FVec Ideal S32768x384 .f32 :=
  mulf (mulf v (broadcastInDim S32768x384 ![0, 1] bcast_S32768x1_S32768x384_0_1 (Host.rsqrt (addf (Host.divf (broadcastInDim S32768x1 ![0] bcast_S32768_S32768x1_0 (Host.reduceAdd (mulf v v) (constant S_ .f32 0x00000000#32) reducesTo_S32768x384_S32768_d1 h_S_)) (broadcastInDim S32768x1 ![] bcast_S_S32768x1 (constant S_ .f32 0x43C00000#32))) (broadcastInDim S32768x1 ![] bcast_S_S32768x1 (constant S_ .f32 0x358637BD#32)))))) (broadcastInDim S32768x384 ![0, 1] bcast_S1x384_S32768x384_0_1 g)
def normK (v : FVec Ideal S32768x256 .f32) (g : FVec Ideal S1x256 .f32) : FVec Ideal S32768x256 .f32 :=
  mulf (mulf v (broadcastInDim S32768x256 ![0, 1] bcast_S32768x1_S32768x256_0_1 (Host.rsqrt (addf (Host.divf (broadcastInDim S32768x1 ![0] bcast_S32768_S32768x1_0 (Host.reduceAdd (mulf v v) (constant S_ .f32 0x00000000#32) reducesTo_S32768x256_S32768_d1 h_S_)) (broadcastInDim S32768x1 ![] bcast_S_S32768x1 (constant S_ .f32 0x43800000#32))) (broadcastInDim S32768x1 ![] bcast_S_S32768x1 (constant S_ .f32 0x358637BD#32)))))) (broadcastInDim S32768x256 ![0, 1] bcast_S1x256_S32768x256_0_1 g)
def queries (l : FVec Ideal S32768x768 .f32) (g : FVec Ideal S1x384 .f32) (Q : FVec Ideal S384x1024 .bf16) : FVec Ideal S32768x1024 .f32 :=
  Host.dotGeneral dot_S32768x384_S384x1024_S32768x1024_1_0_0_1_n_n none (normQ (extractStridedSlice S32768x384 ![0, 0] l slices_S32768x768_S32768x384_0_0) g) (extf .f32 Q bitsLt_bf16_f32)
def keyvals (l : FVec Ideal S32768x768 .f32) (g : FVec Ideal S1x256 .f32) (K : FVec Ideal S256x1536 .bf16) : FVec Ideal S32768x1536 .f32 :=
  Host.dotGeneral dot_S32768x256_S256x1536_S32768x1536_1_0_0_1_n_n none (normK (extractStridedSlice S32768x256 ![0, 384] l slices_S32768x768_S32768x256_0_384) g) (extf .f32 K bitsLt_bf16_f32)
def heads (q : FVec Ideal S32768x1024 .f32) : FVec Ideal S32768x8x128 .f32 := shapeCast S32768x8x128 q shapeCasts_S32768x1024_S32768x8x128
def keyHeads (l : FVec Ideal S32768x768 .f32) (kv : FVec Ideal S32768x1536 .f32) : FVec Ideal S32768x8x128 .f32 :=
  addf (shapeCast S32768x8x128 (extractStridedSlice S32768x1024 ![0, 0] kv slices_S32768x1536_S32768x1024_0_0) shapeCasts_S32768x1024_S32768x8x128)
    (broadcastInDim S32768x8x128 ![0, 1, 2] bcast_S32768x1x128_S32768x8x128_0_1_2 (broadcastInDim S32768x1x128 ![0, 2] bcast_S32768x128_S32768x1x128_0_2 (extractStridedSlice S32768x128 ![0, 640] l slices_S32768x768_S32768x128_0_640)))
def table (c : FVec Ideal S64x16x512 .f32) : FVec Ideal S32768x1x16 .f32 :=
  shapeCast S32768x1x16 (transpose S64x512x16 [0, 2, 1] c transposes_S64x16x512_S64x512x16_0_2_1) shapeCasts_S64x512x16_S32768x1x16
def unit (x : FVec Ideal S32768x8x128 .f32) (g : FVec Ideal S128x1 .f32) : FVec Ideal S32768x8x128 .f32 :=
  mulf (mulf x (broadcastInDim S32768x8x128 ![0, 1, 2] bcast_S32768x8x1_S32768x8x128_0_1_2 (Host.rsqrt (addf (Host.divf (broadcastInDim S32768x8x1 ![0, 1] bcast_S32768x8_S32768x8x1_0_1 (Host.reduceAdd (mulf x x) (constant S_ .f32 0x00000000#32) reducesTo_S32768x8x128_S32768x8_d2 h_S_)) (broadcastInDim S32768x8x1 ![] bcast_S_S32768x8x1 (constant S_ .f32 0x42C00000#32))) (broadcastInDim S32768x8x1 ![] bcast_S_S32768x8x1 (constant S_ .f32 0x358637BD#32))))))
    (broadcastInDim S32768x8x128 ![0, 1, 2] bcast_S1x1x128_S32768x8x128_0_1_2 (broadcastInDim S1x1x128 ![2] bcast_S128_S1x1x128_2 (shapeCast S128 g shapeCasts_S128x1_S128)))
def swing (n : FVec Ideal S32768x8x128 .f32) (c s : FVec Ideal S32768x1x16 .f32) : FVec Ideal S32768x8x128 .f32 :=
  concatenate S32768x8x128 2 [⟨S32768x8x64, extractStridedSlice S32768x8x64 ![0, 0, 0] n slices_S32768x8x128_S32768x8x64_0_0_0⟩,
    ⟨S32768x8x16, subf (mulf (extractStridedSlice S32768x8x16 ![0, 0, 64] n slices_S32768x8x128_S32768x8x16_0_0_64) (broadcastInDim S32768x8x16 ![0, 1, 2] bcast_S32768x1x16_S32768x8x16_0_1_2 c)) (mulf (extractStridedSlice S32768x8x16 ![0, 0, 80] n slices_S32768x8x128_S32768x8x16_0_0_80) (broadcastInDim S32768x8x16 ![0, 1, 2] bcast_S32768x1x16_S32768x8x16_0_1_2 s))⟩,
    ⟨S32768x8x16, addf (mulf (extractStridedSlice S32768x8x16 ![0, 0, 80] n slices_S32768x8x128_S32768x8x16_0_0_80) (broadcastInDim S32768x8x16 ![0, 1, 2] bcast_S32768x1x16_S32768x8x16_0_1_2 c)) (mulf (extractStridedSlice S32768x8x16 ![0, 0, 64] n slices_S32768x8x128_S32768x8x16_0_0_64) (broadcastInDim S32768x8x16 ![0, 1, 2] bcast_S32768x1x16_S32768x8x16_0_1_2 s))⟩,
    ⟨S32768x8x32, extractStridedSlice S32768x8x32 ![0, 0, 96] n slices_S32768x8x128_S32768x8x32_0_0_96⟩] concatenates_S32768x8x64_S32768x8x16_S32768x8x16_S32768x8x32_S32768x8x128_d2
def flat (z : FVec Ideal S32768x8x128 .f32) : FVec Ideal S32768x1024 .f32 := shapeCast S32768x1024 z shapeCasts_S32768x8x128_S32768x1024
def blocksQ (a : FVec Ideal S32768x1024 .f32) : FVec Ideal S64x1024x512 .bf16 :=
  truncf .bf16 (transpose S64x1024x512 [0, 2, 1] (shapeCast S64x512x1024 a shapeCasts_S32768x1024_S64x512x1024) transposes_S64x512x1024_S64x1024x512_0_2_1) bitsLt_bf16_f32
def blocksV (kv : FVec Ideal S32768x1536 .f32) : FVec Ideal S64x512x512 .bf16 :=
  truncf .bf16 (transpose S64x512x512 [0, 2, 1] (shapeCast S64x512x512 (extractStridedSlice S32768x512 ![0, 1024] kv slices_S32768x1536_S32768x512_0_1024) shapeCasts_S32768x512_S64x512x512) transposes_S64x512x512_S64x512x512_0_2_1) bitsLt_bf16_f32
def blocksSQ (s : FVec Ideal S32768x1536 .f32) : FVec Ideal S128x512x256 .bf16 :=
  truncf .bf16 (transpose S128x512x256 [0, 2, 1] (shapeCast S128x256x512 (Host.divf (extractStridedSlice S32768x512 ![0, 0] s slices_S32768x1536_S32768x512_0_0) (broadcastInDim S32768x512 ![] bcast_S_S32768x512 (constant S_ .f32 0x41000000#32))) shapeCasts_S32768x512_S128x256x512) transposes_S128x256x512_S128x512x256_0_2_1) bitsLt_bf16_f32
def colsSK (s : FVec Ideal S32768x1536 .f32) : FVec Ideal S32768x512 .bf16 :=
  truncf .bf16 (extractStridedSlice S32768x512 ![0, 512] s slices_S32768x1536_S32768x512_0_512) bitsLt_bf16_f32
def blocksSV (s : FVec Ideal S32768x1536 .f32) : FVec Ideal S128x512x256 .bf16 :=
  truncf .bf16 (transpose S128x512x256 [0, 2, 1] (shapeCast S128x256x512 (extractStridedSlice S32768x512 ![0, 1024] s slices_S32768x1536_S32768x512_0_1024) shapeCasts_S32768x512_S128x256x512) transposes_S128x256x512_S128x512x256_0_2_1) bitsLt_bf16_f32

theorem lats_at (x : FVec Ideal S32768x1024 .f32) (gm : FVec Ideal S1x1024 .f32) (L : FVec Ideal S1024x768 .bf16) (r : Fin 32768) (j : Fin 768) :
    lats x gm L (ix2 r j) = lat (fun k => x (ix2 r k)) (fun k => gm (ix2 0 k)) (fun k f => L (ix2 k f)) j := by
  have e : lats x gm L (ix2 r j) = dot (fun k => norm x gm (ix2 r k)) fun k => L (ix2 k j) := by
    pointwise [lats, dot]
  rw [e, lat]
  exact congrArg (fun q => dot q _) (funext fun k => norm_at x gm r k)

theorem sticks_at (x : FVec Ideal S32768x1024 .f32) (gm : FVec Ideal S1x1024 .f32) (S : FVec Ideal S1024x1536 .bf16) (r : Fin 32768) (j : Fin 1536) :
    sticks x gm S (ix2 r j) = stick (fun k => x (ix2 r k)) (fun k => gm (ix2 0 k)) (fun k f => S (ix2 k f)) j := by
  have e : sticks x gm S (ix2 r j) = dot (fun k => norm x gm (ix2 r k)) fun k => S (ix2 k j) := by
    pointwise [sticks, dot]
  rw [e, stick]
  exact congrArg (fun q => dot q _) (funext fun k => norm_at x gm r k)

theorem normQ_at (v : FVec Ideal S32768x384 .f32) (g : FVec Ideal S1x384 .f32) (r : Fin 32768) (j : Fin 384) :
    normQ v g (ix2 r j) = normed r384 (fun k => v (ix2 r k)) (fun k => g (ix2 0 k)) j := by
  rw [normed, ← mean384]
  pointwise [normQ]

theorem normK_at (v : FVec Ideal S32768x256 .f32) (g : FVec Ideal S1x256 .f32) (r : Fin 32768) (j : Fin 256) :
    normK v g (ix2 r j) = normed (Ideal.ofBits FTy.f32 0x3B800000#32) (fun k => v (ix2 r k)) (fun k => g (ix2 0 k)) j := by
  rw [normed, ← mean256]
  pointwise [normK]

theorem queries_at (l : FVec Ideal S32768x768 .f32) (g : FVec Ideal S1x384 .f32) (Q : FVec Ideal S384x1024 .bf16) (r : Fin 32768) (j : Fin 1024) :
    queries l g Q (ix2 r j) = query (fun k => l (ix2 r k)) (fun k => g (ix2 0 k)) (fun k f => Q (ix2 k f)) j := by
  have e : queries l g Q (ix2 r j) = dot (fun k => normQ (extractStridedSlice S32768x384 ![0, 0] l slices_S32768x768_S32768x384_0_0) g (ix2 r k)) fun k => Q (ix2 k j) := by
    pointwise [queries, dot]
  have h : (fun k : Fin 384 => extractStridedSlice S32768x384 ![0, 0] l slices_S32768x768_S32768x384_0_0 (ix2 r k)) = fun k => l (ix2 r ⟨k.val, by omega⟩) := by
    funext k; pointwise
  rw [e, query, ← h]
  exact congrArg (fun q => dot q _) (funext fun k => normQ_at _ g r k)

theorem keyvals_at (l : FVec Ideal S32768x768 .f32) (g : FVec Ideal S1x256 .f32) (K : FVec Ideal S256x1536 .bf16) (r : Fin 32768) (j : Fin 1536) :
    keyvals l g K (ix2 r j) = keyval (fun k => l (ix2 r k)) (fun k => g (ix2 0 k)) (fun k f => K (ix2 k f)) j := by
  have e : keyvals l g K (ix2 r j) = dot (fun k => normK (extractStridedSlice S32768x256 ![0, 384] l slices_S32768x768_S32768x256_0_384) g (ix2 r k)) fun k => K (ix2 k j) := by
    pointwise [keyvals, dot]
  have h : (fun k : Fin 256 => extractStridedSlice S32768x256 ![0, 384] l slices_S32768x768_S32768x256_0_384 (ix2 r k)) = fun k => l (ix2 r ⟨384 + k.val, by omega⟩) := by
    funext k; pointwise
  rw [e, keyval, ← h]
  exact congrArg (fun q => dot q _) (funext fun k => normK_at _ g r k)

theorem heads_at (q : FVec Ideal S32768x1024 .f32) (r : Fin 32768) (h : Fin 8) (e : Fin 128) : heads q (ix3 r h e) = q (ix2 r ⟨h.val * 128 + e.val, by omega⟩) := by
  pointwise [heads]
theorem keyHeads_at (l : FVec Ideal S32768x768 .f32) (kv : FVec Ideal S32768x1536 .f32) (r : Fin 32768) (h : Fin 8) (e : Fin 128) :
    keyHeads l kv (ix3 r h e) = kv (ix2 r ⟨h.val * 128 + e.val, by omega⟩) + l (ix2 r ⟨640 + e.val, by omega⟩) := by
  pointwise [keyHeads]
theorem table_at (c : FVec Ideal S64x16x512 .f32) (r : Fin 32768) (a : Fin 16) : table c (ix3 r 0 a) = c (ix3 ⟨r.val / 512, by omega⟩ a ⟨r.val % 512, by omega⟩) := by
  pointwise [table]
theorem unit_at (x : FVec Ideal S32768x8x128 .f32) (g : FVec Ideal S128x1 .f32) (r : Fin 32768) (h : Fin 8) (d : Fin 128) :
    unit x g (ix3 r h d) = normed r96 (fun k => x (ix3 r h k)) (fun k => g (ix2 k 0)) d := by
  rw [normed, ← mean96]
  pointwise [unit]
theorem swing_at (x : FVec Ideal S32768x8x128 .f32) (g : FVec Ideal S128x1 .f32) (c s : FVec Ideal S32768x1x16 .f32) (r : Fin 32768) (h : Fin 8) (d : Fin 128) :
    swing (unit x g) c s (ix3 r h d) = turn (fun k => x (ix3 r h k)) (fun k => g (ix2 k 0)) (fun a => c (ix3 r 0 a)) (fun a => s (ix3 r 0 a)) d := by
  rw [turn]
  simp only [← unit_at]
  generalize unit x g = n
  pointwise [swing]
theorem flat_at (z : FVec Ideal S32768x8x128 .f32) (r : Fin 32768) (j : Fin 1024) : flat z (ix2 r j) = z (ix3 r ⟨j.val / 128, by omega⟩ ⟨j.val % 128, by omega⟩) := by
  pointwise [flat]
theorem blocksQ_at (a : FVec Ideal S32768x1024 .f32) (b : Fin 64) (j : Fin 1024) (l : Fin 512) : blocksQ a (ix3 b j l) = a (ix2 ⟨b.val * 512 + l.val, by omega⟩ j) := by
  pointwise [blocksQ]
theorem blocksV_at (kv : FVec Ideal S32768x1536 .f32) (b : Fin 64) (j l : Fin 512) : blocksV kv (ix3 b j l) = kv (ix2 ⟨b.val * 512 + l.val, by omega⟩ ⟨1024 + j.val, by omega⟩) := by
  pointwise [blocksV]
theorem blocksSQ_at (s : FVec Ideal S32768x1536 .f32) (b : Fin 128) (j : Fin 512) (l : Fin 256) :
    blocksSQ s (ix3 b j l) = s (ix2 ⟨b.val * 256 + l.val, by omega⟩ ⟨j.val, by omega⟩) * Ideal.ofBits FTy.f32 0x3E000000#32 := by
  rw [← eighth]
  pointwise [blocksSQ]
theorem colsSK_at (s : FVec Ideal S32768x1536 .f32) (r : Fin 32768) (j : Fin 512) : colsSK s (ix2 r j) = s (ix2 r ⟨512 + j.val, by omega⟩) := by
  pointwise [colsSK]
theorem blocksSV_at (s : FVec Ideal S32768x1536 .f32) (b : Fin 128) (j : Fin 512) (l : Fin 256) :
    blocksSV s (ix3 b j l) = s (ix2 ⟨b.val * 256 + l.val, by omega⟩ ⟨1024 + j.val, by omega⟩) := by
  pointwise [blocksSV]

/-- The six results. -/
def resQ (x : FVec Ideal S32768x1024 .f32) (gm : FVec Ideal S1x1024 .f32) (L : FVec Ideal S1024x768 .bf16) (gq : FVec Ideal S1x384 .f32) (Q : FVec Ideal S384x1024 .bf16)
    (g : FVec Ideal S128x1 .f32) (c s : FVec Ideal S64x16x512 .f32) : FVec Ideal S64x1024x512 .bf16 :=
  blocksQ (flat (swing (unit (heads (queries (lats x gm L) gq Q)) g) (table c) (table s)))
def resK (x : FVec Ideal S32768x1024 .f32) (gm : FVec Ideal S1x1024 .f32) (L : FVec Ideal S1024x768 .bf16) (gk : FVec Ideal S1x256 .f32) (K : FVec Ideal S256x1536 .bf16)
    (g : FVec Ideal S128x1 .f32) (c s : FVec Ideal S64x16x512 .f32) : FVec Ideal S32768x1024 .bf16 :=
  truncf .bf16 (flat (swing (unit (keyHeads (lats x gm L) (keyvals (lats x gm L) gk K)) g) (table c) (table s))) bitsLt_bf16_f32
def resV (x : FVec Ideal S32768x1024 .f32) (gm : FVec Ideal S1x1024 .f32) (L : FVec Ideal S1024x768 .bf16) (gk : FVec Ideal S1x256 .f32) (K : FVec Ideal S256x1536 .bf16) :
    FVec Ideal S64x512x512 .bf16 :=
  blocksV (keyvals (lats x gm L) gk K)

section
variable (m : (ℓ : Loc nD τ sig) → Buf (Elt Ideal) ℓ) (ρ : Dev nD → PrngReg)

theorem at93 (c : Dev nD) : Value.res_main_v93 (F := Ideal) m c = resQ (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg8)) (m ((c.tc : Thread nD τ).loc main_arg10)) (m ((c.tc : Thread nD τ).loc main_arg11)) := rfl

theorem at124 (c : Dev nD) : Value.res_main_v124 (F := Ideal) m c = resK (m ((c.tc : Thread nD τ).loc main_arg0)) (m ((c.tc : Thread nD τ).loc main_arg1)) (m ((c.tc : Thread nD τ).loc main_arg2)) (m ((c.tc : Thread nD τ).loc main_arg6)) (m ((c.tc : Thread nD τ).loc main_arg7)) (m ((c.tc : Thread nD τ).loc main_arg9)) (m ((c.tc : Thread nD τ).loc main_arg10)) (m ((c.tc : Thread nD τ).loc main_arg11)) := rfl

/-- The reference's run, in stages. -/
theorem run_stages : θ_run defs (onTc (τ := τ) (main (F := Ideal))) ⟨m, fun _ => 0, ρ⟩ fun r => ∀ c : Dev nD,
      r.2.mem ((c.tc : Thread nD τ).loc main_v93) = resQ (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg8)) (m ((c.tc : Thread nD τ).loc main_arg10)) (m ((c.tc : Thread nD τ).loc main_arg11))
      ∧ r.2.mem ((c.tc : Thread nD τ).loc main_v124) = resK (m ((c.tc : Thread nD τ).loc main_arg0)) (m ((c.tc : Thread nD τ).loc main_arg1)) (m ((c.tc : Thread nD τ).loc main_arg2)) (m ((c.tc : Thread nD τ).loc main_arg6)) (m ((c.tc : Thread nD τ).loc main_arg7)) (m ((c.tc : Thread nD τ).loc main_arg9)) (m ((c.tc : Thread nD τ).loc main_arg10)) (m ((c.tc : Thread nD τ).loc main_arg11))
      ∧ r.2.mem ((c.tc : Thread nD τ).loc main_v127) = resV (m ((c.tc : Thread nD τ).loc main_arg0)) (m ((c.tc : Thread nD τ).loc main_arg1)) (m ((c.tc : Thread nD τ).loc main_arg2)) (m ((c.tc : Thread nD τ).loc main_arg6)) (m ((c.tc : Thread nD τ).loc main_arg7))
      ∧ r.2.mem ((c.tc : Thread nD τ).loc main_v132) = blocksSQ (sticks (m ((c.tc : Thread nD τ).loc main_arg0)) (m ((c.tc : Thread nD τ).loc main_arg1)) (m ((c.tc : Thread nD τ).loc main_arg3)))
      ∧ r.2.mem ((c.tc : Thread nD τ).loc main_v133) = colsSK (sticks (m ((c.tc : Thread nD τ).loc main_arg0)) (m ((c.tc : Thread nD τ).loc main_arg1)) (m ((c.tc : Thread nD τ).loc main_arg3)))
      ∧ r.2.mem ((c.tc : Thread nD τ).loc main_v136) = blocksSV (sticks (m ((c.tc : Thread nD τ).loc main_arg0)) (m ((c.tc : Thread nD τ).loc main_arg1)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c).1.trans (at93 m c), (h c).2.1.trans (at124 m c), (h c).2.2.1, (h c).2.2.2.1, (h c).2.2.2.2.1, (h c).2.2.2.2.2.1, (h c).2.2.2.2.2.2⟩) (Value.run m ρ)

theorem no_sems (s : SemLoc sig) : False := by
  rcases s with ⟨⟨_, h⟩⟩ | ⟨⟨_, h⟩⟩ <;> exact absurd h (Nat.not_lt_zero _)

theorem quiet : θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) ∧ r.2.sem = fun _ => 0 :=
  (θ_run defs _ _).mono (fun _ h => ⟨fun c => (h c).2.2.2.2.2.2, funext fun g => (no_sems g.2).elim⟩) (Value.run m ρ)
end

end Cert.Reference4Ideal.Ref

end
-- ==== Proof.ProjValue.lean ====
/-
  The projection kernel and its reference end with the same six results.
-/
module

public import proofs.«01_k».proof.Defs
public import proofs.«01_k».proof.Proof.ProjFinal
public import proofs.«01_k».proof.Proof.ProjRef
public import Idealize.ShloMosaic.Lib.StableHlo

@[expose] public section

noncomputable section

namespace Cert.ProjSame

open Idealize.ShloMosaic Idealize.ShloMosaic.TcCoe Idealize.SL.Sem Cert.Reference4Ideal Cert.Proj
open Cert.Kernel4Ideal.Tile (outQ outK outV outSQ outSK outSV latOf stickOf at512 at256)
open Cert.Reference4Ideal.Ref (resQ resK resV lats sticks queries keyvals heads keyHeads table unit swing)

variable (x : FVec Ideal S32768x1024 .f32) (gm : FVec Ideal S1x1024 .f32) (L : FVec Ideal S1024x768 .bf16) (S : FVec Ideal S1024x1536 .bf16) (gq : FVec Ideal S1x384 .f32)
  (Q : FVec Ideal S384x1024 .bf16) (gk : FVec Ideal S1x256 .f32) (K : FVec Ideal S256x1536 .bf16) (g : FVec Ideal S128x1 .f32) (c s : FVec Ideal S64x16x512 .f32)

theorem lat_row (r : Fin 32768) : (fun k => lats x gm L (ix2 r k)) = latOf x gm L r := funext fun k => Ref.lats_at x gm L r k

/-- A turned row at a column, the angle read at row `l` of block `b`. -/
theorem turned (z : FVec Ideal S32768x8x128 .f32) (v : Fin 1024 → EReal) (r : Fin 32768) (b : Fin 64) (l : Fin 512) (hb : r.val / 512 = b.val) (hl : r.val % 512 = l.val)
    (hz : ∀ (h : Fin 8) (e : Fin 128), z (ix3 r h e) = v ⟨h.val * 128 + e.val, by omega⟩) (j : Fin 1024) :
    Ref.flat (swing (unit z g) (table c) (table s)) (ix2 r j) = headOf v (fun e => g (ix2 e 0)) (fun a => c (ix3 b a l)) (fun a => s (ix3 b a l)) j := by
  have eb : b = ⟨r.val / 512, by omega⟩ := Fin.ext hb.symm
  have el : l = ⟨r.val % 512, by omega⟩ := Fin.ext hl.symm
  rw [eb, el, Ref.flat_at, Ref.swing_at, funext fun a => Ref.table_at c r a, funext fun a => Ref.table_at s r a, funext fun e => hz ⟨j.val / 128, by omega⟩ e]
  rfl

theorem sameQ : resQ x gm L gq Q g c s = outQ x gm L gq Q g c s := by
  funext y
  have key : ∀ (b : Fin 64) (j : Fin 1024) (l : Fin 512), resQ x gm L gq Q g c s (ix3 b j l) = outQ x gm L gq Q g c s (ix3 b j l) := by
    intro b j l
    rw [resQ, Ref.blocksQ_at]
    refine turned g c s _ (query (latOf x gm L (at512 b l)) (fun k => gq (ix2 0 k)) fun k f => Q (ix2 k f)) _ b l (by show (b.val * 512 + l.val) / 512 = b.val; omega) (by show (b.val * 512 + l.val) % 512 = l.val; omega) (fun h e => ?_) j
    rw [Ref.heads_at, Ref.queries_at, lat_row]
  exact (congrArg _ (eq_ix3 y)).trans ((key (y 0) (y 1) (y 2)).trans (congrArg _ (eq_ix3 y).symm))

theorem sameK : resK x gm L gk K g c s = outK x gm L gk K g c s := by
  funext y
  have key : ∀ (r : Fin 32768) (j : Fin 1024), resK x gm L gk K g c s (ix2 r j) = outK x gm L gk K g c s (ix2 r j) := by
    intro r j
    refine turned g c s _ (keys (latOf x gm L r) (fun k => gk (ix2 0 k)) fun k f => K (ix2 k f)) r ⟨r.val / 512, by omega⟩ ⟨r.val % 512, by omega⟩ rfl rfl (fun h e => ?_) j
    rw [Ref.keyHeads_at, Ref.keyvals_at, lat_row, Ref.lats_at, keys]
    have em : (⟨640 + e.val, by omega⟩ : Fin 768) = ⟨640 + (h.val * 128 + e.val) % 128, by omega⟩ := Fin.ext (by show 640 + e.val = 640 + (h.val * 128 + e.val) % 128; omega)
    rw [em]
    rfl
  exact (congrArg _ (eq_ix2 y)).trans ((key (y 0) (y 1)).trans (congrArg _ (eq_ix2 y).symm))

theorem sameV : resV x gm L gk K = outV x gm L gk K := by
  funext y
  have key : ∀ (b : Fin 64) (j l : Fin 512), resV x gm L gk K (ix3 b j l) = outV x gm L gk K (ix3 b j l) := by
    intro b j l
    have em : (⟨1024 + j.val, by omega⟩ : Fin 1536) = ⟨j.val + 1024, by omega⟩ := Fin.ext (Nat.add_comm _ _)
    rw [resV, Ref.blocksV_at, Ref.keyvals_at, lat_row, em]
    rfl
  exact (congrArg _ (eq_ix3 y)).trans ((key (y 0) (y 1) (y 2)).trans (congrArg _ (eq_ix3 y).symm))

theorem sameSQ : Ref.blocksSQ (sticks x gm S) = outSQ x gm S := by
  funext y
  have key : ∀ (b : Fin 128) (j : Fin 512) (l : Fin 256), Ref.blocksSQ (sticks x gm S) (ix3 b j l) = outSQ x gm S (ix3 b j l) := by
    intro b j l
    rw [Ref.blocksSQ_at, Ref.sticks_at]
    rfl
  exact (congrArg _ (eq_ix3 y)).trans ((key (y 0) (y 1) (y 2)).trans (congrArg _ (eq_ix3 y).symm))

theorem sameSK : Ref.colsSK (sticks x gm S) = outSK x gm S := by
  funext y
  have key : ∀ (r : Fin 32768) (j : Fin 512), Ref.colsSK (sticks x gm S) (ix2 r j) = outSK x gm S (ix2 r j) := by
    intro r j
    have em : (⟨512 + j.val, by omega⟩ : Fin 1536) = ⟨j.val + 512, by omega⟩ := Fin.ext (Nat.add_comm _ _)
    rw [Ref.colsSK_at, Ref.sticks_at, em]
    rfl
  exact (congrArg _ (eq_ix2 y)).trans ((key (y 0) (y 1)).trans (congrArg _ (eq_ix2 y).symm))

theorem sameSV : Ref.blocksSV (sticks x gm S) = outSV x gm S := by
  funext y
  have key : ∀ (b : Fin 128) (j : Fin 512) (l : Fin 256), Ref.blocksSV (sticks x gm S) (ix3 b j l) = outSV x gm S (ix3 b j l) := by
    intro b j l
    have em : (⟨1024 + j.val, by omega⟩ : Fin 1536) = ⟨j.val + 1024, by omega⟩ := Fin.ext (Nat.add_comm _ _)
    rw [Ref.blocksSV_at, Ref.sticks_at, em]
    rfl
  exact (congrArg _ (eq_ix3 y)).trans ((key (y 0) (y 1) (y 2)).trans (congrArg _ (eq_ix3 y).symm))

theorem algebraic : Cert.algebraic_Kernel4Ideal_Reference4Ideal
    (hKernel4Ideal := Cert.Kernel4Ideal.Gen.facts) (hReference4Ideal := Cert.Reference4Ideal.Gen.facts) := by
  intro m g m' g' _ hargs
  refine ⟨_, _, _, _, _, _, Cert.Kernel4Ideal.Value.run_blocks m g, ?_⟩
  refine (θ_run Cert.Reference4Ideal.defs _ _).mono (fun _ h c => ?_) (Ref.run_stages m' g')
  obtain ⟨h0, h1, h2, h3, h4, h5, h6, h7, h8, h9, h10, h11⟩ := hargs c
  obtain ⟨q, k, v, sq, sk, sv, rest⟩ := h c
  refine ⟨q.trans ((sameQ _ _ _ _ _ _ _ _).trans ?_), k.trans ((sameK _ _ _ _ _ _ _ _).trans ?_), v.trans ((sameV _ _ _ _ _).trans ?_), sq.trans ((sameSQ _ _ _).trans ?_), sk.trans ((sameSK _ _ _).trans ?_), sv.trans ((sameSV _ _ _).trans ?_), rest⟩
  · rw [h0, h1, h2, h4, h5, h8, h10, h11]
    exact (Cert.Kernel4Ideal.Tile.final12 m c).symm
  · rw [h0, h1, h2, h6, h7, h9, h10, h11]
    exact (Cert.Kernel4Ideal.Tile.final13 m c).symm
  · rw [h0, h1, h2, h6, h7]
    exact (Cert.Kernel4Ideal.Tile.final14 m c).symm
  · rw [h0, h1, h3]
    exact (Cert.Kernel4Ideal.Tile.final15 m c).symm
  · rw [h0, h1, h3]
    exact (Cert.Kernel4Ideal.Tile.final16 m c).symm
  · rw [h0, h1, h3]
    exact (Cert.Kernel4Ideal.Tile.final17 m c).symm

end Cert.ProjSame

end
-- ==== Proof.lean ====
/- The proof of the certificate's claims: the runs of both prints of the attention kernel (Proof/Launch.lean, Proof/LaunchIdeal.lean), the run of its
   reference, the named constants, and the equality of the results of the attention (Proof/Value.lean), of the feed-forward call
   (Proof/FfnValue.lean), of the merge call (Proof/MergeValue.lean) and of the projection call (Proof/ProjValue.lean). -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Launch
public import proofs.«01_k».proof.Proof.LaunchIdeal
public import proofs.«01_k».proof.Proof.RefRun
public import proofs.«01_k».proof.Proof.Value
public import proofs.«01_k».proof.Proof.FfnValue
public import proofs.«01_k».proof.Proof.MergeValue
public import proofs.«01_k».proof.Proof.ProjValue
public import Idealize.ShloMosaic.Adequacy
public import Idealize.ShloMosaic.Init

@[expose] public section

noncomputable section

namespace Cert.Proof

open Idealize.ShloMosaic Idealize.SL.Sem
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Same.preFacts,
  fun m g _ => Cert.Kernel.Mla.quiet m g, fun m g _ => Cert.KernelIdeal.Mla.quiet m g, fun m g _ => Cert.KernelIdeal.Mla.quiet m g,
  fun m g _ => Cert.ReferenceIdeal.quiet m g, fun m g _ => Cert.ReferenceIdeal.quiet m g,
  fun m g _ => Cert.Kernel2.Gen.frame m g, fun m g _ => Cert.Kernel2Ideal.Gen.frame m g, fun m g _ => Cert.Reference2Ideal.Ref.quiet m g,
  fun m g _ => Cert.Kernel3.Gen.frame m g, fun m g _ => Cert.Kernel3Ideal.Gen.frame m g, fun m g _ => Cert.Reference3Ideal.Ref.quiet m g,
  fun m g _ => Cert.Kernel4.Gen.frame m g, fun m g _ => Cert.Kernel4Ideal.Gen.frame m g, fun m g _ => Cert.Reference4Ideal.Ref.quiet m g,
  ⟨IdealRules.named_const.statement Cert.KernelIdeal.κ "mask" .f32 0xF149F2CA#32 _ rfl, IdealRules.named_const.statement Cert.KernelIdeal.κ "scale2" .f32 0x3E16C740#32 _ rfl⟩,
  @Cert.Same.algebraic Cert.Same.preFacts, trivial, Cert.FfnSame.algebraic, trivial, Cert.MergeSame.algebraic,
  ⟨IdealRules.named_const.statement Cert.Kernel4Ideal.κ "inv384" .f32 0x3B2AAAAB#32 _ rfl, IdealRules.named_const.statement Cert.Kernel4Ideal.κ "inv96" .f32 0x3C2AAAAB#32 _ rfl⟩,
  Cert.ProjSame.algebraic⟩

end Cert.Proof

end
